-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v21)) (v1 : (c : Dev Cert.Kernel2Ideal.nD) → Buf (Elt Ideal) ((c.tc : Thread Cert.Kernel2Ideal.nD Cert.Kernel2Ideal.τ).loc Cert.Kernel2Ideal.main_v8)) (v2 : (c : Dev Cert.Kernel2Ideal.nD) → Buf (Elt Ideal) ((c.tc : Thread Cert.Kernel2Ideal.nD Cert.Kernel2Ideal.τ).loc Cert.Kernel2Ideal.main_v14)) (v3 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_v14) = v2 c
          ∧ r.2.mem ((c.tc : Thread Cert.Kernel2Ideal.nD Cert.Kernel2Ideal.τ).loc Cert.Kernel2Ideal.main_v20) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_inputs.lean ====
abbrev S9216x16896 : Shape := ⟨2, ![9216, 16896]⟩
abbrev S1x4x512x512 : Shape := ⟨4, ![1, 4, 512, 512]⟩
abbrev S1x2048 : Shape := ⟨2, ![1, 2048]⟩
abbrev S1x32 : Shape := ⟨2, ![1, 32]⟩
abbrev S_ : Shape := ⟨0, ![]⟩

class Facts : Prop where
  bcast_S_S9216x16896 : S_.BroadcastsInDim S9216x16896 (![] : Fin 0 → Fin S9216x16896.rank)
  reducesTo_S9216x16896_S_d0_1 : S9216x16896.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S9216x16896 .f32) (main_arg1 : FVec F S1x4x512x512 .f32) (main_arg2 : FVec F S1x2048 .f32) (main_arg3 : FVec F S1x32 .f32) : IVec S_ 1 :=
  let main_v0 : FVec F S9216x16896 .f32 := Host.absf main_arg0
  let main_cst : FVec F S_ .f32 := constant S_ .f32 0x7F800000#32
  let main_v1 : FVec F S9216x16896 .f32 := broadcastInDim S9216x16896 ![] bcast_S_S9216x16896 main_cst
  let main_v2 : IVec S9216x16896 1 := cmpf .olt main_v0 main_v1
  let main_c : IVec S_ 1 := constantI S_ 1 1#1
  let main_v3 : IVec S_ 1 := (fun x v => Host.reduce IntOp.andi x v reducesTo_S9216x16896_S_d0_1 h_S_) main_v2 main_c
  let main_v4 : FVec F S1x32 .f32 := Host.absf main_arg3
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  main_v8
-- ==== Kernel.lean ====
abbrev S9216x16896 : Shape := ⟨2, ![9216, 16896]⟩
abbrev S1x4x512x512 : Shape := ⟨4, ![1, 4, 512, 512]⟩
abbrev S1x2048 : Shape := ⟨2, ![1, 2048]⟩
abbrev S1x32 : Shape := ⟨2, ![1, 32]⟩
abbrev S32 : Shape := ⟨1, ![32]⟩
abbrev S_ : Shape := ⟨0, ![]⟩
abbrev S4x512x512 : Shape := ⟨3, ![4, 512, 512]⟩
abbrev S2048 : Shape := ⟨1, ![2048]⟩
abbrev S9216x2048 : Shape := ⟨2, ![9216, 2048]⟩
abbrev S512x4608 : Shape := ⟨2, ![512, 4608]⟩
abbrev S128x512 : Shape := ⟨2, ![128, 512]⟩
abbrev S512x4096 : Shape := ⟨2, ![512, 4096]⟩
abbrev S16x2048 : Shape := ⟨2, ![16, 2048]⟩
abbrev S512x2048 : Shape := ⟨2, ![512, 2048]⟩
abbrev S2x4x256x1024 : Shape := ⟨4, ![2, 4, 256, 1024]⟩
abbrev S4x1x1024 : Shape := ⟨3, ![4, 1, 1024]⟩
abbrev S528x2048 : Shape := ⟨2, ![528, 2048]⟩
abbrev S512x1 : Shape := ⟨2, ![512, 1]⟩
abbrev S528x512 : Shape := ⟨2, ![528, 512]⟩
abbrev S512x512 : Shape := ⟨2, ![512, 512]⟩
abbrev S1x512x512 : Shape := ⟨3, ![1, 512, 512]⟩
abbrev S1x512 : Shape := ⟨2, ![1, 512]⟩
abbrev S256x128 : Shape := ⟨2, ![256, 128]⟩
abbrev S1 : Shape := ⟨1, ![1]⟩
abbrev S1x1x256x128 : Shape := ⟨4, ![1, 1, 256, 128]⟩
abbrev S1x128 : Shape := ⟨2, ![1, 128]⟩
abbrev S1x1x128 : Shape := ⟨3, ![1, 1, 128]⟩
abbrev S256x512 : Shape := ⟨2, ![256, 512]⟩
abbrev S256x256 : Shape := ⟨2, ![256, 256]⟩
abbrev S128x2048 : Shape := ⟨2, ![128, 2048]⟩
abbrev S128x64 : Shape := ⟨2, ![128, 64]⟩
abbrev S1024x64 : Shape := ⟨2, ![1024, 64]⟩
abbrev S256x64 : Shape := ⟨2, ![256, 64]⟩
abbrev S256x1024 : Shape := ⟨2, ![256, 1024]⟩
abbrev S1x1x256x1024 : Shape := ⟨4, ![1, 1, 256, 1024]⟩
abbrev S1x1x1024 : Shape := ⟨3, ![1, 1, 1024]⟩
abbrev S1x1024 : Shape := ⟨2, ![1, 1024]⟩
abbrev S1024 : Shape := ⟨1, ![1024]⟩
abbrev S64x256 : Shape := ⟨2, ![64, 256]⟩
abbrev S64x1024 : Shape := ⟨2, ![64, 1024]⟩
abbrev S128x1024 : Shape := ⟨2, ![128, 1024]⟩
abbrev S128x128 : Shape := ⟨2, ![128, 128]⟩
abbrev S8192x2048 : Shape := ⟨2, ![8192, 2048]⟩

abbrev nBuf : Space → Nat
  | .hbm => 26
  | .vmem => 16
  | .smem => 2
  | _ => 0

abbrev bufTy : (tb : Table) → Fin (tcTables nBuf tb) → BufTy
  | .hbm, ⟨0, _⟩ => ⟨S9216x16896, .f32⟩
  | .hbm, ⟨1, _⟩ => ⟨S1x4x512x512, .f32⟩
  | .hbm, ⟨2, _⟩ => ⟨S1x2048, .f32⟩
  | .hbm, ⟨3, _⟩ => ⟨S1x32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4x512x512, .f32⟩
  | .hbm, ⟨18, _⟩ => ⟨S4x512x512, .bf16⟩
  | .hbm, ⟨19, _⟩ => ⟨S2048, .f32⟩
  | .hbm, ⟨20, _⟩ => ⟨S1x2048, .f32⟩
  | .hbm, ⟨21, _⟩ => ⟨S32, .f32⟩
  | .hbm, ⟨22, _⟩ => ⟨S9216x2048, .bf16⟩
  | .hbm, ⟨23, _⟩ => ⟨S9216x2048, .bf16⟩
  | .hbm, ⟨24, _⟩ => ⟨S8192x2048, .bf16⟩
  | .hbm, ⟨25, _⟩ => ⟨S8192x2048, .bf16⟩
  | .local _ .vmem, ⟨0, _⟩ => ⟨S512x4608, .f32⟩
  | .local _ .vmem, ⟨1, _⟩ => ⟨S512x4608, .f32⟩
  | .local _ .vmem, ⟨2, _⟩ => ⟨S128x512, .f32⟩
  | .local _ .vmem, ⟨3, _⟩ => ⟨S128x512, .f32⟩
  | .local _ .vmem, ⟨4, _⟩ => ⟨S512x4096, .f32⟩
  | .local _ .vmem, ⟨5, _⟩ => ⟨S512x4096, .f32⟩
  | .local _ .vmem, ⟨6, _⟩ => ⟨S16x2048, .f32⟩
  | .local _ .vmem, ⟨7, _⟩ => ⟨S16x2048, .f32⟩
  | .local _ .vmem, ⟨8, _⟩ => ⟨S4x512x512, .bf16⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S2x4x256x1024, .f32⟩
  | .local _ .vmem, ⟨15, _⟩ => ⟨S4x1x1024, .f32⟩
  | .local _ .smem, ⟨0, _⟩ => ⟨S32, .f32⟩
  | .local _ .smem, ⟨1, _⟩ => ⟨S32, .f32⟩
  | _, _ => ⟨S9216x16896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 8], ![false, false]⟩

def k0_off1 (i : grid0.Coords) : Fin 4 → Nat :=
  let arg1 : BitVec 32 := BitVec.ofNat 32 (i 1).val
  let c1_i32_46 : BitVec 32 := 1#32
  let v136 : BitVec 32 := Scalar.minsi arg1 c1_i32_46
  let v163 : Index := Scalar.indexCast v136
  let c0_60 : Index := 0#32
  let c0_61 : Index := 0#32
  let c0_62 : Index := 0#32
  ![v163.toNat, 0, 0, 0]
def k0_off2 (i : grid0.Coords) : Fin 4 → Nat :=
  let arg1 : BitVec 32 := BitVec.ofNat 32 (i 1).val
  let c1_i32_46 : BitVec 32 := 1#32
  let v136 : BitVec 32 := Scalar.minsi arg1 c1_i32_46
  let v204 : Index := Scalar.indexCast v136
  let c1_78 : Index := 1#32
  let c0_79 : Index := 0#32
  let c0_80 : Index := 0#32
  ![v204.toNat, 1, 0, 0]
def k0_off3 (i : grid0.Coords) : Fin 4 → Nat :=
  let arg1 : BitVec 32 := BitVec.ofNat 32 (i 1).val
  let c1_i32_46 : BitVec 32 := 1#32
  let v136 : BitVec 32 := Scalar.minsi arg1 c1_i32_46
  let v245 : Index := Scalar.indexCast v136
  let c2_96 : Index := 2#32
  let c0_97 : Index := 0#32
  let c0_98 : Index := 0#32
  ![v245.toNat, 2, 0, 0]
def k0_off4 (i : grid0.Coords) : Fin 4 → Nat :=
  let arg1 : BitVec 32 := BitVec.ofNat 32 (i 1).val
  let c1_i32_46 : BitVec 32 := 1#32
  let v136 : BitVec 32 := Scalar.minsi arg1 c1_i32_46
  let v286 : Index := Scalar.indexCast v136
  let c3_114 : Index := 3#32
  let c0_115 : Index := 0#32
  let c0_116 : Index := 0#32
  ![v286.toNat, 3, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c512_i32 : BitVec 32 := 512#32
  let v2 : BitVec 32 := Scalar.muli v1 c512_i32
  let c4096_i32 : BitVec 32 := 4096#32
  let c0_i32 : BitVec 32 := 0#32
  ![v2.toNat, c4096_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c12_i32 : BitVec 32 := 12#32
  let c0_i32_0 : BitVec 32 := 0#32
  ![v4.toNat, c12_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S9216x16896 : Shape := ⟨2, ![9216, 16896]⟩
abbrev S1x4x512x512 : Shape := ⟨4, ![1, 4, 512, 512]⟩
abbrev S1x2048 : Shape := ⟨2, ![1, 2048]⟩
abbrev S1x32 : Shape := ⟨2, ![1, 32]⟩
abbrev S8192x16896 : Shape := ⟨2, ![8192, 16896]⟩
abbrev S2x4096x16896 : Shape := ⟨3, ![2, 4096, 16896]⟩
abbrev S2x4096x8704 : Shape := ⟨3, ![2, 4096, 8704]⟩
abbrev S2x4096x2048 : Shape := ⟨3, ![2, 4096, 2048]⟩
abbrev S2x4096x256 : Shape := ⟨3, ![2, 4096, 256]⟩
abbrev S2x4096x4x64 : Shape := ⟨4, ![2, 4096, 4, 64]⟩
abbrev S_ : Shape := ⟨0, ![]⟩
abbrev S2x15x2048 : Shape := ⟨3, ![2, 15, 2048]⟩
abbrev S2x4111x2048 : Shape := ⟨3, ![2, 4111, 2048]⟩
abbrev S4x512x512 : Shape := ⟨3, ![4, 512, 512]⟩
abbrev S2048 : Shape := ⟨1, ![2048]⟩
abbrev S2x1x2048 : Shape := ⟨3, ![2, 1, 2048]⟩
abbrev S2x4112x2048 : Shape := ⟨3, ![2, 4112, 2048]⟩
abbrev S4096 : Shape := ⟨1, ![4096]⟩
abbrev S2x4096x512 : Shape := ⟨3, ![2, 4096, 512]⟩
abbrev S1x4096x1 : Shape := ⟨3, ![1, 4096, 1]⟩
abbrev S2x4096x1x512 : Shape := ⟨4, ![2, 4096, 1, 512]⟩
abbrev S2x4096x4x512 : Shape := ⟨4, ![2, 4096, 4, 512]⟩
abbrev S4x512x2x4096 : Shape := ⟨4, ![4, 512, 2, 4096]⟩
abbrev S1x1x2048 : Shape := ⟨3, ![1, 1, 2048]⟩
abbrev S32 : Shape := ⟨1, ![32]⟩
abbrev S4x8 : Shape := ⟨2, ![4, 8]⟩
abbrev S2x32x128x4x8x64 : Shape := ⟨6, ![2, 32, 128, 4, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S2x4224x4x64 : Shape := ⟨4, ![2, 4224, 4, 64]⟩
abbrev S2x32x128x4x64 : Shape := ⟨5, ![2, 32, 128, 4, 64]⟩
abbrev S2x32x256x4x64 : Shape := ⟨5, ![2, 32, 256, 4, 64]⟩
abbrev S2x32x4x256x128x8 : Shape := ⟨6, ![2, 32, 4, 256, 128, 8]⟩
abbrev S2x32x4x8x128x256 : Shape := ⟨6, ![2, 32, 4, 8, 128, 256]⟩
abbrev S1x1x4x8x1x1 : Shape := ⟨6, ![1, 1, 4, 8, 1, 1]⟩
abbrev S1x1x1x1x128x256 : Shape := ⟨6, ![1, 1, 1, 1, 128, 256]⟩
abbrev S1x1x4x8x128x256 : Shape := ⟨6, ![1, 1, 4, 8, 128, 256]⟩
abbrev S1x32x1x1x128x256 : Shape := ⟨6, ![1, 32, 1, 1, 128, 256]⟩
abbrev S2x32x4x8x128 : Shape := ⟨5, ![2, 32, 4, 8, 128]⟩
abbrev S2x32x4x8x128x1 : Shape := ⟨6, ![2, 32, 4, 8, 128, 1]⟩
abbrev S2x32x4x64x8x128 : Shape := ⟨6, ![2, 32, 4, 64, 8, 128]⟩
abbrev S8192x2048 : Shape := ⟨2, ![8192, 2048]⟩

abbrev nBuf : Space → Nat
  | .hbm => 235
  | .vmem => 0
  | .smem => 0
  | _ => 0

abbrev hbmTy0_0 (i : Nat) : BufTy := match i % 128 with
  | 0 => ⟨S9216x16896, .f32⟩
  | 1 => ⟨S1x4x512x512, .f32⟩
  | 2 => ⟨S1x2048, .f32⟩
  | 3 => ⟨S1x32, .f32⟩
  | 4 => ⟨S8192x16896, .f32⟩
  | 5 => ⟨S2x4096x16896, .f32⟩
  | 6 => ⟨S2x4096x8704, .f32⟩
  | 7 => ⟨S2x4096x2048, .f32⟩
  | 8 => ⟨S2x4096x2048, .f32⟩
  | 9 => ⟨S2x4096x2048, .f32⟩
  | 10 => ⟨S2x4096x256, .f32⟩
  | 11 => ⟨S2x4096x256, .f32⟩
  | 12 => ⟨S2x4096x2048, .f32⟩
  | 13 => ⟨S2x4096x4x64, .f32⟩
  | 14 => ⟨S2x4096x4x64, .f32⟩
  | 15 => ⟨S_, .f32⟩
  | 16 => ⟨S2x15x2048, .f32⟩
  | 17 => ⟨S2x4111x2048, .f32⟩
  | 18 => ⟨S4x512x512, .f32⟩
  | 19 => ⟨S2048, .f32⟩
  | 20 => ⟨S_, .f32⟩
  | 21 => ⟨S2x1x2048, .f32⟩
  | 22 => ⟨S_, .f32⟩
  | 23 => ⟨S_, .f32⟩
  | 24 => ⟨S2x4111x2048, .f32⟩
  | 25 => ⟨S2x4112x2048, .f32⟩
  | 26 => ⟨S2x4096x2048, .f32⟩
  | 27 => ⟨S2x4096x2048, .f32⟩
  | 28 => ⟨S4096, .i32⟩
  | 29 => ⟨S_, .i32⟩
  | 30 => ⟨S4096, .i32⟩
  | 31 => ⟨S4096, .i32⟩
  | 32 => ⟨S2x4096x512, .f32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S4096, .f32⟩
  | 40 => ⟨S1x4096x1, .f32⟩
  | 41 => ⟨S2x4096x512, .f32⟩
  | 42 => ⟨S2x4096x512, .f32⟩
  | 43 => ⟨S2x4096x512, .f32⟩
  | 44 => ⟨S2x4096x512, .f32⟩
  | 45 => ⟨S2x4096x512, .f32⟩
  | 46 => ⟨S2x4096x512, .f32⟩
  | 47 => ⟨S2x4096x512, .f32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096, .f32⟩
  | 55 => ⟨S1x4096x1, .f32⟩
  | 56 => ⟨S2x4096x512, .f32⟩
  | 57 => ⟨S2x4096x512, .f32⟩
  | 58 => ⟨S2x4096x512, .f32⟩
  | 59 => ⟨S2x4096x512, .f32⟩
  | 60 => ⟨S2x4096x512, .f32⟩
  | 61 => ⟨S2x4096x512, .f32⟩
  | 62 => ⟨S2x4096x512, .f32⟩
  | 63 => ⟨S_, .i32⟩
  | 64 => ⟨S4096, .i32⟩
  | 65 => ⟨S4096, .i32⟩
  | 66 => ⟨S_, .i32⟩
  | 67 => ⟨S4096, .i32⟩
  | 68 => ⟨S4096, .i32⟩
  | 69 => ⟨S4096, .f32⟩
  | 70 => ⟨S1x4096x1, .f32⟩
  | 71 => ⟨S2x4096x512, .f32⟩
  | 72 => ⟨S2x4096x512, .f32⟩
  | 73 => ⟨S2x4096x512, .f32⟩
  | 74 => ⟨S2x4096x512, .f32⟩
  | 75 => ⟨S2x4096x512, .f32⟩
  | 76 => ⟨S2x4096x512, .f32⟩
  | 77 => ⟨S2x4096x512, .f32⟩
  | 78 => ⟨S_, .i32⟩
  | 79 => ⟨S4096, .i32⟩
  | 80 => ⟨S4096, .i32⟩
  | 81 => ⟨S_, .i32⟩
  | 82 => ⟨S4096, .i32⟩
  | 83 => ⟨S4096, .i32⟩
  | 84 => ⟨S4096, .f32⟩
  | 85 => ⟨S1x4096x1, .f32⟩
  | 86 => ⟨S2x4096x512, .f32⟩
  | 87 => ⟨S2x4096x512, .f32⟩
  | 88 => ⟨S2x4096x512, .f32⟩
  | 89 => ⟨S2x4096x512, .f32⟩
  | 90 => ⟨S2x4096x512, .f32⟩
  | 91 => ⟨S2x4096x512, .f32⟩
  | 92 => ⟨S2x4096x1x512, .f32⟩
  | 93 => ⟨S2x4096x1x512, .f32⟩
  | 94 => ⟨S2x4096x1x512, .f32⟩
  | 95 => ⟨S2x4096x1x512, .f32⟩
  | 96 => ⟨S2x4096x4x512, .f32⟩
  | 97 => ⟨S4x512x2x4096, .f32⟩
  | 98 => ⟨S2x4096x4x512, .f32⟩
  | 99 => ⟨S2x4096x2048, .f32⟩
  | 100 => ⟨S1x1x2048, .f32⟩
  | 101 => ⟨S2x4096x2048, .f32⟩
  | 102 => ⟨S2x4096x2048, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S4x8, .f32⟩
  | 117 => ⟨S32, .f32⟩
  | 118 => ⟨S2x32x128x4x8x64, .f32⟩
  | 119 => ⟨S128, .i32⟩
  | 120 => ⟨S128x1, .i32⟩
  | 121 => ⟨S256, .i32⟩
  | 122 => ⟨S1x256, .i32⟩
  | 123 => ⟨S_, .i32⟩
  | 124 => ⟨S128x1, .i32⟩
  | 125 => ⟨S128x1, .i32⟩
  | 126 => ⟨S128x256, .i32⟩
  | 127 => ⟨S128x256, .i32⟩
  | _ => ⟨S9216x16896, .f32⟩

abbrev hbmTy0_1 (i : Nat) : BufTy := match i % 128 with
  | 0 => ⟨S128x256, .i32⟩
  | 1 => ⟨S32, .i32⟩
  | 2 => ⟨S32x1x1, .i32⟩
  | 3 => ⟨S_, .i32⟩
  | 4 => ⟨S32x1x1, .i32⟩
  | 5 => ⟨S32x1x1, .i32⟩
  | 6 => ⟨S_, .i32⟩
  | 7 => ⟨S32x1x1, .i32⟩
  | 8 => ⟨S32x1x1, .i32⟩
  | 9 => ⟨S1x1x256, .i32⟩
  | 10 => ⟨S32x1x256, .i32⟩
  | 11 => ⟨S32x1x256, .i32⟩
  | 12 => ⟨S32x1x256, .i32⟩
  | 13 => ⟨S_, .i32⟩
  | 14 => ⟨S128x256, .i32⟩
  | 15 => ⟨S128x256, .i1⟩
  | 16 => ⟨S_, .i32⟩
  | 17 => ⟨S128x256, .i32⟩
  | 18 => ⟨S128x256, .i1⟩
  | 19 => ⟨S128x256, .i1⟩
  | 20 => ⟨S_, .i32⟩
  | 21 => ⟨S32x1x256, .i32⟩
  | 22 => ⟨S32x1x256, .i1⟩
  | 23 => ⟨S1x128x256, .i1⟩
  | 24 => ⟨S32x128x256, .i1⟩
  | 25 => ⟨S32x128x256, .i1⟩
  | 26 => ⟨S32x128x256, .i1⟩
  | 27 => ⟨S_, .i32⟩
  | 28 => ⟨S_, .f32⟩
  | 29 => ⟨S2x4224x4x64, .f32⟩
  | 30 => ⟨S2x4096x4x64, .f32⟩
  | 31 => ⟨S2x32x128x4x64, .f32⟩
  | 32 => ⟨S2x32x128x4x64, .f32⟩
  | 33 => ⟨S2x32x256x4x64, .f32⟩
  | 34 => ⟨S_, .i32⟩
  | 35 => ⟨S_, .f32⟩
  | 36 => ⟨S2x4224x4x64, .f32⟩
  | 37 => ⟨S2x4096x4x64, .f32⟩
  | 38 => ⟨S2x32x128x4x64, .f32⟩
  | 39 => ⟨S2x32x128x4x64, .f32⟩
  | 40 => ⟨S2x32x256x4x64, .f32⟩
  | 41 => ⟨S1x128x256, .i32⟩
  | 42 => ⟨S1x128x256, .f32⟩
  | 43 => ⟨S2x32x4x256x128x8, .f32⟩
  | 44 => ⟨S2x32x4x8x128x256, .f32⟩
  | 45 => ⟨S_, .f32⟩
  | 46 => ⟨S2x32x4x8x128x256, .f32⟩
  | 47 => ⟨S2x32x4x8x128x256, .f32⟩
  | 48 => ⟨S1x1x4x8x1x1, .f32⟩
  | 49 => ⟨S1x1x1x1x128x256, .f32⟩
  | 50 => ⟨S1x1x4x8x128x256, .f32⟩
  | 51 => ⟨S1x1x4x8x128x256, .f32⟩
  | 52 => ⟨S1x1x4x8x128x256, .f32⟩
  | 53 => ⟨S2x32x4x8x128x256, .f32⟩
  | 54 => ⟨S2x32x4x8x128x256, .f32⟩
  | 55 => ⟨S1x32x1x1x128x256, .i1⟩
  | 56 => ⟨S_, .f32⟩
  | 57 => ⟨S_, .f32⟩
  | 58 => ⟨S2x32x4x8x128x256, .i1⟩
  | 59 => ⟨S2x32x4x8x128x256, .f32⟩
  | 60 => ⟨S2x32x4x8x128x256, .f32⟩
  | 61 => ⟨S4x8, .f32⟩
  | 62 => ⟨S1x1x4x8x1x1, .f32⟩
  | 63 => ⟨S_, .f32⟩
  | 64 => ⟨S2x32x4x8x128, .f32⟩
  | 65 => ⟨S2x32x4x8x128x1, .f32⟩
  | 66 => ⟨S2x32x4x8x128x1, .f32⟩
  | 67 => ⟨S2x32x4x8x128x1, .f32⟩
  | 68 => ⟨S2x32x4x8x128x256, .f32⟩
  | 69 => ⟨S2x32x4x8x128x256, .f32⟩
  | 70 => ⟨S2x32x4x8x128x256, .f32⟩
  | 71 => ⟨S_, .f32⟩
  | 72 => ⟨S2x32x4x8x128, .f32⟩
  | 73 => ⟨S2x32x4x8x128x1, .f32⟩
  | 74 => ⟨S2x32x4x8x128x1, .f32⟩
  | 75 => ⟨S2x32x4x8x128x1, .f32⟩
  | 76 => ⟨S2x32x4x8x128x1, .f32⟩
  | 77 => ⟨S2x32x4x8x128x1, .f32⟩
  | 78 => ⟨S2x32x4x8x128x256, .f32⟩
  | 79 => ⟨S2x32x4x8x128x256, .f32⟩
  | 80 => ⟨S2x32x4x64x8x128, .f32⟩
  | 81 => ⟨S2x32x128x4x8x64, .f32⟩
  | 82 => ⟨S2x4096x2048, .f32⟩
  | 83 => ⟨S2x4096x2048, .f32⟩
  | 84 => ⟨S2x4096x2048, .f32⟩
  | 85 => ⟨S_, .f32⟩
  | 86 => ⟨S2x4096x2048, .f32⟩
  | 87 => ⟨S2x4096x2048, .f32⟩
  | 88 => ⟨S_, .f32⟩
  | 89 => ⟨S2x4096x2048, .f32⟩
  | 90 => ⟨S2x4096x2048, .f32⟩
  | 91 => ⟨S2x4096x2048, .f32⟩
  | 92 => ⟨S2x4096x2048, .f32⟩
  | 93 => ⟨S2x4096x2048, .f32⟩
  | 94 => ⟨S2x4096x2048, .f32⟩
  | 95 => ⟨S_, .f32⟩
  | 96 => ⟨S2x4096x2048, .f32⟩
  | 97 => ⟨S2x4096x2048, .f32⟩
  | 98 => ⟨S_, .f32⟩
  | 99 => ⟨S2x4096x2048, .f32⟩
  | 100 => ⟨S2x4096x2048, .f32⟩
  | 101 => ⟨S2x4096x2048, .f32⟩
  | 102 => ⟨S2x4096x2048, .f32⟩
  | 103 => ⟨S8192x2048, .f32⟩
  | 104 => ⟨S8192x2048, .bf16⟩
  | 105 => ⟨S8192x2048, .f32⟩
  | 106 => ⟨S8192x2048, .bf16⟩
  | _ => ⟨S9216x16896, .f32⟩

abbrev hbmTy (i : Nat) : BufTy := match i / 128 with
  | 0 => hbmTy0_0 i
  | 1 => hbmTy0_1 i
  | _ => ⟨S9216x16896, .f32⟩

abbrev bufTy : (tb : Table) → Fin (tcTables nBuf tb) → BufTy
  | .hbm, ⟨i, _⟩ => hbmTy i
  | _, _ => ⟨S9216x16896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_call0_call0_cst : Ref sig .tc := ⟨.hbm, 22, rfl⟩
abbrev main_call0_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_5 : Ref sig .tc := ⟨.hbm, 63, rfl⟩
abbrev main_v50 : Ref sig .tc := ⟨.hbm, 64, rfl⟩
abbrev main_v51 : Ref sig .tc := ⟨.hbm, 65, rfl⟩
abbrev main_c_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c_7 : Ref sig .tc := ⟨.hbm, 78, rfl⟩
abbrev main_v63 : Ref sig .tc := ⟨.hbm, 79, rfl⟩
abbrev main_v64 : Ref sig .tc := ⟨.hbm, 80, rfl⟩
abbrev main_c_8 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_9 : Ref sig .tc := ⟨.hbm, 104, rfl⟩
abbrev main_v87 : Ref sig .tc := ⟨.hbm, 105, rfl⟩
abbrev main_v88 : Ref sig .tc := ⟨.hbm, 106, rfl⟩
abbrev main_cst_10 : Ref sig .tc := ⟨.hbm, 107, rfl⟩
abbrev main_v89 : Ref sig .tc := ⟨.hbm, 108, rfl⟩
abbrev main_v90 : Ref sig .tc := ⟨.hbm, 109, rfl⟩
abbrev main_cst_11 : Ref sig .tc := ⟨.hbm, 110, rfl⟩
abbrev main_v91 : Ref sig .tc := ⟨.hbm, 111, rfl⟩
abbrev main_v92 : Ref sig .tc := ⟨.hbm, 112, rfl⟩
abbrev main_cst_12 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_c_13 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_c_14 : Ref sig .tc := ⟨.hbm, 131, rfl⟩
abbrev main_v109 : Ref sig .tc := ⟨.hbm, 132, rfl⟩
abbrev main_v110 : Ref sig .tc := ⟨.hbm, 133, rfl⟩
abbrev main_c_15 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_c_16 : Ref sig .tc := ⟨.hbm, 141, rfl⟩
abbrev main_v117 : Ref sig .tc := ⟨.hbm, 142, rfl⟩
abbrev main_v118 : Ref sig .tc := ⟨.hbm, 143, rfl⟩
abbrev main_c_17 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_c_18 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_c_19 : Ref sig .tc := ⟨.hbm, 155, rfl⟩
abbrev main_call1_v0 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_c_20 : Ref sig .tc := ⟨.hbm, 162, rfl⟩
abbrev main_call2_v0 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_cst_21 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_22 : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_cst_23 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_cst_24 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_call4_v0 : Ref sig .tc := ⟨.hbm, 211, rfl⟩
abbrev main_call4_v1 : Ref sig .tc := ⟨.hbm, 212, rfl⟩
abbrev main_call4_cst : Ref sig .tc := ⟨.hbm, 213, rfl⟩
abbrev main_call4_v2 : Ref sig .tc := ⟨.hbm, 214, rfl⟩
abbrev main_call4_v3 : Ref sig .tc := ⟨.hbm, 215, rfl⟩
abbrev main_call4_cst_0 : Ref sig .tc := ⟨.hbm, 216, rfl⟩
abbrev main_call4_v4 : Ref sig .tc := ⟨.hbm, 217, rfl⟩
abbrev main_call4_v5 : Ref sig .tc := ⟨.hbm, 218, rfl⟩
abbrev main_v173 : Ref sig .tc := ⟨.hbm, 219, rfl⟩
abbrev main_v174 : Ref sig .tc := ⟨.hbm, 220, rfl⟩
abbrev main_call5_v0 : Ref sig .tc := ⟨.hbm, 221, rfl⟩
abbrev main_call5_v1 : Ref sig .tc := ⟨.hbm, 222, rfl⟩
abbrev main_call5_cst : Ref sig .tc := ⟨.hbm, 223, rfl⟩
abbrev main_call5_v2 : Ref sig .tc := ⟨.hbm, 224, rfl⟩
abbrev main_call5_v3 : Ref sig .tc := ⟨.hbm, 225, rfl⟩
abbrev main_call5_cst_0 : Ref sig .tc := ⟨.hbm, 226, rfl⟩
abbrev main_call5_v4 : Ref sig .tc := ⟨.hbm, 227, rfl⟩
abbrev main_call5_v5 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩

abbrev nD : Nat := 1
abbrev τ : Topo := Topo.v7x

variable {F : FTy → Type} [FloatOps F]
-- ==== Kernel2.lean ====
abbrev S9216x4096 : Shape := ⟨2, ![9216, 4096]⟩
abbrev S9216x16896 : Shape := ⟨2, ![9216, 16896]⟩
abbrev S1x4096x16896 : Shape := ⟨3, ![1, 4096, 16896]⟩
abbrev S1x4096x4096 : Shape := ⟨3, ![1, 4096, 4096]⟩
abbrev S128x256x128 : Shape := ⟨3, ![128, 256, 128]⟩
abbrev S4096x16896 : Shape := ⟨2, ![4096, 16896]⟩
abbrev S4096x4096 : Shape := ⟨2, ![4096, 4096]⟩
abbrev S128x128x256 : Shape := ⟨3, ![128, 128, 256]⟩
abbrev S576x4096 : Shape := ⟨2, ![576, 4096]⟩
abbrev S256x1792 : Shape := ⟨2, ![256, 1792]⟩
abbrev S32x4096 : Shape := ⟨2, ![32, 4096]⟩
abbrev S1x256x128 : Shape := ⟨3, ![1, 256, 128]⟩
abbrev S576x1792 : Shape := ⟨2, ![576, 1792]⟩
abbrev S1x128x256 : Shape := ⟨3, ![1, 128, 256]⟩
abbrev S4096x1792 : Shape := ⟨2, ![4096, 1792]⟩
abbrev S256x128 : Shape := ⟨2, ![256, 128]⟩
abbrev S128x256 : Shape := ⟨2, ![128, 256]⟩
abbrev S2x128x256 : Shape := ⟨3, ![2, 128, 256]⟩
abbrev S1x2x128x4x64 : Shape := ⟨5, ![1, 2, 128, 4, 64]⟩
abbrev S15x2048 : Shape := ⟨2, ![15, 2048]⟩
abbrev S1x15x2048 : Shape := ⟨3, ![1, 15, 2048]⟩
abbrev S2x15x2048 : Shape := ⟨3, ![2, 15, 2048]⟩
abbrev S1x2x15x2048 : Shape := ⟨4, ![1, 2, 15, 2048]⟩
abbrev S9216x16128 : Shape := ⟨2, ![9216, 16128]⟩

abbrev nBuf : Space → Nat
  | .hbm => 31
  | .vmem => 20
  | .smem => 0
  | _ => 0

abbrev bufTy : (tb : Table) → Fin (tcTables nBuf tb) → BufTy
  | .hbm, ⟨0, _⟩ => ⟨S9216x4096, .bf16⟩
  | .hbm, ⟨1, _⟩ => ⟨S9216x16896, .f32⟩
  | .hbm, ⟨2, _⟩ => ⟨S1x4096x16896, .f32⟩
  | .hbm, ⟨3, _⟩ => ⟨S1x4096x4096, .f32⟩
  | .hbm, ⟨4, _⟩ => ⟨S128x256x128, .f32⟩
  | .hbm, ⟨5, _⟩ => ⟨S128x256x128, .f32⟩
  | .hbm, ⟨6, _⟩ => ⟨S4096x16896, .f32⟩
  | .hbm, ⟨7, _⟩ => ⟨S4096x4096, .f32⟩
  | .hbm, ⟨8, _⟩ => ⟨S9216x16896, .f32⟩
  | .hbm, ⟨9, _⟩ => ⟨S4096x4096, .bf16⟩
  | .hbm, ⟨10, _⟩ => ⟨S128x128x256, .f32⟩
  | .hbm, ⟨11, _⟩ => ⟨S128x128x256, .f32⟩
  | .hbm, ⟨12, _⟩ => ⟨S128x256, .f32⟩
  | .hbm, ⟨13, _⟩ => ⟨S128x256, .f32⟩
  | .hbm, ⟨14, _⟩ => ⟨S1x128x256, .f32⟩
  | .hbm, ⟨15, _⟩ => ⟨S1x128x256, .f32⟩
  | .hbm, ⟨16, _⟩ => ⟨S2x128x256, .f32⟩
  | .hbm, ⟨17, _⟩ => ⟨S1x2x128x4x64, .f32⟩
  | .hbm, ⟨18, _⟩ => ⟨S128x256, .f32⟩
  | .hbm, ⟨19, _⟩ => ⟨S128x256, .f32⟩
  | .hbm, ⟨20, _⟩ => ⟨S1x128x256, .f32⟩
  | .hbm, ⟨21, _⟩ => ⟨S1x128x256, .f32⟩
  | .hbm, ⟨22, _⟩ => ⟨S2x128x256, .f32⟩
  | .hbm, ⟨23, _⟩ => ⟨S1x2x128x4x64, .f32⟩
  | .hbm, ⟨24, _⟩ => ⟨S15x2048, .f32⟩
  | .hbm, ⟨25, _⟩ => ⟨S15x2048, .f32⟩
  | .hbm, ⟨26, _⟩ => ⟨S1x15x2048, .f32⟩
  | .hbm, ⟨27, _⟩ => ⟨S1x15x2048, .f32⟩
  | .hbm, ⟨28, _⟩ => ⟨S2x15x2048, .f32⟩
  | .hbm, ⟨29, _⟩ => ⟨S1x2x15x2048, .f32⟩
  | .hbm, ⟨30, _⟩ => ⟨S9216x16128, .f32⟩
  | .local _ .vmem, ⟨0, _⟩ => ⟨S576x4096, .bf16⟩
  | .local _ .vmem, ⟨1, _⟩ => ⟨S576x4096, .bf16⟩
  | .local _ .vmem, ⟨2, _⟩ => ⟨S256x1792, .f32⟩
  | .local _ .vmem, ⟨3, _⟩ => ⟨S256x1792, .f32⟩
  | .local _ .vmem, ⟨4, _⟩ => ⟨S32x4096, .f32⟩
  | .local _ .vmem, ⟨5, _⟩ => ⟨S32x4096, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S576x1792, .f32⟩
  | .local _ .vmem, ⟨11, _⟩ => ⟨S576x1792, .f32⟩
  | .local _ .vmem, ⟨12, _⟩ => ⟨S32x4096, .bf16⟩
  | .local _ .vmem, ⟨13, _⟩ => ⟨S32x4096, .bf16⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S4096x1792, .bf16⟩
  | .local _ .vmem, ⟨19, _⟩ => ⟨S4096x1792, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![10, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v52 : Index := Scalar.indexCast v1
  let c0_33 : Index := 0#32
  ![v52.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off2 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v52 : Index := Scalar.indexCast v1
  let c0_33 : Index := 0#32
  ![v52.toNat, 0]
def k0_cond3 (i : grid0.Coords) : BitVec 1 :=
  let arg0 : BitVec 32 := BitVec.ofNat 32 (i 0).val
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_14 : BitVec 32 := 1#32
  let v30 : BitVec 1 := Scalar.cmpi .eq v29 c1_i32_14
  let v31 : BitVec 32 := Scalar.extui v30
  let c0_i32_15 : BitVec 32 := 0#32
  let v32 : BitVec 1 := Scalar.cmpi .ne v31 c0_i32_15
  v32

def k0_off3 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v52 : Index := Scalar.indexCast v1
  let c0_33 : Index := 0#32
  ![v52.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .sle arg0 c8_i32
  let c15_i32 : BitVec 32 := 15#32
  let v1 : BitVec 32 := Scalar.select v0 arg1 c15_i32
  let c8_i32_0 : BitVec 32 := 8#32
  let v2 : BitVec 32 := Scalar.minsi arg0 c8_i32_0
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![v2.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S576x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S576x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S9216x4096 : Shape := ⟨2, ![9216, 4096]⟩
abbrev S9216x16896 : Shape := ⟨2, ![9216, 16896]⟩
abbrev S1x4096x16896 : Shape := ⟨3, ![1, 4096, 16896]⟩
abbrev S1x4096x4096 : Shape := ⟨3, ![1, 4096, 4096]⟩
abbrev S128x256x128 : Shape := ⟨3, ![128, 256, 128]⟩
abbrev S4096x16896 : Shape := ⟨2, ![4096, 16896]⟩
abbrev S8192x16896 : Shape := ⟨2, ![8192, 16896]⟩
abbrev S2x4096x16896 : Shape := ⟨3, ![2, 4096, 16896]⟩
abbrev S2x4096x256 : Shape := ⟨3, ![2, 4096, 256]⟩
abbrev S2x4096x4x64 : Shape := ⟨4, ![2, 4096, 4, 64]⟩
abbrev S2x4096x2048 : Shape := ⟨3, ![2, 4096, 2048]⟩
abbrev S_ : Shape := ⟨0, ![]⟩
abbrev S2x15x2048 : Shape := ⟨3, ![2, 15, 2048]⟩
abbrev S2x4111x2048 : Shape := ⟨3, ![2, 4111, 2048]⟩
abbrev S9216x16128 : Shape := ⟨2, ![9216, 16128]⟩
abbrev S2x128x4x64 : Shape := ⟨4, ![2, 128, 4, 64]⟩
abbrev S1x2x128x4x64 : Shape := ⟨5, ![1, 2, 128, 4, 64]⟩
abbrev S1x2x15x2048 : Shape := ⟨4, ![1, 2, 15, 2048]⟩

abbrev nBuf : Space → Nat
  | .hbm => 26
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S9216x16896, .f32⟩
  | .hbm, ⟨2, _⟩ => ⟨S1x4096x16896, .f32⟩
  | .hbm, ⟨3, _⟩ => ⟨S1x4096x4096, .f32⟩
  | .hbm, ⟨4, _⟩ => ⟨S128x256x128, .f32⟩
  | .hbm, ⟨5, _⟩ => ⟨S128x256x128, .f32⟩
  | .hbm, ⟨6, _⟩ => ⟨S9216x4096, .f32⟩
  | .hbm, ⟨7, _⟩ => ⟨S4096x16896, .f32⟩
  | .hbm, ⟨8, _⟩ => ⟨S9216x16896, .f32⟩
  | .hbm, ⟨9, _⟩ => ⟨S8192x16896, .f32⟩
  | .hbm, ⟨10, _⟩ => ⟨S2x4096x16896, .f32⟩
  | .hbm, ⟨11, _⟩ => ⟨S2x4096x256, .f32⟩
  | .hbm, ⟨12, _⟩ => ⟨S2x4096x4x64, .f32⟩
  | .hbm, ⟨13, _⟩ => ⟨S2x4096x256, .f32⟩
  | .hbm, ⟨14, _⟩ => ⟨S2x4096x4x64, .f32⟩
  | .hbm, ⟨15, _⟩ => ⟨S2x4096x2048, .f32⟩
  | .hbm, ⟨16, _⟩ => ⟨S_, .f32⟩
  | .hbm, ⟨17, _⟩ => ⟨S2x15x2048, .f32⟩
  | .hbm, ⟨18, _⟩ => ⟨S2x4111x2048, .f32⟩
  | .hbm, ⟨19, _⟩ => ⟨S9216x16128, .f32⟩
  | .hbm, ⟨20, _⟩ => ⟨S2x128x4x64, .f32⟩
  | .hbm, ⟨21, _⟩ => ⟨S1x2x128x4x64, .f32⟩
  | .hbm, ⟨22, _⟩ => ⟨S2x128x4x64, .f32⟩
  | .hbm, ⟨23, _⟩ => ⟨S1x2x128x4x64, .f32⟩
  | .hbm, ⟨24, _⟩ => ⟨S2x15x2048, .f32⟩
  | .hbm, ⟨25, _⟩ => ⟨S1x2x15x2048, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S9216x2048 : Shape := ⟨2, ![9216, 2048]⟩
abbrev S9216x16896 : Shape := ⟨2, ![9216, 16896]⟩
abbrev S1x2048x4096 : Shape := ⟨3, ![1, 2048, 4096]⟩
abbrev S2048x4096 : Shape := ⟨2, ![2048, 4096]⟩
abbrev S9216x4096 : Shape := ⟨2, ![9216, 4096]⟩
abbrev S576x2048 : Shape := ⟨2, ![576, 2048]⟩
abbrev S128x1024 : Shape := ⟨2, ![128, 1024]⟩
abbrev S576x1024 : Shape := ⟨2, ![576, 1024]⟩
abbrev S2048x1024 : Shape := ⟨2, ![2048, 1024]⟩
abbrev S288x2048 : Shape := ⟨2, ![288, 2048]⟩
abbrev S288x1024 : Shape := ⟨2, ![288, 1024]⟩

abbrev nBuf : Space → Nat
  | .hbm => 8
  | .vmem => 18
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S9216x16896, .f32⟩
  | .hbm, ⟨3, _⟩ => ⟨S1x2048x4096, .f32⟩
  | .hbm, ⟨4, _⟩ => ⟨S1x2048x4096, .f32⟩
  | .hbm, ⟨5, _⟩ => ⟨S2048x4096, .f32⟩
  | .hbm, ⟨6, _⟩ => ⟨S2048x4096, .f32⟩
  | .hbm, ⟨7, _⟩ => ⟨S9216x4096, .bf16⟩
  | .local _ .vmem, ⟨0, _⟩ => ⟨S576x2048, .bf16⟩
  | .local _ .vmem, ⟨1, _⟩ => ⟨S576x2048, .bf16⟩
  | .local _ .vmem, ⟨2, _⟩ => ⟨S576x2048, .bf16⟩
  | .local _ .vmem, ⟨3, _⟩ => ⟨S576x2048, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S576x1024, .f32⟩
  | .local _ .vmem, ⟨9, _⟩ => ⟨S576x1024, .f32⟩
  | .local _ .vmem, ⟨10, _⟩ => ⟨S576x1024, .f32⟩
  | .local _ .vmem, ⟨11, _⟩ => ⟨S576x1024, .f32⟩
  | .local _ .vmem, ⟨12, _⟩ => ⟨S576x1024, .bf16⟩
  | .local _ .vmem, ⟨13, _⟩ => ⟨S576x1024, .bf16⟩
  | .local _ .vmem, ⟨14, _⟩ => ⟨S2048x1024, .bf16⟩
  | .local _ .vmem, ⟨15, _⟩ => ⟨S2048x1024, .bf16⟩
  | .local _ .vmem, ⟨16, _⟩ => ⟨S2048x1024, .bf16⟩
  | .local _ .vmem, ⟨17, _⟩ => ⟨S2048x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![5, 16], ![false, false]⟩

def k0_mult1 (i : grid0.Coords) : BitVec 32 :=
  let arg0 : BitVec 32 := BitVec.ofNat 32 (i 0).val
  let c0_i32 : BitVec 32 := 0#32
  let v0 : BitVec 1 := Scalar.cmpi .sgt arg0 c0_i32
  let arg1 : BitVec 32 := BitVec.ofNat 32 (i 1).val
  let c0_i32_0 : BitVec 32 := 0#32
  let v1 : BitVec 32 := Scalar.select v0 arg1 c0_i32_0
  let c576_i32 : BitVec 32 := 576#32
  let v2 : BitVec 32 := Scalar.muli v1 c576_i32
  v2
def k0_mult2 (i : grid0.Coords) : BitVec 32 :=
  let c8704_i32 : BitVec 32 := 8704#32
  let arg0 : BitVec 32 := BitVec.ofNat 32 (i 0).val
  let c1_i32 : BitVec 32 := 1#32
  let v4 : BitVec 32 := Scalar.subi arg0 c1_i32
  let c0_i32_1 : BitVec 32 := 0#32
  let v5 : BitVec 32 := Scalar.maxsi v4 c0_i32_1
  let c1024_i32 : BitVec 32 := 1024#32
  let v6 : BitVec 32 := Scalar.muli v5 c1024_i32
  let v7 : BitVec 32 := Scalar.addi c8704_i32 v6
  v7
def k0_mult3 (i : grid0.Coords) : BitVec 32 :=
  let arg0 : BitVec 32 := BitVec.ofNat 32 (i 0).val
  let c0_i32 : BitVec 32 := 0#32
  let v0 : BitVec 1 := Scalar.cmpi .sgt arg0 c0_i32
  let arg1 : BitVec 32 := BitVec.ofNat 32 (i 1).val
  let c0_i32_0 : BitVec 32 := 0#32
  let v1 : BitVec 32 := Scalar.select v0 arg1 c0_i32_0
  let c576_i32 : BitVec 32 := 576#32
  let v2 : BitVec 32 := Scalar.muli v1 c576_i32
  v2
def k0_mult4 (i : grid0.Coords) : BitVec 32 :=
  let c12800_i32 : BitVec 32 := 12800#32
  let arg0 : BitVec 32 := BitVec.ofNat 32 (i 0).val
  let c1_i32 : BitVec 32 := 1#32
  let v4 : BitVec 32 := Scalar.subi arg0 c1_i32
  let c0_i32_1 : BitVec 32 := 0#32
  let v5 : BitVec 32 := Scalar.maxsi v4 c0_i32_1
  let c1024_i32 : BitVec 32 := 1024#32
  let v6 : BitVec 32 := Scalar.muli v5 c1024_i32
  let v7 : BitVec 32 := Scalar.addi c12800_i32 v6
  v7
def k0_mult5 (i : grid0.Coords) : BitVec 32 :=
  let arg1 : BitVec 32 := BitVec.ofNat 32 (i 1).val
  let c128_i32 : BitVec 32 := 128#32
  let v0 : BitVec 32 := Scalar.muli arg1 c128_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v36 : Index := Scalar.indexCast v1
  let c0_17 : Index := 0#32
  ![v36.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_off2 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v36 : Index := Scalar.indexCast v1
  let c0_17 : Index := 0#32
  ![v36.toNat, 0]
def k0_cond3 (i : grid0.Coords) : BitVec 1 :=
  let arg0 : BitVec 32 := BitVec.ofNat 32 (i 0).val
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_14 : BitVec 32 := 1#32
  let v30 : BitVec 1 := Scalar.cmpi .eq v29 c1_i32_14
  let v31 : BitVec 32 := Scalar.extui v30
  let c0_i32_15 : BitVec 32 := 0#32
  let v32 : BitVec 1 := Scalar.cmpi .ne v31 c0_i32_15
  v32

def k0_off3 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v36 : Index := Scalar.indexCast v1
  let c0_17 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sle arg0 c3_i32
  let c15_i32 : BitVec 32 := 15#32
  let v1 : BitVec 32 := Scalar.select v0 arg1 c15_i32
  let c3_i32_0 : BitVec 32 := 3#32
  let v2 : BitVec 32 := Scalar.minsi arg0 c3_i32_0
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sle arg0 c3_i32
  let c15_i32 : BitVec 32 := 15#32
  let v1 : BitVec 32 := Scalar.select v0 arg1 c15_i32
  let c3_i32_0 : BitVec 32 := 3#32
  let v2 : BitVec 32 := Scalar.minsi arg0 c3_i32_0
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c576_i32 : BitVec 32 := 576#32
  let v2 : BitVec 32 := Scalar.muli v1 c576_i32
  let v3 : BitVec 32 := v2
  let c1_i32 : BitVec 32 := 1#32
  let v4 : BitVec 32 := Scalar.subi arg0 c1_i32
  let c0_i32_1 : BitVec 32 := 0#32
  let v5 : BitVec 32 := Scalar.maxsi v4 c0_i32_1
  let c1024_i32 : BitVec 32 := 1024#32
  let v6 : BitVec 32 := Scalar.muli v5 c1024_i32
  let c8704_i32 : BitVec 32 := 8704#32
  let v7 : BitVec 32 := Scalar.addi c8704_i32 v6
  let v8 : BitVec 32 := v7
  let c0_i32_2 : BitVec 32 := 0#32
  ![v3.toNat, v8.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c576_i32 : BitVec 32 := 576#32
  let v2 : BitVec 32 := Scalar.muli v1 c576_i32
  let v3 : BitVec 32 := v2
  let c1_i32 : BitVec 32 := 1#32
  let v4 : BitVec 32 := Scalar.subi arg0 c1_i32
  let c0_i32_1 : BitVec 32 := 0#32
  let v5 : BitVec 32 := Scalar.maxsi v4 c0_i32_1
  let c1024_i32 : BitVec 32 := 1024#32
  let v6 : BitVec 32 := Scalar.muli v5 c1024_i32
  let c12800_i32 : BitVec 32 := 12800#32
  let v7 : BitVec 32 := Scalar.addi c12800_i32 v6
  let v8 : BitVec 32 := v7
  let c0_i32_2 : BitVec 32 := 0#32
  ![v3.toNat, v8.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S576x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S576x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S576x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S576x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S576x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S9216x2048 : Shape := ⟨2, ![9216, 2048]⟩
abbrev S9216x16896 : Shape := ⟨2, ![9216, 16896]⟩
abbrev S1x2048x4096 : Shape := ⟨3, ![1, 2048, 4096]⟩
abbrev S9216x4096 : Shape := ⟨2, ![9216, 4096]⟩
abbrev S2048x4096 : Shape := ⟨2, ![2048, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S9216x16896, .f32⟩
  | .hbm, ⟨3, _⟩ => ⟨S1x2048x4096, .f32⟩
  | .hbm, ⟨4, _⟩ => ⟨S1x2048x4096, .f32⟩
  | .hbm, ⟨5, _⟩ => ⟨S9216x4096, .f32⟩
  | .hbm, ⟨6, _⟩ => ⟨S9216x4096, .f32⟩
  | .hbm, ⟨7, _⟩ => ⟨S9216x2048, .f32⟩
  | .hbm, ⟨8, _⟩ => ⟨S2048x4096, .f32⟩
  | .hbm, ⟨9, _⟩ => ⟨S9216x4096, .f32⟩
  | .hbm, ⟨10, _⟩ => ⟨S9216x2048, .f32⟩
  | .hbm, ⟨11, _⟩ => ⟨S2048x4096, .f32⟩
  | .hbm, ⟨12, _⟩ => ⟨S9216x4096, .f32⟩
  | .hbm, ⟨13, _⟩ => ⟨S9216x4096, .f32⟩
  | .hbm, ⟨14, _⟩ => ⟨S9216x4096, .f32⟩
  | .hbm, ⟨15, _⟩ => ⟨S_, .f32⟩
  | .hbm, ⟨16, _⟩ => ⟨S9216x4096, .f32⟩
  | .hbm, ⟨17, _⟩ => ⟨S9216x4096, .f32⟩
  | .hbm, ⟨18, _⟩ => ⟨S_, .f32⟩
  | .hbm, ⟨19, _⟩ => ⟨S9216x4096, .f32⟩
  | .hbm, ⟨20, _⟩ => ⟨S9216x4096, .f32⟩
  | .hbm, ⟨21, _⟩ => ⟨S9216x4096, .f32⟩
  | .hbm, ⟨22, _⟩ => ⟨S9216x4096, .f32⟩
  | .hbm, ⟨23, _⟩ => ⟨S9216x4096, .f32⟩
  | .hbm, ⟨24, _⟩ => ⟨S_, .f32⟩
  | .hbm, ⟨25, _⟩ => ⟨S9216x4096, .f32⟩
  | .hbm, ⟨26, _⟩ => ⟨S9216x4096, .f32⟩
  | .hbm, ⟨27, _⟩ => ⟨S_, .f32⟩
  | .hbm, ⟨28, _⟩ => ⟨S9216x4096, .f32⟩
  | .hbm, ⟨29, _⟩ => ⟨S9216x4096, .f32⟩
  | .hbm, ⟨30, _⟩ => ⟨S9216x4096, .f32⟩
  | .hbm, ⟨31, _⟩ => ⟨S9216x4096, .f32⟩
  | .hbm, ⟨32, _⟩ => ⟨S9216x4096, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S9216x4096 : Shape := ⟨2, ![9216, 4096]⟩
abbrev S4096x4096 : Shape := ⟨2, ![4096, 4096]⟩
abbrev S2x4096x4096 : Shape := ⟨3, ![2, 4096, 4096]⟩
abbrev S1x4096 : Shape := ⟨2, ![1, 4096]⟩
abbrev S8192x4096 : Shape := ⟨2, ![8192, 4096]⟩
abbrev S4096 : Shape := ⟨1, ![4096]⟩
abbrev S256x4096 : Shape := ⟨2, ![256, 4096]⟩
abbrev S128x4096 : Shape := ⟨2, ![128, 4096]⟩
abbrev S8x4096 : Shape := ⟨2, ![8, 4096]⟩
abbrev S8 : Shape := ⟨1, ![8]⟩
abbrev S8x1 : Shape := ⟨2, ![8, 1]⟩

abbrev nBuf : Space → Nat
  | .hbm => 12
  | .vmem => 9
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .bf16⟩
  | .hbm, ⟨2, _⟩ => ⟨S2x4096x4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S8192x4096, .f32⟩
  | .hbm, ⟨11, _⟩ => ⟨S2x4096x4096, .f32⟩
  | .local _ .vmem, ⟨0, _⟩ => ⟨S256x4096, .bf16⟩
  | .local _ .vmem, ⟨1, _⟩ => ⟨S256x4096, .bf16⟩
  | .local _ .vmem, ⟨2, _⟩ => ⟨S4096x4096, .bf16⟩
  | .local _ .vmem, ⟨3, _⟩ => ⟨S256x4096, .f32⟩
  | .local _ .vmem, ⟨4, _⟩ => ⟨S256x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S9216x4096 : Shape := ⟨2, ![9216, 4096]⟩
abbrev S4096x4096 : Shape := ⟨2, ![4096, 4096]⟩
abbrev S2x4096x4096 : Shape := ⟨3, ![2, 4096, 4096]⟩
abbrev S1x4096 : Shape := ⟨2, ![1, 4096]⟩
abbrev S8192x4096 : Shape := ⟨2, ![8192, 4096]⟩
abbrev S_ : Shape := ⟨0, ![]⟩
abbrev S4096 : Shape := ⟨1, ![4096]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .bf16⟩
  | .hbm, ⟨2, _⟩ => ⟨S2x4096x4096, .f32⟩
  | .hbm, ⟨3, _⟩ => ⟨S1x4096, .f32⟩
  | .hbm, ⟨4, _⟩ => ⟨S1x4096, .f32⟩
  | .hbm, ⟨5, _⟩ => ⟨S8192x4096, .bf16⟩
  | .hbm, ⟨6, _⟩ => ⟨S8192x4096, .f32⟩
  | .hbm, ⟨7, _⟩ => ⟨S2x4096x4096, .f32⟩
  | .hbm, ⟨8, _⟩ => ⟨S4096x4096, .f32⟩
  | .hbm, ⟨9, _⟩ => ⟨S2x4096x4096, .f32⟩
  | .hbm, ⟨10, _⟩ => ⟨S_, .f32⟩
  | .hbm, ⟨11, _⟩ => ⟨S2x4096x4096, .f32⟩
  | .hbm, ⟨12, _⟩ => ⟨S2x4096x4096, .f32⟩
  | .hbm, ⟨13, _⟩ => ⟨S2x4096x4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x4096, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x4096, .f32⟩
  | .hbm, ⟨32, _⟩ => ⟨S2x4096x4096, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S2x4096x1, .f32⟩
  | .hbm, ⟨37, _⟩ => ⟨S2x4096x4096, .f32⟩
  | .hbm, ⟨38, _⟩ => ⟨S2x4096x4096, .f32⟩
  | .hbm, ⟨39, _⟩ => ⟨S1x1x4096, .f32⟩
  | .hbm, ⟨40, _⟩ => ⟨S2x4096x4096, .f32⟩
  | .hbm, ⟨41, _⟩ => ⟨S2x4096x4096, .f32⟩
  | .hbm, ⟨42, _⟩ => ⟨S1x1x4096, .f32⟩
  | .hbm, ⟨43, _⟩ => ⟨S2x4096x4096, .f32⟩
  | .hbm, ⟨44, _⟩ => ⟨S2x4096x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel5.lean ====
abbrev S9216x4096 : Shape := ⟨2, ![9216, 4096]⟩
abbrev S4096x4096 : Shape := ⟨2, ![4096, 4096]⟩
abbrev S128x8x4096 : Shape := ⟨3, ![128, 8, 4096]⟩
abbrev S1x4096 : Shape := ⟨2, ![1, 4096]⟩
abbrev S1024x4096 : Shape := ⟨2, ![1024, 4096]⟩
abbrev S4096 : Shape := ⟨1, ![4096]⟩
abbrev S256x4096 : Shape := ⟨2, ![256, 4096]⟩
abbrev S128x4096 : Shape := ⟨2, ![128, 4096]⟩
abbrev S8x4096 : Shape := ⟨2, ![8, 4096]⟩
abbrev S8 : Shape := ⟨1, ![8]⟩
abbrev S8x1 : Shape := ⟨2, ![8, 1]⟩

abbrev nBuf : Space → Nat
  | .hbm => 12
  | .vmem => 9
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .bf16⟩
  | .hbm, ⟨2, _⟩ => ⟨S128x8x4096, .f32⟩
  | .hbm, ⟨3, _⟩ => ⟨S1x4096, .f32⟩
  | .hbm, ⟨4, _⟩ => ⟨S1x4096, .f32⟩
  | .hbm, ⟨5, _⟩ => ⟨S1024x4096, .f32⟩
  | .hbm, ⟨6, _⟩ => ⟨S4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S1024x4096, .f32⟩
  | .hbm, ⟨11, _⟩ => ⟨S128x8x4096, .f32⟩
  | .local _ .vmem, ⟨0, _⟩ => ⟨S256x4096, .bf16⟩
  | .local _ .vmem, ⟨1, _⟩ => ⟨S256x4096, .bf16⟩
  | .local _ .vmem, ⟨2, _⟩ => ⟨S4096x4096, .bf16⟩
  | .local _ .vmem, ⟨3, _⟩ => ⟨S256x4096, .f32⟩
  | .local _ .vmem, ⟨4, _⟩ => ⟨S256x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S9216x4096 : Shape := ⟨2, ![9216, 4096]⟩
abbrev S4096x4096 : Shape := ⟨2, ![4096, 4096]⟩
abbrev S128x8x4096 : Shape := ⟨3, ![128, 8, 4096]⟩
abbrev S1x4096 : Shape := ⟨2, ![1, 4096]⟩
abbrev S1024x4096 : Shape := ⟨2, ![1024, 4096]⟩
abbrev S_ : Shape := ⟨0, ![]⟩
abbrev S4096 : Shape := ⟨1, ![4096]⟩
abbrev S128x8 : Shape := ⟨2, ![128, 8]⟩
abbrev S128x8x1 : Shape := ⟨3, ![128, 8, 1]⟩
abbrev S1x1x4096 : Shape := ⟨3, ![1, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .bf16⟩
  | .hbm, ⟨2, _⟩ => ⟨S128x8x4096, .f32⟩
  | .hbm, ⟨3, _⟩ => ⟨S1x4096, .f32⟩
  | .hbm, ⟨4, _⟩ => ⟨S1x4096, .f32⟩
  | .hbm, ⟨5, _⟩ => ⟨S1024x4096, .bf16⟩
  | .hbm, ⟨6, _⟩ => ⟨S1024x4096, .f32⟩
  | .hbm, ⟨7, _⟩ => ⟨S128x8x4096, .f32⟩
  | .hbm, ⟨8, _⟩ => ⟨S4096x4096, .f32⟩
  | .hbm, ⟨9, _⟩ => ⟨S128x8x4096, .f32⟩
  | .hbm, ⟨10, _⟩ => ⟨S_, .f32⟩
  | .hbm, ⟨11, _⟩ => ⟨S128x8x4096, .f32⟩
  | .hbm, ⟨12, _⟩ => ⟨S128x8x4096, .f32⟩
  | .hbm, ⟨13, _⟩ => ⟨S128x8x4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S128x8, .f32⟩
  | .hbm, ⟨18, _⟩ => ⟨S128x8x1, .f32⟩
  | .hbm, ⟨19, _⟩ => ⟨S_, .f32⟩
  | .hbm, ⟨20, _⟩ => ⟨S128x8x1, .f32⟩
  | .hbm, ⟨21, _⟩ => ⟨S128x8x1, .f32⟩
  | .hbm, ⟨22, _⟩ => ⟨S128x8x4096, .f32⟩
  | .hbm, ⟨23, _⟩ => ⟨S128x8x4096, .f32⟩
  | .hbm, ⟨24, _⟩ => ⟨S128x8x4096, .f32⟩
  | .hbm, ⟨25, _⟩ => ⟨S_, .f32⟩
  | .hbm, ⟨26, _⟩ => ⟨S128x8, .f32⟩
  | .hbm, ⟨27, _⟩ => ⟨S128x8x1, .f32⟩
  | .hbm, ⟨28, _⟩ => ⟨S_, .f32⟩
  | .hbm, ⟨29, _⟩ => ⟨S128x8x1, .f32⟩
  | .hbm, ⟨30, _⟩ => ⟨S128x8x1, .f32⟩
  | .hbm, ⟨31, _⟩ => ⟨S128x8x4096, .f32⟩
  | .hbm, ⟨32, _⟩ => ⟨S128x8x4096, .f32⟩
  | .hbm, ⟨33, _⟩ => ⟨S_, .f32⟩
  | .hbm, ⟨34, _⟩ => ⟨S128x8x1, .f32⟩
  | .hbm, ⟨35, _⟩ => ⟨S128x8x1, .f32⟩
  | .hbm, ⟨36, _⟩ => ⟨S128x8x1, .f32⟩
  | .hbm, ⟨37, _⟩ => ⟨S128x8x4096, .f32⟩
  | .hbm, ⟨38, _⟩ => ⟨S128x8x4096, .f32⟩
  | .hbm, ⟨39, _⟩ => ⟨S1x1x4096, .f32⟩
  | .hbm, ⟨40, _⟩ => ⟨S128x8x4096, .f32⟩
  | .hbm, ⟨41, _⟩ => ⟨S128x8x4096, .f32⟩
  | .hbm, ⟨42, _⟩ => ⟨S1x1x4096, .f32⟩
  | .hbm, ⟨43, _⟩ => ⟨S128x8x4096, .f32⟩
  | .hbm, ⟨44, _⟩ => ⟨S128x8x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.Tiles.lean ====
module

public import proofs.«01_k».proof.Proof.Gen.KernelIdeal
public import Idealize.ShloMosaic.Lib.Pipeline.FrameBody
public import Idealize.ShloMosaic.Lib.Pipeline.ReadBack
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What one grid point computes, as functions of the blocks it reads: for the attention, one tile of 128 rows by 512
columns for each of the four row blocks and four KV heads; for the pooling, one tile of 512 by 512 for each of the four
groups. `r` is a row block, `h` a KV head (and, for the gate and the result, its 512 columns), `g` a pooling group. -/

/-! ## The blocks read -/

theorem inb_rows (r : Fin 4) : ∀ a, (![128 * r.val, 0] : Fin 2 → Nat) a + S128x2048.size a ≤ S512x2048.size a := by
  revert r; decide
theorem inb_kvrows (r : Fin 4) : ∀ a, (![128 * r.val, 0] : Fin 2 → Nat) a + S128x512.size a ≤ S512x512.size a := by
  revert r; decide
theorem inb_cols (h : Fin 4) : ∀ a, (![0, 512 * h.val] : Fin 2 → Nat) a + S128x512.size a ≤ S128x2048.size a := by
  revert h; decide
theorem inb_pen (h : Fin 4) : ∀ a, (![1, h.val, 0, 0] : Fin 4 → Nat) a + S1x1x256x1024.size a ≤ S2x4x256x1024.size a := by
  revert h; decide
theorem inb_snk (h : Fin 4) : ∀ a, (![h.val, 0, 0] : Fin 3 → Nat) a + S1x1x1024.size a ≤ S4x1x1024.size a := by
  revert h; decide
theorem inb_wp (g : Fin 4) : ∀ a, (![g.val, 0, 0] : Fin 3 → Nat) a + S1x512x512.size a ≤ S4x512x512.size a := by
  revert g; decide
theorem inb_sc (g : Fin 4) : ∀ a, (![0, 512 * g.val] : Fin 2 → Nat) a + S1x512.size a ≤ S1x2048.size a := by
  revert g; decide

/-- The queries of row block `r` under KV head `h`: 128 rows of 8 heads of 64. -/
def qAt (x4 : Vec F S512x4608 .f32) (r h : Fin 4) : Vec F S128x512 .f32 := fun y =>
  x4 ((Rect.unit (s := S512x4608) ![0, 0] S512x2048.size inb_S512x4608_S512x2048_0_0).emb
    ((Rect.unit (s := S512x2048) ![128 * r.val, 0] S128x2048.size (inb_rows r)).emb
      ((Rect.unit (s := S128x2048) ![0, 512 * h.val] S128x512.size (inb_cols h)).toLoadRect.idx y)))

/-- The gate of row block `r` over KV head `h`'s 512 columns. -/
def zAt (x4 : Vec F S512x4608 .f32) (r h : Fin 4) : Vec F S128x512 .f32 := fun y =>
  x4 ((Rect.unit (s := S512x4608) ![0, 2560] S512x2048.size inb_S512x4608_S512x2048_0_2560).emb
    ((Rect.unit (s := S512x2048) ![128 * r.val, 0] S128x2048.size (inb_rows r)).emb
      ((Rect.unit (s := S128x2048) ![0, 512 * h.val] S128x512.size (inb_cols h)).toLoadRect.idx y)))

/-- The keys and values of row block `r`: 256 columns of keys, then 256 of values. -/
def kvAt (x4 : Vec F S512x4608 .f32) (r : Fin 4) : Vec F S128x512 .f32 := fun y =>
  x4 (((Rect.unit (s := S512x4608) ![0, 2048] S512x512.size inb_S512x4608_S512x512_0_2048).withinL
    (Rect.unit (s := S512x512) ![128 * r.val, 0] S128x512.size (inb_kvrows r)).toLoadRect (fun _ => rfl)).idx y)

/-- The keys and values of the 128 rows before the point's own. -/
def kvPrev (x5 : Vec F S128x512 .f32) : Vec F S128x512 .f32 := fun y =>
  x5 ((Rect.unit (s := S128x512) ![0, 0] S128x512.size inb_S128x512_S128x512_0_0).toLoadRect.idx y)

/-- KV head `h`'s penalties at the offsets `off` of the table. -/
def penAt (x12 : Vec F S2x4x256x1024 .f32) (off : Fin 4 → Nat) (hoff : ∀ a, off a + S1x1x256x1024.size a ≤ S2x4x256x1024.size a) :
    Vec F S1x1x256x1024 .f32 := fun y =>
  x12 ((Rect.unit (s := S2x4x256x1024) off S1x1x256x1024.size hoff).toLoadRect.idx y)

/-- KV head `h`'s sinks, one for each of its 8 heads' 128 query rows. -/
def snkAt (x13 : Vec F S4x1x1024 .f32) (h : Fin 4) : Vec F S1x1x1024 .f32 := fun y =>
  x13 ((Rect.unit (s := S4x1x1024) ![h.val, 0, 0] S1x1x1024.size (inb_snk h)).toLoadRect.idx y)

/-! ## The attention of one row block -/

theorem sl_k (h : Fin 4) : S256x256.Slices ![0, 64 * h.val] S256x64 := by revert h; decide
theorem sl_v (h : Fin 4) : S256x256.Slices ![64 * h.val, 0] S64x256 := by revert h; decide

/-- The keys of two row blocks, one below the other. -/
def keys (a b : Vec F S128x512 .f32) : FVec F S256x256 .bf16 :=
  truncf .bf16 (extractStridedSlice S256x256 ![0, 0]
    (concatenate S256x512 0 [⟨S128x512, a⟩, ⟨S128x512, b⟩] concatenates_S128x512_S128x512_S256x512_d0)
    slices_S256x512_o0_0_S256x256) bitsLt_bf16_f32

/-- The values of two row blocks, transposed: a column per row. -/
def valsT (a b : Vec F S128x512 .f32) : FVec F S256x256 .bf16 :=
  truncf .bf16 (transpose S256x256 [1, 0] (extractStridedSlice S256x256 ![0, 256]
    (concatenate S256x512 0 [⟨S128x512, a⟩, ⟨S128x512, b⟩] concatenates_S128x512_S128x512_S256x512_d0)
    slices_S256x512_o0_256_S256x256) transposes_S256x256_p1_0_S256x256) bitsLt_bf16_f32

/-- The queries scaled by an eighth. -/
def qScaled (q : Vec F S128x512 .f32) : FVec F S128x512 .bf16 :=
  truncf .bf16 (mulf q (broadcast S128x512 (Scalar.ofBits .f32 0x3E000000#32))) bitsLt_bf16_f32

/-- The 8 heads' queries, one head below the other. -/
def qStack (q : Vec F S128x512 .f32) : FVec F S1024x64 .bf16 :=
  concatenate S1024x64 0 [⟨S128x64, extractStridedSlice S128x64 ![0, 0] (qScaled q) slices_S128x512_o0_0_S128x64⟩, ⟨S128x64, extractStridedSlice S128x64 ![0, 64] (qScaled q) slices_S128x512_o0_64_S128x64⟩, ⟨S128x64, extractStridedSlice S128x64 ![0, 128] (qScaled q) slices_S128x512_o0_128_S128x64⟩, ⟨S128x64, extractStridedSlice S128x64 ![0, 192] (qScaled q) slices_S128x512_o0_192_S128x64⟩, ⟨S128x64, extractStridedSlice S128x64 ![0, 256] (qScaled q) slices_S128x512_o0_256_S128x64⟩, ⟨S128x64, extractStridedSlice S128x64 ![0, 320] (qScaled q) slices_S128x512_o0_320_S128x64⟩, ⟨S128x64, extractStridedSlice S128x64 ![0, 384] (qScaled q) slices_S128x512_o0_384_S128x64⟩, ⟨S128x64, extractStridedSlice S128x64 ![0, 448] (qScaled q) slices_S128x512_o0_448_S128x64⟩]
    concatenates_S128x64_S128x64_S128x64_S128x64_S128x64_S128x64_S128x64_S128x64_S1024x64_d0

/-- The logits under a KV head: a row per key, a column per head and query. -/
def logitsT (k : FVec F S256x64 .bf16) (q : Vec F S128x512 .f32) (pen : Vec F S1x1x256x1024 .f32) : FVec F S256x1024 .f32 :=
  subf (matmul dot_S256x64_S1024x64_S256x1024_1_1_0_0_n_n none k (qStack q) (constant S256x1024 .f32 0x00000000#32))
    (shapeCast S256x1024 pen shapeCasts_S1x1x256x1024_S256x1024)

/-- The sinks as a row. -/
def snkRow (snk : Vec F S1x1x1024 .f32) : FVec F S1x1024 .f32 := shapeCast S1x1024 snk shapeCasts_S1x1x1024_S1x1024

/-- Each column's largest logit, the sink among them. -/
def colMax (l : FVec F S256x1024 .f32) (s : FVec F S1x1024 .f32) : FVec F S1x1024 .f32 :=
  maximumf (shapeCast S1x1024 (multiReduction .maximumf [0] S1024 l 0xFF800000#32 reduces_S256x1024_S1024 (.inl rfl) rfl)
    shapeCasts_S1024_S1x1024) s

/-- The exponentials of the logits less their column's largest. -/
def expo (l : FVec F S256x1024 .f32) (m : FVec F S1x1024 .f32) : FVec F S256x1024 .f32 :=
  exp (subf l (broadcastTo S256x1024 m broadcasts_S1x1024_S256x1024))

/-- Each column's sum of exponentials, the sink's added. -/
def denom (p : FVec F S256x1024 .f32) (s m : FVec F S1x1024 .f32) : FVec F S1x1024 .f32 :=
  addf (shapeCast S1x1024 (multiReduction .add [0] S1024 p 0x00000000#32 reduces_S256x1024_S1024 (.inl rfl) rfl)
    shapeCasts_S1024_S1x1024) (exp (subf s m))

/-- A KV head's attention, transposed: a row per value column, a column per head and query. -/
def headT (k : FVec F S256x64 .bf16) (vT : FVec F S64x256 .bf16) (q : Vec F S128x512 .f32)
    (pen : Vec F S1x1x256x1024 .f32) (snk : Vec F S1x1x1024 .f32) : FVec F S64x1024 .f32 :=
  mulf (matmul dot_S64x256_S256x1024_S64x1024_1_0_0_1_n_n none vT
      (truncf .bf16 (expo (logitsT k q pen) (colMax (logitsT k q pen) (snkRow snk))) bitsLt_bf16_f32)
      (constant S64x1024 .f32 0x00000000#32))
    (broadcastTo S64x1024 (divf (broadcast S1x1024 (Scalar.ofBits .f32 0x3F800000#32))
      (denom (expo (logitsT k q pen) (colMax (logitsT k q pen) (snkRow snk))) (snkRow snk)
        (colMax (logitsT k q pen) (snkRow snk)))) broadcasts_S1x1024_S64x1024)

/-- KV head `h`'s attention over the two row blocks `a` and `b`. -/
def attT (a b : Vec F S128x512 .f32) (q : Vec F S128x512 .f32) (pen : Vec F S1x1x256x1024 .f32) (snk : Vec F S1x1x1024 .f32)
    (h : Fin 4) : FVec F S64x1024 .f32 :=
  headT (extractStridedSlice S256x64 ![0, 64 * h.val] (keys a b) (sl_k h))
    (extractStridedSlice S64x256 ![64 * h.val, 0] (valsT a b) (sl_v h)) q pen snk

/-- Head `c / 128` of two KV heads side by side, turned back to a row per query. -/
def turn (oA oB : FVec F S64x1024 .f32) (c : Nat) (hc : S128x1024.Slices ![0, c] S128x128) : FVec F S128x128 .f32 :=
  transpose S128x128 [1, 0] (extractStridedSlice S128x128 ![0, c]
    (concatenate S128x1024 0 [⟨S64x1024, oA⟩, ⟨S64x1024, oB⟩] concatenates_S64x1024_S64x1024_S128x1024_d0) hc)
    transposes_S128x128_p1_0_S128x128

/-- The 8 heads of one of the two KV heads, side by side: the first (`d = 0`) or the second (`d = 64`). -/
def side (oA oB : FVec F S64x1024 .f32) (d : Nat) (hd : S128x128.Slices ![0, d] S128x64) : FVec F S128x512 .f32 :=
  concatenate S128x512 1 [⟨S128x64, extractStridedSlice S128x64 ![0, d] (turn oA oB 0 slices_S128x1024_o0_0_S128x128) hd⟩, ⟨S128x64, extractStridedSlice S128x64 ![0, d] (turn oA oB 128 slices_S128x1024_o0_128_S128x128) hd⟩, ⟨S128x64, extractStridedSlice S128x64 ![0, d] (turn oA oB 256 slices_S128x1024_o0_256_S128x128) hd⟩, ⟨S128x64, extractStridedSlice S128x64 ![0, d] (turn oA oB 384 slices_S128x1024_o0_384_S128x128) hd⟩, ⟨S128x64, extractStridedSlice S128x64 ![0, d] (turn oA oB 512 slices_S128x1024_o0_512_S128x128) hd⟩, ⟨S128x64, extractStridedSlice S128x64 ![0, d] (turn oA oB 640 slices_S128x1024_o0_640_S128x128) hd⟩, ⟨S128x64, extractStridedSlice S128x64 ![0, d] (turn oA oB 768 slices_S128x1024_o0_768_S128x128) hd⟩, ⟨S128x64, extractStridedSlice S128x64 ![0, d] (turn oA oB 896 slices_S128x1024_o0_896_S128x128) hd⟩]
    concatenates_S128x64_S128x64_S128x64_S128x64_S128x64_S128x64_S128x64_S128x64_S128x512_d1

/-- A tile under its gate. -/
def gate (z o : FVec F S128x512 .f32) : Vec F S128x512 .bf16 :=
  truncf .bf16 (mulf (mulf z (logistic z)) o) bitsLt_bf16_f32

/-- Row block `r`'s gated attention under KV head `h`, from the two row blocks of keys and values and the penalties. -/
def attTile (x4 : Vec F S512x4608 .f32) (a b : Vec F S128x512 .f32) (pen : Fin 4 → Vec F S1x1x256x1024 .f32)
    (x13 : Vec F S4x1x1024 .f32) (r h : Fin 4) : Vec F S128x512 .bf16 :=
  let at' := fun h' => attT a b (qAt x4 r h') (pen h') (snkAt x13 h') h'
  gate (zAt x4 r h) (match h with
    | 0 => side (at' 0) (at' 1) 0 slices_S128x128_o0_0_S128x64
    | 1 => side (at' 0) (at' 1) 64 slices_S128x128_o0_64_S128x64
    | 2 => side (at' 2) (at' 3) 0 slices_S128x128_o0_0_S128x64
    | 3 => side (at' 2) (at' 3) 64 slices_S128x128_o0_64_S128x64)

/-- The first row block's penalties: the table's first half at a sequence's start, its second half elsewhere. -/
def penFirst (i : grid0.Coords) (x12 : Vec F S2x4x256x1024 .f32) : Fin 4 → Vec F S1x1x256x1024 .f32
  | 0 => penAt x12 (k0_off1 i) (k0_off1_inb i)
  | 1 => penAt x12 (k0_off2 i) (k0_off2_inb i)
  | 2 => penAt x12 (k0_off3 i) (k0_off3_inb i)
  | 3 => penAt x12 (k0_off4 i) (k0_off4_inb i)

/-- The other row blocks' penalties. -/
def penRest (x12 : Vec F S2x4x256x1024 .f32) (h : Fin 4) : Vec F S1x1x256x1024 .f32 :=
  penAt x12 ![1, h.val, 0, 0] (inb_pen h)

/-- Row block `r`'s tile under KV head `h`. -/
def tileB (i : grid0.Coords) (x4 : Vec F S512x4608 .f32) (x5 : Vec F S128x512 .f32) (x12 : Vec F S2x4x256x1024 .f32)
    (x13 : Vec F S4x1x1024 .f32) (r h : Fin 4) : Vec F S128x512 .bf16 :=
  match r with
  | 0 => attTile x4 (kvPrev x5) (kvAt x4 0) (penFirst i x12) x13 0 h
  | 1 => attTile x4 (kvAt x4 0) (kvAt x4 1) (penRest x12) x13 1 h
  | 2 => attTile x4 (kvAt x4 1) (kvAt x4 2) (penRest x12) x13 2 h
  | 3 => attTile x4 (kvAt x4 2) (kvAt x4 3) (penRest x12) x13 3 h

/-- The sixteen tiles of the attention's block, as the point stores them. -/
def piecesB (i : grid0.Coords) (x4 : Vec F S512x4608 .f32) (x5 : Vec F S128x512 .f32) (x12 : Vec F S2x4x256x1024 .f32)
    (x13 : Vec F S4x1x1024 .f32) : List (View.Piece (Elt F) S512x2048 .bf16) :=
  [⟨Rect.unit ![384, 1536] S128x512.size inb_S512x2048_S128x512_384_1536, tileB i x4 x5 x12 x13 3 3⟩, ⟨Rect.unit ![384, 1024] S128x512.size inb_S512x2048_S128x512_384_1024, tileB i x4 x5 x12 x13 3 2⟩, ⟨Rect.unit ![384, 512] S128x512.size inb_S512x2048_S128x512_384_512, tileB i x4 x5 x12 x13 3 1⟩, ⟨Rect.unit ![384, 0] S128x512.size inb_S512x2048_S128x512_384_0, tileB i x4 x5 x12 x13 3 0⟩, ⟨Rect.unit ![256, 1536] S128x512.size inb_S512x2048_S128x512_256_1536, tileB i x4 x5 x12 x13 2 3⟩, ⟨Rect.unit ![256, 1024] S128x512.size inb_S512x2048_S128x512_256_1024, tileB i x4 x5 x12 x13 2 2⟩, ⟨Rect.unit ![256, 512] S128x512.size inb_S512x2048_S128x512_256_512, tileB i x4 x5 x12 x13 2 1⟩, ⟨Rect.unit ![256, 0] S128x512.size inb_S512x2048_S128x512_256_0, tileB i x4 x5 x12 x13 2 0⟩, ⟨Rect.unit ![128, 1536] S128x512.size inb_S512x2048_S128x512_128_1536, tileB i x4 x5 x12 x13 1 3⟩, ⟨Rect.unit ![128, 1024] S128x512.size inb_S512x2048_S128x512_128_1024, tileB i x4 x5 x12 x13 1 2⟩, ⟨Rect.unit ![128, 512] S128x512.size inb_S512x2048_S128x512_128_512, tileB i x4 x5 x12 x13 1 1⟩, ⟨Rect.unit ![128, 0] S128x512.size inb_S512x2048_S128x512_128_0, tileB i x4 x5 x12 x13 1 0⟩, ⟨Rect.unit ![0, 1536] S128x512.size inb_S512x2048_S128x512_0_1536, tileB i x4 x5 x12 x13 0 3⟩, ⟨Rect.unit ![0, 1024] S128x512.size inb_S512x2048_S128x512_0_1024, tileB i x4 x5 x12 x13 0 2⟩, ⟨Rect.unit ![0, 512] S128x512.size inb_S512x2048_S128x512_0_512, tileB i x4 x5 x12 x13 0 1⟩, ⟨Rect.unit ![0, 0] S128x512.size inb_S512x2048_S128x512_0_0, tileB i x4 x5 x12 x13 0 0⟩]

/-! ## The pooling of one block -/

/-- The 16 rows before the block, zero at a sequence's start. -/
def halo (i : grid0.Coords) (x7 : Vec F S16x2048 .f32) : FVec F S16x2048 .f32 :=
  Scalar.select (Scalar.cmpi .eq (BitVec.ofNat 32 (i 1).val) 0#32)
    (broadcast S16x2048 (Scalar.ofBits .f32 0x00000000#32))
    (fun y => x7 ((Rect.unit (s := S16x2048) ![0, 0] S16x2048.size inb_S16x2048_S16x2048_0_0).toLoadRect.idx y))

/-- The block's inputs to the pooling. -/
def uBlk (x6 : Vec F S512x4096 .f32) : Vec F S512x2048 .f32 := fun y =>
  x6 ((Rect.unit (s := S512x4096) ![0, 0] S512x2048.size inb_S512x4096_S512x2048_0_0).toLoadRect.idx y)

/-- The block's gate of the pooling. -/
def zaBlk (x6 : Vec F S512x4096 .f32) : Vec F S512x2048 .f32 := fun y =>
  x6 ((Rect.unit (s := S512x4096) ![0, 2048] S512x2048.size inb_S512x4096_S512x2048_0_2048).toLoadRect.idx y)

/-- The rows before the block and the block, one below the other. -/
def extRows (i : grid0.Coords) (x6 : Vec F S512x4096 .f32) (x7 : Vec F S16x2048 .f32) : FVec F S528x2048 .f32 :=
  concatenate S528x2048 0 [⟨S16x2048, halo i x7⟩, ⟨S512x2048, uBlk x6⟩] concatenates_S16x2048_S512x2048_S528x2048_d0

/-- The rows' positions in their sequence. -/
def rowPos (i : grid0.Coords) : IVec S512x1 32 :=
  addi (broadcast S512x1 (Scalar.muli (BitVec.ofNat 32 (i 1).val) 512#32)) (iota .tc S512x1 32 [0] iota_S512x1_d0_w32)

/-- One doubling of a window: the rows plus the rows `k` above. -/
def dbl (k : BitVec 32) (s : FVec F S528x512 .f32) : FVec F S528x512 .f32 :=
  addf s (dynamicRotate 0 k none s rotates_S528x512_d0)

theorem sl_e (g : Fin 4) : S528x2048.Slices ![0, 512 * g.val] S528x512 := by revert g; decide
theorem sl_u (g : Fin 4) : S512x2048.Slices ![0, 512 * g.val] S512x512 := by revert g; decide

/-- The window sums of group `g`'s columns `s`: windows of 2, 4, 8 and 16 rows. -/
def winSum (s : FVec F S528x512 .f32) : Fin 4 → FVec F S528x512 .f32
  | 0 => dbl 1#32 s
  | 1 => dbl 2#32 (dbl 1#32 s)
  | 2 => dbl 4#32 (dbl 2#32 (dbl 1#32 s))
  | 3 => dbl 8#32 (dbl 4#32 (dbl 2#32 (dbl 1#32 s)))

/-- Group `g`'s window. -/
def winLen : Fin 4 → BitVec 32
  | 0 => 2#32
  | 1 => 4#32
  | 2 => 8#32
  | 3 => 16#32

/-- Group `g`'s window means less the rows themselves. -/
def pooled (i : grid0.Coords) (x6 : Vec F S512x4096 .f32) (x7 : Vec F S16x2048 .f32) (g : Fin 4) : FVec F S512x512 .bf16 :=
  truncf .bf16 (subf
    (divf (extractStridedSlice S512x512 ![16, 0]
        (winSum (extractStridedSlice S528x512 ![0, 512 * g.val] (extRows i x6 x7) (sl_e g)) g) slices_S528x512_o16_0_S512x512)
      (broadcastTo S512x512 (sitofp .f32 (minsi (broadcast S512x1 (winLen g)) (addi (rowPos i) (broadcast S512x1 1#32))))
        broadcasts_S512x1_S512x512))
    (extractStridedSlice S512x512 ![0, 512 * g.val] (uBlk x6) (sl_u g))) bitsLt_bf16_f32

/-- Group `g`'s mixed means under scale and gate. -/
def tileA (i : grid0.Coords) (x6 : Vec F S512x4096 .f32) (x7 : Vec F S16x2048 .f32) (x8 : Vec F S4x512x512 .bf16)
    (x9 : Vec F S1x2048 .f32) (g : Fin 4) : FVec F S512x512 .bf16 :=
  truncf .bf16 (mulf
    (mulf (extractStridedSlice S512x512 ![0, 512 * g.val] (zaBlk x6) (sl_u g))
      (logistic (extractStridedSlice S512x512 ![0, 512 * g.val] (zaBlk x6) (sl_u g))))
    (mulf (matmul dot_S512x512_S512x512_S512x512_1_0_0_1_n_n none (pooled i x6 x7 g)
        (shapeCast S512x512 (fun y => x8 ((Rect.unit (s := S4x512x512) ![g.val, 0, 0] S1x512x512.size (inb_wp g)).toLoadRect.idx y) : Vec F S1x512x512 .bf16)
          shapeCasts_S1x512x512_S512x512) (constant S512x512 .f32 0x00000000#32))
      (broadcastTo S512x512 (shapeCast S1x512 (fun y => x9 ((Rect.unit (s := S1x2048) ![0, 512 * g.val] S1x512.size (inb_sc g)).toLoadRect.idx y) : Vec F S1x512 .f32)
        shapeCasts_S1x512_S1x512) broadcasts_S1x512_S512x512))) bitsLt_bf16_f32

/-- The four tiles of the pooling's block, as the point stores them. -/
def piecesA (i : grid0.Coords) (x6 : Vec F S512x4096 .f32) (x7 : Vec F S16x2048 .f32) (x8 : Vec F S4x512x512 .bf16)
    (x9 : Vec F S1x2048 .f32) : List (View.Piece (Elt F) S512x2048 .bf16) :=
  [⟨Rect.unit ![0, 1536] S512x512.size inb_S512x2048_S512x512_0_1536, tileA i x6 x7 x8 x9 3⟩, ⟨Rect.unit ![0, 1024] S512x512.size inb_S512x2048_S512x512_0_1024, tileA i x6 x7 x8 x9 2⟩, ⟨Rect.unit ![0, 512] S512x512.size inb_S512x2048_S512x512_0_512, tileA i x6 x7 x8 x9 1⟩, ⟨Rect.unit ![0, 0] S512x512.size inb_S512x2048_S512x512_0_0, tileA i x6 x7 x8 x9 0⟩]

/-! ## The tables of penalties and sinks -/

/-- A query's distance to a key: a row per key, a column per query. -/
def distT : IVec S256x128 32 :=
  subi (addi (broadcast S256x128 128#32) (iota .tc S256x128 32 [1] iota_S256x128_d1_w32)) (iota .tc S256x128 32 [0] iota_S256x128_d0_w32)

/-- Where a query sees a key, `base` added to the key's row being its place in the sequence. -/
def seen (base : BitVec 32) : IVec S256x128 1 :=
  andi (andi (cmpi .sge distT (broadcast S256x128 0#32)) (cmpi .slt distT (broadcast S256x128 128#32)))
    (cmpi .sge (addi (broadcast S256x128 base) (iota .tc S256x128 32 [0] iota_S256x128_d0_w32)) (broadcast S256x128 0#32))

/-- One head's penalties, its slope `s`. -/
def penTile (base : BitVec 32) (s : Elt F .f32) : FVec F S1x1x256x128 .f32 :=
  shapeCast S1x1x256x128 (select (seen base) (mulf (broadcast S256x128 s) (sitofp .f32 distT))
    (broadcast S256x128 (Scalar.ofBits .f32 0x7F800000#32))) shapeCasts_S256x128_S1x1x256x128

/-- One head's sinks. -/
def snkTile (s : Elt F .f32) : FVec F S1x1x128 .f32 :=
  shapeCast S1x1x128 (broadcast S1x128 s : FVec F S1x128 .f32) shapeCasts_S1x128_S1x1x128

theorem inb_scal (n : Fin 32) : ∀ a, (![n.val] : Fin 1 → Nat) a + S1.size a ≤ S32.size a := by revert n; decide

/-- Entry `n` of 32. -/
def scalAt (x : Vec F S32 .f32) (n : Fin 32) : Elt F .f32 :=
  x ((Rect.unit (s := S32) ![n.val] S1.size (inb_scal n)).emb (Shape.Idx.first (numel1_S1.symm ▸ Nat.one_pos)))

set_option maxRecDepth 65536 in
/-- The table of penalties' 64 tiles: a sequence's start (where the rows before it are masked), then elsewhere. -/
def piecesPen (x2 : Vec F S32 .f32) : List (View.Piece (Elt F) S2x4x256x1024 .f32) :=
  [⟨Rect.unit ![1, 3, 0, 896] S1x1x256x128.size inb_S2x4x256x1024_S1x1x256x128_1_3_0_896, penTile 0#32 (scalAt x2 31)⟩, ⟨Rect.unit ![1, 3, 0, 768] S1x1x256x128.size inb_S2x4x256x1024_S1x1x256x128_1_3_0_768, penTile 0#32 (scalAt x2 30)⟩, ⟨Rect.unit ![1, 3, 0, 640] S1x1x256x128.size inb_S2x4x256x1024_S1x1x256x128_1_3_0_640, penTile 0#32 (scalAt x2 29)⟩, ⟨Rect.unit ![1, 3, 0, 512] S1x1x256x128.size inb_S2x4x256x1024_S1x1x256x128_1_3_0_512, penTile 0#32 (scalAt x2 28)⟩, ⟨Rect.unit ![1, 3, 0, 384] S1x1x256x128.size inb_S2x4x256x1024_S1x1x256x128_1_3_0_384, penTile 0#32 (scalAt x2 27)⟩, ⟨Rect.unit ![1, 3, 0, 256] S1x1x256x128.size inb_S2x4x256x1024_S1x1x256x128_1_3_0_256, penTile 0#32 (scalAt x2 26)⟩, ⟨Rect.unit ![1, 3, 0, 128] S1x1x256x128.size inb_S2x4x256x1024_S1x1x256x128_1_3_0_128, penTile 0#32 (scalAt x2 25)⟩, ⟨Rect.unit ![1, 3, 0, 0] S1x1x256x128.size inb_S2x4x256x1024_S1x1x256x128_1_3_0_0, penTile 0#32 (scalAt x2 24)⟩, ⟨Rect.unit ![1, 2, 0, 896] S1x1x256x128.size inb_S2x4x256x1024_S1x1x256x128_1_2_0_896, penTile 0#32 (scalAt x2 23)⟩, ⟨Rect.unit ![1, 2, 0, 768] S1x1x256x128.size inb_S2x4x256x1024_S1x1x256x128_1_2_0_768, penTile 0#32 (scalAt x2 22)⟩, ⟨Rect.unit ![1, 2, 0, 640] S1x1x256x128.size inb_S2x4x256x1024_S1x1x256x128_1_2_0_640, penTile 0#32 (scalAt x2 21)⟩, ⟨Rect.unit ![1, 2, 0, 512] S1x1x256x128.size inb_S2x4x256x1024_S1x1x256x128_1_2_0_512, penTile 0#32 (scalAt x2 20)⟩, ⟨Rect.unit ![1, 2, 0, 384] S1x1x256x128.size inb_S2x4x256x1024_S1x1x256x128_1_2_0_384, penTile 0#32 (scalAt x2 19)⟩, ⟨Rect.unit ![1, 2, 0, 256] S1x1x256x128.size inb_S2x4x256x1024_S1x1x256x128_1_2_0_256, penTile 0#32 (scalAt x2 18)⟩, ⟨Rect.unit ![1, 2, 0, 128] S1x1x256x128.size inb_S2x4x256x1024_S1x1x256x128_1_2_0_128, penTile 0#32 (scalAt x2 17)⟩, ⟨Rect.unit ![1, 2, 0, 0] S1x1x256x128.size inb_S2x4x256x1024_S1x1x256x128_1_2_0_0, penTile 0#32 (scalAt x2 16)⟩, ⟨Rect.unit ![1, 1, 0, 896] S1x1x256x128.size inb_S2x4x256x1024_S1x1x256x128_1_1_0_896, penTile 0#32 (scalAt x2 15)⟩, ⟨Rect.unit ![1, 1, 0, 768] S1x1x256x128.size inb_S2x4x256x1024_S1x1x256x128_1_1_0_768, penTile 0#32 (scalAt x2 14)⟩, ⟨Rect.unit ![1, 1, 0, 640] S1x1x256x128.size inb_S2x4x256x1024_S1x1x256x128_1_1_0_640, penTile 0#32 (scalAt x2 13)⟩, ⟨Rect.unit ![1, 1, 0, 512] S1x1x256x128.size inb_S2x4x256x1024_S1x1x256x128_1_1_0_512, penTile 0#32 (scalAt x2 12)⟩, ⟨Rect.unit ![1, 1, 0, 384] S1x1x256x128.size inb_S2x4x256x1024_S1x1x256x128_1_1_0_384, penTile 0#32 (scalAt x2 11)⟩, ⟨Rect.unit ![1, 1, 0, 256] S1x1x256x128.size inb_S2x4x256x1024_S1x1x256x128_1_1_0_256, penTile 0#32 (scalAt x2 10)⟩, ⟨Rect.unit ![1, 1, 0, 128] S1x1x256x128.size inb_S2x4x256x1024_S1x1x256x128_1_1_0_128, penTile 0#32 (scalAt x2 9)⟩, ⟨Rect.unit ![1, 1, 0, 0] S1x1x256x128.size inb_S2x4x256x1024_S1x1x256x128_1_1_0_0, penTile 0#32 (scalAt x2 8)⟩, ⟨Rect.unit ![1, 0, 0, 896] S1x1x256x128.size inb_S2x4x256x1024_S1x1x256x128_1_0_0_896, penTile 0#32 (scalAt x2 7)⟩, ⟨Rect.unit ![1, 0, 0, 768] S1x1x256x128.size inb_S2x4x256x1024_S1x1x256x128_1_0_0_768, penTile 0#32 (scalAt x2 6)⟩, ⟨Rect.unit ![1, 0, 0, 640] S1x1x256x128.size inb_S2x4x256x1024_S1x1x256x128_1_0_0_640, penTile 0#32 (scalAt x2 5)⟩, ⟨Rect.unit ![1, 0, 0, 512] S1x1x256x128.size inb_S2x4x256x1024_S1x1x256x128_1_0_0_512, penTile 0#32 (scalAt x2 4)⟩, ⟨Rect.unit ![1, 0, 0, 384] S1x1x256x128.size inb_S2x4x256x1024_S1x1x256x128_1_0_0_384, penTile 0#32 (scalAt x2 3)⟩, ⟨Rect.unit ![1, 0, 0, 256] S1x1x256x128.size inb_S2x4x256x1024_S1x1x256x128_1_0_0_256, penTile 0#32 (scalAt x2 2)⟩, ⟨Rect.unit ![1, 0, 0, 128] S1x1x256x128.size inb_S2x4x256x1024_S1x1x256x128_1_0_0_128, penTile 0#32 (scalAt x2 1)⟩, ⟨Rect.unit ![1, 0, 0, 0] S1x1x256x128.size inb_S2x4x256x1024_S1x1x256x128_1_0_0_0, penTile 0#32 (scalAt x2 0)⟩, ⟨Rect.unit ![0, 3, 0, 896] S1x1x256x128.size inb_S2x4x256x1024_S1x1x256x128_0_3_0_896, penTile 4294967168#32 (scalAt x2 31)⟩, ⟨Rect.unit ![0, 3, 0, 768] S1x1x256x128.size inb_S2x4x256x1024_S1x1x256x128_0_3_0_768, penTile 4294967168#32 (scalAt x2 30)⟩, ⟨Rect.unit ![0, 3, 0, 640] S1x1x256x128.size inb_S2x4x256x1024_S1x1x256x128_0_3_0_640, penTile 4294967168#32 (scalAt x2 29)⟩, ⟨Rect.unit ![0, 3, 0, 512] S1x1x256x128.size inb_S2x4x256x1024_S1x1x256x128_0_3_0_512, penTile 4294967168#32 (scalAt x2 28)⟩, ⟨Rect.unit ![0, 3, 0, 384] S1x1x256x128.size inb_S2x4x256x1024_S1x1x256x128_0_3_0_384, penTile 4294967168#32 (scalAt x2 27)⟩, ⟨Rect.unit ![0, 3, 0, 256] S1x1x256x128.size inb_S2x4x256x1024_S1x1x256x128_0_3_0_256, penTile 4294967168#32 (scalAt x2 26)⟩, ⟨Rect.unit ![0, 3, 0, 128] S1x1x256x128.size inb_S2x4x256x1024_S1x1x256x128_0_3_0_128, penTile 4294967168#32 (scalAt x2 25)⟩, ⟨Rect.unit ![0, 3, 0, 0] S1x1x256x128.size inb_S2x4x256x1024_S1x1x256x128_0_3_0_0, penTile 4294967168#32 (scalAt x2 24)⟩, ⟨Rect.unit ![0, 2, 0, 896] S1x1x256x128.size inb_S2x4x256x1024_S1x1x256x128_0_2_0_896, penTile 4294967168#32 (scalAt x2 23)⟩, ⟨Rect.unit ![0, 2, 0, 768] S1x1x256x128.size inb_S2x4x256x1024_S1x1x256x128_0_2_0_768, penTile 4294967168#32 (scalAt x2 22)⟩, ⟨Rect.unit ![0, 2, 0, 640] S1x1x256x128.size inb_S2x4x256x1024_S1x1x256x128_0_2_0_640, penTile 4294967168#32 (scalAt x2 21)⟩, ⟨Rect.unit ![0, 2, 0, 512] S1x1x256x128.size inb_S2x4x256x1024_S1x1x256x128_0_2_0_512, penTile 4294967168#32 (scalAt x2 20)⟩, ⟨Rect.unit ![0, 2, 0, 384] S1x1x256x128.size inb_S2x4x256x1024_S1x1x256x128_0_2_0_384, penTile 4294967168#32 (scalAt x2 19)⟩, ⟨Rect.unit ![0, 2, 0, 256] S1x1x256x128.size inb_S2x4x256x1024_S1x1x256x128_0_2_0_256, penTile 4294967168#32 (scalAt x2 18)⟩, ⟨Rect.unit ![0, 2, 0, 128] S1x1x256x128.size inb_S2x4x256x1024_S1x1x256x128_0_2_0_128, penTile 4294967168#32 (scalAt x2 17)⟩, ⟨Rect.unit ![0, 2, 0, 0] S1x1x256x128.size inb_S2x4x256x1024_S1x1x256x128_0_2_0_0, penTile 4294967168#32 (scalAt x2 16)⟩, ⟨Rect.unit ![0, 1, 0, 896] S1x1x256x128.size inb_S2x4x256x1024_S1x1x256x128_0_1_0_896, penTile 4294967168#32 (scalAt x2 15)⟩, ⟨Rect.unit ![0, 1, 0, 768] S1x1x256x128.size inb_S2x4x256x1024_S1x1x256x128_0_1_0_768, penTile 4294967168#32 (scalAt x2 14)⟩, ⟨Rect.unit ![0, 1, 0, 640] S1x1x256x128.size inb_S2x4x256x1024_S1x1x256x128_0_1_0_640, penTile 4294967168#32 (scalAt x2 13)⟩, ⟨Rect.unit ![0, 1, 0, 512] S1x1x256x128.size inb_S2x4x256x1024_S1x1x256x128_0_1_0_512, penTile 4294967168#32 (scalAt x2 12)⟩, ⟨Rect.unit ![0, 1, 0, 384] S1x1x256x128.size inb_S2x4x256x1024_S1x1x256x128_0_1_0_384, penTile 4294967168#32 (scalAt x2 11)⟩, ⟨Rect.unit ![0, 1, 0, 256] S1x1x256x128.size inb_S2x4x256x1024_S1x1x256x128_0_1_0_256, penTile 4294967168#32 (scalAt x2 10)⟩, ⟨Rect.unit ![0, 1, 0, 128] S1x1x256x128.size inb_S2x4x256x1024_S1x1x256x128_0_1_0_128, penTile 4294967168#32 (scalAt x2 9)⟩, ⟨Rect.unit ![0, 1, 0, 0] S1x1x256x128.size inb_S2x4x256x1024_S1x1x256x128_0_1_0_0, penTile 4294967168#32 (scalAt x2 8)⟩, ⟨Rect.unit ![0, 0, 0, 896] S1x1x256x128.size inb_S2x4x256x1024_S1x1x256x128_0_0_0_896, penTile 4294967168#32 (scalAt x2 7)⟩, ⟨Rect.unit ![0, 0, 0, 768] S1x1x256x128.size inb_S2x4x256x1024_S1x1x256x128_0_0_0_768, penTile 4294967168#32 (scalAt x2 6)⟩, ⟨Rect.unit ![0, 0, 0, 640] S1x1x256x128.size inb_S2x4x256x1024_S1x1x256x128_0_0_0_640, penTile 4294967168#32 (scalAt x2 5)⟩, ⟨Rect.unit ![0, 0, 0, 512] S1x1x256x128.size inb_S2x4x256x1024_S1x1x256x128_0_0_0_512, penTile 4294967168#32 (scalAt x2 4)⟩, ⟨Rect.unit ![0, 0, 0, 384] S1x1x256x128.size inb_S2x4x256x1024_S1x1x256x128_0_0_0_384, penTile 4294967168#32 (scalAt x2 3)⟩, ⟨Rect.unit ![0, 0, 0, 256] S1x1x256x128.size inb_S2x4x256x1024_S1x1x256x128_0_0_0_256, penTile 4294967168#32 (scalAt x2 2)⟩, ⟨Rect.unit ![0, 0, 0, 128] S1x1x256x128.size inb_S2x4x256x1024_S1x1x256x128_0_0_0_128, penTile 4294967168#32 (scalAt x2 1)⟩, ⟨Rect.unit ![0, 0, 0, 0] S1x1x256x128.size inb_S2x4x256x1024_S1x1x256x128_0_0_0_0, penTile 4294967168#32 (scalAt x2 0)⟩]

/-- The table of sinks' 32 tiles. -/
def piecesSnk (x3 : Vec F S32 .f32) : List (View.Piece (Elt F) S4x1x1024 .f32) :=
  [⟨Rect.unit ![3, 0, 896] S1x1x128.size inb_S4x1x1024_S1x1x128_3_0_896, snkTile (scalAt x3 31)⟩, ⟨Rect.unit ![3, 0, 768] S1x1x128.size inb_S4x1x1024_S1x1x128_3_0_768, snkTile (scalAt x3 30)⟩, ⟨Rect.unit ![3, 0, 640] S1x1x128.size inb_S4x1x1024_S1x1x128_3_0_640, snkTile (scalAt x3 29)⟩, ⟨Rect.unit ![3, 0, 512] S1x1x128.size inb_S4x1x1024_S1x1x128_3_0_512, snkTile (scalAt x3 28)⟩, ⟨Rect.unit ![3, 0, 384] S1x1x128.size inb_S4x1x1024_S1x1x128_3_0_384, snkTile (scalAt x3 27)⟩, ⟨Rect.unit ![3, 0, 256] S1x1x128.size inb_S4x1x1024_S1x1x128_3_0_256, snkTile (scalAt x3 26)⟩, ⟨Rect.unit ![3, 0, 128] S1x1x128.size inb_S4x1x1024_S1x1x128_3_0_128, snkTile (scalAt x3 25)⟩, ⟨Rect.unit ![3, 0, 0] S1x1x128.size inb_S4x1x1024_S1x1x128_3_0_0, snkTile (scalAt x3 24)⟩, ⟨Rect.unit ![2, 0, 896] S1x1x128.size inb_S4x1x1024_S1x1x128_2_0_896, snkTile (scalAt x3 23)⟩, ⟨Rect.unit ![2, 0, 768] S1x1x128.size inb_S4x1x1024_S1x1x128_2_0_768, snkTile (scalAt x3 22)⟩, ⟨Rect.unit ![2, 0, 640] S1x1x128.size inb_S4x1x1024_S1x1x128_2_0_640, snkTile (scalAt x3 21)⟩, ⟨Rect.unit ![2, 0, 512] S1x1x128.size inb_S4x1x1024_S1x1x128_2_0_512, snkTile (scalAt x3 20)⟩, ⟨Rect.unit ![2, 0, 384] S1x1x128.size inb_S4x1x1024_S1x1x128_2_0_384, snkTile (scalAt x3 19)⟩, ⟨Rect.unit ![2, 0, 256] S1x1x128.size inb_S4x1x1024_S1x1x128_2_0_256, snkTile (scalAt x3 18)⟩, ⟨Rect.unit ![2, 0, 128] S1x1x128.size inb_S4x1x1024_S1x1x128_2_0_128, snkTile (scalAt x3 17)⟩, ⟨Rect.unit ![2, 0, 0] S1x1x128.size inb_S4x1x1024_S1x1x128_2_0_0, snkTile (scalAt x3 16)⟩, ⟨Rect.unit ![1, 0, 896] S1x1x128.size inb_S4x1x1024_S1x1x128_1_0_896, snkTile (scalAt x3 15)⟩, ⟨Rect.unit ![1, 0, 768] S1x1x128.size inb_S4x1x1024_S1x1x128_1_0_768, snkTile (scalAt x3 14)⟩, ⟨Rect.unit ![1, 0, 640] S1x1x128.size inb_S4x1x1024_S1x1x128_1_0_640, snkTile (scalAt x3 13)⟩, ⟨Rect.unit ![1, 0, 512] S1x1x128.size inb_S4x1x1024_S1x1x128_1_0_512, snkTile (scalAt x3 12)⟩, ⟨Rect.unit ![1, 0, 384] S1x1x128.size inb_S4x1x1024_S1x1x128_1_0_384, snkTile (scalAt x3 11)⟩, ⟨Rect.unit ![1, 0, 256] S1x1x128.size inb_S4x1x1024_S1x1x128_1_0_256, snkTile (scalAt x3 10)⟩, ⟨Rect.unit ![1, 0, 128] S1x1x128.size inb_S4x1x1024_S1x1x128_1_0_128, snkTile (scalAt x3 9)⟩, ⟨Rect.unit ![1, 0, 0] S1x1x128.size inb_S4x1x1024_S1x1x128_1_0_0, snkTile (scalAt x3 8)⟩, ⟨Rect.unit ![0, 0, 896] S1x1x128.size inb_S4x1x1024_S1x1x128_0_0_896, snkTile (scalAt x3 7)⟩, ⟨Rect.unit ![0, 0, 768] S1x1x128.size inb_S4x1x1024_S1x1x128_0_0_768, snkTile (scalAt x3 6)⟩, ⟨Rect.unit ![0, 0, 640] S1x1x128.size inb_S4x1x1024_S1x1x128_0_0_640, snkTile (scalAt x3 5)⟩, ⟨Rect.unit ![0, 0, 512] S1x1x128.size inb_S4x1x1024_S1x1x128_0_0_512, snkTile (scalAt x3 4)⟩, ⟨Rect.unit ![0, 0, 384] S1x1x128.size inb_S4x1x1024_S1x1x128_0_0_384, snkTile (scalAt x3 3)⟩, ⟨Rect.unit ![0, 0, 256] S1x1x128.size inb_S4x1x1024_S1x1x128_0_0_256, snkTile (scalAt x3 2)⟩, ⟨Rect.unit ![0, 0, 128] S1x1x128.size inb_S4x1x1024_S1x1x128_0_0_128, snkTile (scalAt x3 1)⟩, ⟨Rect.unit ![0, 0, 0] S1x1x128.size inb_S4x1x1024_S1x1x128_0_0_0, snkTile (scalAt x3 0)⟩]

/-- The table of penalties. -/
def penTab (x2 : Vec F S32 .f32) : Vec F S2x4x256x1024 .f32 := View.canon (piecesPen x2)

/-- The table of sinks. -/
def snkTab (x3 : Vec F S32 .f32) : Vec F S4x1x1024 .f32 := View.canon (piecesSnk x3)

/-- The attention's block. -/
def outB (i : grid0.Coords) (x4 : Vec F S512x4608 .f32) (x5 : Vec F S128x512 .f32) (x12 : Vec F S2x4x256x1024 .f32)
    (x13 : Vec F S4x1x1024 .f32) : Vec F S512x2048 .bf16 := View.canon (piecesB i x4 x5 x12 x13)

/-- The pooling's block. -/
def outA (i : grid0.Coords) (x6 : Vec F S512x4096 .f32) (x7 : Vec F S16x2048 .f32) (x8 : Vec F S4x512x512 .bf16)
    (x9 : Vec F S1x2048 .f32) : Vec F S512x2048 .bf16 := View.canon (piecesA i x6 x7 x8 x9)

theorem cover_B (i : grid0.Coords) (x4 : Vec F S512x4608 .f32) (x5 : Vec F S128x512 .f32) (x12 : Vec F S2x4x256x1024 .f32)
    (x13 : Vec F S4x1x1024 .f32) (y : S512x2048.Idx) : ∃ p ∈ piecesB i x4 x5 x12 x13, y ∈ p.1.set :=
  View.cover_of_tiledL (piecesB i x4 x5 x12 x13) S128x512.size (by sl_kernel_rfl) y
theorem cover_A (i : grid0.Coords) (x6 : Vec F S512x4096 .f32) (x7 : Vec F S16x2048 .f32) (x8 : Vec F S4x512x512 .bf16)
    (x9 : Vec F S1x2048 .f32) (y : S512x2048.Idx) : ∃ p ∈ piecesA i x6 x7 x8 x9, y ∈ p.1.set :=
  View.cover_of_tiledL (piecesA i x6 x7 x8 x9) S512x512.size (by sl_kernel_rfl) y
theorem cover_pen (x2 : Vec F S32 .f32) (y : S2x4x256x1024.Idx) : ∃ p ∈ piecesPen x2, y ∈ p.1.set :=
  View.cover_of_tiledL (piecesPen x2) S1x1x256x128.size (by sl_kernel_rfl) y
theorem cover_snk (x3 : Vec F S32 .f32) (y : S4x1x1024.Idx) : ∃ p ∈ piecesSnk x3, y ∈ p.1.set :=
  View.cover_of_tiledL (piecesSnk x3) S1x1x128.size (by sl_kernel_rfl) y

end Cert.KernelIdeal.Hand

end
-- ==== Proof.Run.lean ====
module

public import proofs.«01_k».proof.Proof.Gen.KernelIdeal.Frame
public import proofs.«01_k».proof.Proof.Gen.KernelIdeal.Skeleton
public import proofs.«01_k».proof.Proof.Tiles
public import Idealize.ShloMosaic.Lib.Tactic.Stretches
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the body branches on: one at the grid's first point. -/
def fillBit (i : grid0.Coords) : BitVec 1 :=
  let a : BitVec 32 := BitVec.ofNat 32 (i 0).val
  let b : BitVec 32 := BitVec.ofNat 32 (i 1).val
  let e : BitVec 32 := Scalar.extui (Scalar.andi (Scalar.cmpi .eq a 0#32) (Scalar.cmpi .eq b 0#32))
  Scalar.cmpi .ne e 0#32

/-- A view written by the pieces `L` reads, where they cover it, as their contents. -/
theorem read_of_pieces {sig : RefSig} {κ : Kind} {sp : Space} {s : Shape} {e : EltTy} {Val : EltTy → Type} [∀ e, Nonempty (Val e)]
    (v : View sig κ sp s e) (f : v.ty.Contents Val) (L L' : List (View.Piece Val s e)) (h : L = L')
    (hc : ∀ y, ∃ p ∈ L', y ∈ p.1.set) : v.read Val (v.writes Val f L) = View.canon L' := by
  subst h; exact View.read_writes_eq_canon _ _ _ hc

set_option maxHeartbeats 2000000 in
/-- A point after the first: the tables are kept, the two blocks written. -/
theorem run_rest (c : Dev nD) (i : grid0.Coords) (arg2 : Memref sig .tc .smem S32 .f32) (harg2 : arg2.IsWhole) (arg3 : Memref sig .tc .smem S32 .f32) (harg3 : arg3.IsWhole) (arg4 : Memref sig .tc .vmem S512x4608 .f32) (harg4 : arg4.IsWhole) (arg5 : Memref sig .tc .vmem S128x512 .f32) (harg5 : arg5.IsWhole) (arg6 : Memref sig .tc .vmem S512x4096 .f32) (harg6 : arg6.IsWhole) (arg7 : Memref sig .tc .vmem S16x2048 .f32) (harg7 : arg7.IsWhole) (arg8 : Memref sig .tc .vmem S4x512x512 .bf16) (harg8 : arg8.IsWhole) (arg9 : Memref sig .tc .vmem S1x2048 .f32) (harg9 : arg9.IsWhole) (arg10 : Memref sig .tc .vmem S512x2048 .bf16) (harg10 : arg10.IsWhole) (arg11 : Memref sig .tc .vmem S512x2048 .bf16) (harg11 : arg11.IsWhole) (arg12 : Memref sig .tc .vmem S2x4x256x1024 .f32) (harg12 : arg12.IsWhole) (arg13 : Memref sig .tc .vmem S4x1x1024 .f32) (harg13 : arg13.IsWhole)
    (hne : ¬ fillBit i = 1#1) (x2 : Vec F S32 .f32) (x3 : Vec F S32 .f32) (x4 : Vec F S512x4608 .f32) (x5 : Vec F S128x512 .f32) (x6 : Vec F S512x4096 .f32) (x7 : Vec F S16x2048 .f32) (x8 : Vec F S4x512x512 .bf16) (x9 : Vec F S1x2048 .f32) (x12 : Vec F S2x4x256x1024 .f32) (x13 : Vec F S4x1x1024 .f32) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outB i x4 x5 x12 x13) ∗ owns (c : Thread nD τ) arg11 fullShare (outA i x6 x7 x8 x9) ∗ owns (c : Thread nD τ) arg12 fullShare x12 ∗ owns (c : Thread nD τ) arg13 fullShare x13) -∗ K ⟨⟩))
        ⊢ wp frame (wpE (defs₀ (F := F)) Variants.none c none) E (cc0_mix_prompt i arg2 harg2 arg3 harg3 arg4 harg4 arg5 harg5 arg6 harg6 arg7 harg7 arg8 harg8 arg9 harg9 arg10 harg10 arg11 harg11 arg12 harg12 arg13 harg13) K := by
  intro E K
  simp only [cc0_mix_prompt_eq_skeleton]; unfold cc0_mix_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, Hk⟩
  subst hf2; subst hf3; subst hf4; subst hf5; subst hf6; subst hf7; subst hf8; subst hf9; subst hf12; subst hf13
  sl_exec (disch := exact hne)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    refine read_of_pieces _ _ _ _ ?_ (cover_B i (arg4.view.read (Elt F) f4) (arg5.view.read (Elt F) f5) (arg12.view.read (Elt F) f12) (arg13.view.read (Elt F) f13))
    clear hne
    unfold piecesB
    sl_open_run
    rfl
  isplitl [H11]
  · iexists _; isplitr; swap; · iexact H11
    ipureintro
    refine read_of_pieces _ _ _ _ ?_ (cover_A i (arg6.view.read (Elt F) f6) (arg7.view.read (Elt F) f7) (arg8.view.read (Elt F) f8) (arg9.view.read (Elt F) f9))
    clear hne
    unfold piecesA
    sl_open_run
    rfl
  isplitl [H12]
  · iexists f12; isplitr; · ipureintro; rfl
    iexact H12
  iexists f13; isplitr; · ipureintro; rfl
  iexact H13

set_option maxHeartbeats 2000000 in
/-- The first point: the tables are filled, the two blocks written. -/
theorem run_fill (c : Dev nD) (i : grid0.Coords) (arg2 : Memref sig .tc .smem S32 .f32) (harg2 : arg2.IsWhole) (arg3 : Memref sig .tc .smem S32 .f32) (harg3 : arg3.IsWhole) (arg4 : Memref sig .tc .vmem S512x4608 .f32) (harg4 : arg4.IsWhole) (arg5 : Memref sig .tc .vmem S128x512 .f32) (harg5 : arg5.IsWhole) (arg6 : Memref sig .tc .vmem S512x4096 .f32) (harg6 : arg6.IsWhole) (arg7 : Memref sig .tc .vmem S16x2048 .f32) (harg7 : arg7.IsWhole) (arg8 : Memref sig .tc .vmem S4x512x512 .bf16) (harg8 : arg8.IsWhole) (arg9 : Memref sig .tc .vmem S1x2048 .f32) (harg9 : arg9.IsWhole) (arg10 : Memref sig .tc .vmem S512x2048 .bf16) (harg10 : arg10.IsWhole) (arg11 : Memref sig .tc .vmem S512x2048 .bf16) (harg11 : arg11.IsWhole) (arg12 : Memref sig .tc .vmem S2x4x256x1024 .f32) (harg12 : arg12.IsWhole) (arg13 : Memref sig .tc .vmem S4x1x1024 .f32) (harg13 : arg13.IsWhole)
    (hne : fillBit i = 1#1) (x2 : Vec F S32 .f32) (x3 : Vec F S32 .f32) (x4 : Vec F S512x4608 .f32) (x5 : Vec F S128x512 .f32) (x6 : Vec F S512x4096 .f32) (x7 : Vec F S16x2048 .f32) (x8 : Vec F S4x512x512 .bf16) (x9 : Vec F S1x2048 .f32) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outB i x4 x5 (penTab x2) (snkTab x3)) ∗ owns (c : Thread nD τ) arg11 fullShare (outA i x6 x7 x8 x9) ∗ owns (c : Thread nD τ) arg12 fullShare (penTab x2) ∗ owns (c : Thread nD τ) arg13 fullShare (snkTab x3)) -∗ K ⟨⟩))
        ⊢ wp frame (wpE (defs₀ (F := F)) Variants.none c none) E (cc0_mix_prompt i arg2 harg2 arg3 harg3 arg4 harg4 arg5 harg5 arg6 harg6 arg7 harg7 arg8 harg8 arg9 harg9 arg10 harg10 arg11 harg11 arg12 harg12 arg13 harg13) K := by
  intro E K
  simp only [cc0_mix_prompt_eq_skeleton]; unfold cc0_mix_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf2; subst hf3; subst hf4; subst hf5; subst hf6; subst hf7; subst hf8; subst hf9
  sl_exec (disch := exact hne)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    have e12 : arg12.view.read (Elt F) (arg12.view.writes (Elt F) arg12.view.junk (piecesPen (arg2.view.read (Elt F) f2))) = penTab (arg2.view.read (Elt F) f2) :=
      read_of_pieces _ _ _ _ rfl (cover_pen _)
    have e13 : arg13.view.read (Elt F) (arg13.view.writes (Elt F) arg13.view.junk (piecesSnk (arg3.view.read (Elt F) f3))) = snkTab (arg3.view.read (Elt F) f3) :=
      read_of_pieces _ _ _ _ rfl (cover_snk _)
    rw [← e12, ← e13]
    refine read_of_pieces _ _ _ _ ?_ (cover_B i (arg4.view.read (Elt F) f4) (arg5.view.read (Elt F) f5) _ _)
    clear hne e12 e13
    unfold piecesB
    sl_open_run
    rfl
  isplitl [H11]
  · iexists _; isplitr; swap; · iexact H11
    ipureintro
    refine read_of_pieces _ _ _ _ ?_ (cover_A i (arg6.view.read (Elt F) f6) (arg7.view.read (Elt F) f7) (arg8.view.read (Elt F) f8) (arg9.view.read (Elt F) f9))
    clear hne
    unfold piecesA
    sl_open_run
    rfl
  isplitl [H12]
  · iexists _; isplitr; swap; · iexact H12
    ipureintro
    refine read_of_pieces _ _ _ _ ?_ (cover_pen (arg2.view.read (Elt F) f2))
    unfold piecesPen
    sl_open_run
    rfl
  iexists _; isplitr; swap; · iexact H13
  ipureintro
  refine read_of_pieces _ _ _ _ ?_ (cover_snk (arg3.view.read (Elt F) f3))
  unfold piecesSnk
  sl_open_run
  rfl

end Cert.KernelIdeal.Hand

end
-- ==== Proof.Frame.lean ====
module

public import proofs.«01_k».proof.Proof.Gen.KernelIdeal.Frame
public import proofs.«01_k».proof.Proof.Run
public import Idealize.ShloMosaic.Lib.Tactic.Stretches
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between points: nothing is known of the two scratch tables before the first point; after it they hold the table of
    distances and the table of sinks that the first point filled in. -/
def inv (c : Dev nD) : ℕ → sProp 𝕄
  | 0 => Pipeline.ΦA spec0 c
  | _ + 1 => iprop((owns (c : Thread nD τ) (Memref.whole cc0_scratch0) fullShare (penTab (iblk m c 0 t0_0))
      ∗ owns (c : Thread nD τ) (Memref.whole cc0_scratch1) fullShare (snkTab (iblk m c 1 t0_0))) ∗ ∃ r, prngReg c r)

/-- What the attention output's block holds after point `t`. -/
def outBAt (c : Dev nD) (t : Fin cfg0.N) : Vec F S512x2048 .bf16 :=
  outB (grid0.coords t) (iblk m c 2 t) (iblk m c 3 t) (penTab (iblk m c 0 t0_0)) (snkTab (iblk m c 1 t0_0))

/-- What the pooling output's block holds after point `t`. -/
def outAAt (c : Dev nD) (t : Fin cfg0.N) : Vec F S512x2048 .bf16 :=
  outA (grid0.coords t) (X0_4 m c t) (X0_5 m c t) (iblk m c 6 t) (iblk m c 7 t)

/-- The run's data: the arrays at entry, each window's block after a point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => X0_5 m c t
    | ⟨6, _⟩ => iblk m c 6 t
    | ⟨7, _⟩ => iblk m c 7 t
    | ⟨8, _⟩ => outBAt m c t
    | ⟨9, _⟩ => outAAt m c t
    | ⟨_ + 10, h⟩ => absurd h (by simp only [cfg0]; omega)
  Φ t := inv m c t.val
  q w := Pipeline.shareOf spec0 w
  owed _ := 0

theorem A_eq (c : Dev nD) (w) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = X0_4 m c t := by dsimp only [dats]
theorem after_5 (c : Dev nD) (t : Fin cfg0.N) : (dats m 0 c).after 5 t = X0_5 m c t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBAt m c t := by dsimp only [dats]
theorem after_9 (c : Dev nD) (t : Fin cfg0.N) : (dats m 0 c).after 9 t = outAAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = X0_5 m c t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The branch is taken at the first point. -/
theorem fill_first : ∀ t : Fin cfg0.N, t.val = 0 → fillBit (grid0.coords t) = 1#1 :=
  (by decide +kernel : ∀ t : Fin grid0.N, t.val = 0 → fillBit (grid0.coords t) = 1#1)

/-- And at no other. -/
theorem fill_rest : ∀ t : Fin cfg0.N, t.val ≠ 0 → ¬ fillBit (grid0.coords t) = 1#1 :=
  (by decide +kernel : ∀ t : Fin grid0.N, t.val ≠ 0 → ¬ fillBit (grid0.coords t) = 1#1)

theorem Φ_castSucc (c : Dev nD) (t : Fin cfg0.N) : (dats m 0 c).Φ t.castSucc = inv m c t.val := rfl
theorem Φ_succ (c : Dev nD) (t : Fin cfg0.N) : (dats m 0 c).Φ t.succ = inv m c (t.val + 1) := rfl

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at a point: the branch that fills the tables at the first, the other from then on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  unfold Dat.owesAt Pipeline.owesWithin
  rw [show (dats m 0 c).owed t.castSucc = 0 from rfl, show (dats m 0 c).owed t.succ = 0 from rfl, Φ_castSucc, Φ_succ]
  simp only [before_0, before_1, before_2, before_3, before_4, before_5, before_6, before_7, after_0, after_1, after_2, after_3, after_4, after_5, after_6, after_7, after_8, after_9]
  by_cases h0 : t.val = 0
  · have ht : t = t0_0 := Fin.ext h0
    subst ht
    rw [show inv m c (t0_0 : Fin cfg0.N).val = Pipeline.ΦA spec0 c from rfl]
    unfold inv Pipeline.ΦA outBAt outAAt
    rw [scopedRest0_eq]
    iintro ⟨⟨⟨⟨%f0, HS0⟩, ⟨%f1, HS1⟩⟩, Hg⟩, ⟨%W, HB, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_fill c (grid0.coords t0_0) _ _ _ _ _ _ _ _ _ _ _ _ _ _ _ _ _ _ _ _ (Memref.whole cc0_scratch0) (Memref.isWhole_whole _) (Memref.whole cc0_scratch1) (Memref.isWhole_whole _) (fill_first t0_0 rfl) (iblk m c 0 t0_0) (iblk m c 1 t0_0) (iblk m c 2 t0_0) (iblk m c 3 t0_0) (X0_4 m c t0_0) (X0_5 m c t0_0) (iblk m c 6 t0_0) (iblk m c 7 t0_0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexists f0; rw [owns_whole]; iexact HS0
    isplitl [HS1]; · iexists f1; rw [owns_whole]; iexact HS1
    iintro ⟨H0, H1, H2, H3, H4, H5, H6, H7, H8, H9, HS0, HS1⟩
    isplitl [HS0 HS1 Hg]
    · isplitl [HS0 HS1]
      · isplitl [HS0]; · iexact HS0
        iexact HS1
      iexact Hg
    isplitl [HB HW]
    · iexists W; isplitl [HB]; · iexact HB
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · obtain ⟨n, hn⟩ := Nat.exists_eq_succ_of_ne_zero h0
    rw [hn]
    unfold inv outBAt outAAt
    iintro ⟨⟨⟨HS0, HS1⟩, Hg⟩, ⟨%W, HB, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_rest c (grid0.coords t) _ _ _ _ _ _ _ _ _ _ _ _ _ _ _ _ _ _ _ _ (Memref.whole cc0_scratch0) (Memref.isWhole_whole _) (Memref.whole cc0_scratch1) (Memref.isWhole_whole _) (fill_rest t h0) (iblk m c 0 t) (iblk m c 1 t) (iblk m c 2 t) (iblk m c 3 t) (X0_4 m c t) (X0_5 m c t) (iblk m c 6 t) (iblk m c 7 t) (penTab (iblk m c 0 t0_0)) (snkTab (iblk m c 1 t0_0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]; · iexact HS0
        iexact HS1
      iexact Hg
    isplitl [HB HW]
    · iexists W; isplitl [HB]; · iexact HB
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The tables forgotten again at the end. -/
theorem inv_last (c : Dev nD) : (dats m 0 c).Φ (Fin.last cfg0.N) ⊢ Pipeline.ΦA spec0 c := by
  rw [show (dats m 0 c).Φ (Fin.last cfg0.N) = inv m c 16 from congrArg (inv m c) N_0]
  unfold inv Pipeline.ΦA
  rw [scopedRest0_eq, owns_whole, owns_whole]
  iintro ⟨⟨HS0, HS1⟩, Hg⟩
  isplitl [HS0 HS1]
  · isplitl [HS0]; · iexists _; iexact HS0
    iexists _; iexact HS1
  iexact Hg

set_option backward.isDefEq.respectTransparency.types false in
/-- The whole run: the arrays end as the points' blocks leave them, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared cfgs (dats m) 0 launch₀0 defs₀ Variants.none m ρ main
    (fun c => (body_obligation m c).loose) (fun _ _ _ => rfl) (fun _ _ => rfl) (V0 m) [hostOps1]
    sfx_sub sfx_fresh sfx_keeps (hmain m Variants.none) (A_eq m)
    (fun c => .rfl) (inv_last m) _ (fun _ h => h)

/-- The frame: the arguments end unchanged and every semaphore ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 5).trans (((dats m 0 c).arrAt_in 5 rfl _).trans ((A_eq m c 5).trans (V_main_arg0 m c))),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c))⟩, h.2⟩) (run_main m ρ)

end Cert.KernelIdeal.Hand

end
-- ==== Proof.AttTile.lean ====
module

public import proofs.«01_k».proof.Proof.Tiles
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

theorem sl_q (g : Fin 8) : S128x512.Slices ![0, 64 * g.val] S128x64 := by revert g; decide
theorem sl_t (g : Fin 8) : S128x1024.Slices ![0, 128 * g.val] S128x128 := by revert g; decide

/-- The queries stacked by head, read at an index: head `c / 128`, query `c % 128`, scaled by an eighth. -/
theorem qStack_at (q : Vec Ideal S128x512 .f32) (c : Fin 1024) (e : Fin 64) :
    qStack q (ix2 c e) = q (ix2 ⟨c.val % 128, by omega⟩ ⟨c.val / 128 * 64 + e.val, by omega⟩) * Ideal.ofBits .f32 0x3E000000#32 := by
  have h : qStack q = concatenate S1024x64 0 (List.ofFn fun g : Fin 8 => (⟨S128x64, extractStridedSlice S128x64 ![0, 64 * g.val] (qScaled q) (sl_q g)⟩ : (s : Shape) × (s.Idx → Elt Ideal .bf16)))
    concatenates_S128x64_S128x64_S128x64_S128x64_S128x64_S128x64_S128x64_S128x64_S1024x64_d0 := rfl
  refine (congrFun h _).trans ((concatenate_ofFn_apply (t := S1024x64) (s₁ := S128x64) (0 : Fin 2) _ _ rfl 128 rfl _ (⟨c.val / 128, by omega⟩ : Fin 8) rfl (ix2 ⟨c.val % 128, by omega⟩ e) rfl
    (fun b hb => by fin_cases b; exact absurd rfl hb; rfl)).trans ?_)
  pointwise [qScaled]
  simp only [Nat.mul_comm 64]

/-- Eight heads side by side, read at an index: head `c / 64`, its lane `c % 64`, from the first of the two KV heads. -/
theorem side0_at (oA oB : FVec Ideal S64x1024 .f32) (a : Fin 128) (c : Fin 512) :
    side oA oB 0 slices_S128x128_o0_0_S128x64 (ix2 a c) = oA (ix2 ⟨c.val % 64, by omega⟩ ⟨c.val / 64 * 128 + a.val, by omega⟩) := by
  have h : side oA oB 0 slices_S128x128_o0_0_S128x64 = concatenate S128x512 1 (List.ofFn fun g : Fin 8 => (⟨S128x64, extractStridedSlice S128x64 ![0, 0] (turn oA oB (128 * g.val) (sl_t g)) slices_S128x128_o0_0_S128x64⟩ : (s : Shape) × (s.Idx → Elt Ideal .f32)))
    concatenates_S128x64_S128x64_S128x64_S128x64_S128x64_S128x64_S128x64_S128x64_S128x512_d1 := rfl
  refine (congrFun h _).trans ((concatenate_ofFn_apply (t := S128x512) (s₁ := S128x64) (1 : Fin 2) _ _ rfl 64 rfl _ (⟨c.val / 64, by omega⟩ : Fin 8) rfl (ix2 a ⟨c.val % 64, by omega⟩) rfl
    (fun b hb => by fin_cases b; rfl; exact absurd rfl hb)).trans ?_)
  pointwise [turn]
  rw [dif_pos (by omega)]
  blk_ext

/-- The same from the second of the two KV heads. -/
theorem side1_at (oA oB : FVec Ideal S64x1024 .f32) (a : Fin 128) (c : Fin 512) :
    side oA oB 64 slices_S128x128_o0_64_S128x64 (ix2 a c) = oB (ix2 ⟨c.val % 64, by omega⟩ ⟨c.val / 64 * 128 + a.val, by omega⟩) := by
  have h : side oA oB 64 slices_S128x128_o0_64_S128x64 = concatenate S128x512 1 (List.ofFn fun g : Fin 8 => (⟨S128x64, extractStridedSlice S128x64 ![0, 64] (turn oA oB (128 * g.val) (sl_t g)) slices_S128x128_o0_64_S128x64⟩ : (s : Shape) × (s.Idx → Elt Ideal .f32)))
    concatenates_S128x64_S128x64_S128x64_S128x64_S128x64_S128x64_S128x64_S128x64_S128x512_d1 := rfl
  refine (congrFun h _).trans ((concatenate_ofFn_apply (t := S128x512) (s₁ := S128x64) (1 : Fin 2) _ _ rfl 64 rfl _ (⟨c.val / 64, by omega⟩ : Fin 8) rfl (ix2 a ⟨c.val % 64, by omega⟩) rfl
    (fun b hb => by fin_cases b; rfl; exact absurd rfl hb)).trans ?_)
  pointwise [turn]
  blk_ext

/-- An entry of the attention's result, from its query `q`, keys `k`, one column `v` of its values, its penalties and its
    sink: the softmax with the sink in its denominator. -/
def attK (q : Fin 64 → EReal) (k : Fin 256 → Fin 64 → EReal) (v : Fin 256 → EReal) (pen : Fin 256 → EReal) (snk : EReal) : EReal :=
  let l := fun s => ∑ e, k s e * (q e * Ideal.ofBits .f32 0x3E000000#32) - pen s
  let mx := max (Finset.fold max (Ideal.ofBits .f32 0xFF800000#32) l Finset.univ) snk
  (∑ s, v s * Ideal.exp (l s - mx)) * Ideal.div 1 (∑ s, Ideal.exp (l s - mx) + Ideal.exp (snk - mx))

theorem headT_at (k : FVec Ideal S256x64 .bf16) (vT : FVec Ideal S64x256 .bf16) (q : Vec Ideal S128x512 .f32)
    (pen : Vec Ideal S1x1x256x1024 .f32) (snk : Vec Ideal S1x1x1024 .f32) (d : Fin 64) (c : Fin 1024) :
    headT k vT q pen snk (ix2 d c) = attK (fun e => q (ix2 ⟨c.val % 128, by omega⟩ ⟨c.val / 128 * 64 + e.val, by omega⟩))
      (fun s e => k (ix2 s e)) (fun s => vT (ix2 d s)) (fun s => pen (ix4 0 0 s c)) (snk (ix3 0 0 c)) := by
  unfold attK
  pointwise [headT, expo, logitsT, colMax, snkRow, denom]
  simp only [qStack_at]

/-- Two row blocks, one below the other. -/
def both (a b : Vec Ideal S128x512 .f32) (s : Fin 256) (j : Fin 512) : EReal :=
  if h : s.val < 128 then a (ix2 ⟨s.val, h⟩ j) else b (ix2 ⟨s.val - 128, by omega⟩ j)

theorem attT_at (a b : Vec Ideal S128x512 .f32) (q : Vec Ideal S128x512 .f32) (pen : Vec Ideal S1x1x256x1024 .f32)
    (snk : Vec Ideal S1x1x1024 .f32) (h : Fin 4) (d : Fin 64) (c : Fin 1024) :
    attT a b q pen snk h (ix2 d c) = attK (fun e => q (ix2 ⟨c.val % 128, by omega⟩ ⟨c.val / 128 * 64 + e.val, by omega⟩))
      (fun s e => both a b s ⟨64 * h.val + e.val, by omega⟩) (fun s => both a b s ⟨256 + 64 * h.val + d.val, by omega⟩)
      (fun s => pen (ix4 0 0 s c)) (snk (ix3 0 0 c)) := by
  unfold attT
  rw [headT_at]
  congr 1
  · funext s e
    pointwise [keys, both]
  · funext s
    pointwise [valsT, both]
    simp only [Nat.add_assoc]

theorem attTile_at (x4 : Vec Ideal S512x4608 .f32) (A B : Vec Ideal S128x512 .f32) (pen : Fin 4 → Vec Ideal S1x1x256x1024 .f32)
    (x13 : Vec Ideal S4x1x1024 .f32) (r h : Fin 4) (a : Fin 128) (c : Fin 512) :
    attTile x4 A B pen x13 r h (ix2 a c) =
      zAt x4 r h (ix2 a c) * Ideal.logistic (zAt x4 r h (ix2 a c)) *
      attK (fun e => qAt x4 r h (ix2 a ⟨c.val / 64 * 64 + e.val, by omega⟩))
        (fun s e => both A B s ⟨64 * h.val + e.val, by omega⟩) (fun s => both A B s ⟨256 + 64 * h.val + c.val % 64, by omega⟩)
        (fun s => pen h (ix4 0 0 s ⟨c.val / 64 * 128 + a.val, by omega⟩)) (snkAt x13 h (ix3 0 0 ⟨c.val / 64 * 128 + a.val, by omega⟩)) := by
  have hm : (c.val / 64 * 128 + a.val) % 128 = a.val := by omega
  have hd : (c.val / 64 * 128 + a.val) / 128 = c.val / 64 := by omega
  unfold attTile
  pointwise [gate]
  congr 1
  fin_cases h
  · refine (side0_at _ _ a c).trans ((attT_at ..).trans ?_); simp only [hm, hd]; rfl
  · refine (side1_at _ _ a c).trans ((attT_at ..).trans ?_); simp only [hm, hd]; rfl
  · refine (side0_at _ _ a c).trans ((attT_at ..).trans ?_); simp only [hm, hd]; rfl
  · refine (side1_at _ _ a c).trans ((attT_at ..).trans ?_); simp only [hm, hd]; rfl

/-! ## The blocks' parts at an index -/

theorem qAt_at (x4 : Vec Ideal S512x4608 .f32) (r h : Fin 4) (a : Fin 128) (c : Fin 512) :
    qAt x4 r h (ix2 a c) = x4 (ix2 ⟨128 * r.val + a.val, by omega⟩ ⟨512 * h.val + c.val, by omega⟩) := by
  unfold qAt; blk_ext
  all_goals (simp [LoadRect.idx, Rect.withinL, Rect.unit]; try omega)
theorem zAt_at (x4 : Vec Ideal S512x4608 .f32) (r h : Fin 4) (a : Fin 128) (c : Fin 512) :
    zAt x4 r h (ix2 a c) = x4 (ix2 ⟨128 * r.val + a.val, by omega⟩ ⟨2560 + 512 * h.val + c.val, by omega⟩) := by
  unfold zAt; blk_ext
  all_goals (simp [LoadRect.idx, Rect.withinL, Rect.unit]; try omega)
theorem kvAt_at (x4 : Vec Ideal S512x4608 .f32) (r : Fin 4) (a : Fin 128) (c : Fin 512) :
    kvAt x4 r (ix2 a c) = x4 (ix2 ⟨128 * r.val + a.val, by omega⟩ ⟨2048 + c.val, by omega⟩) := by
  unfold kvAt; blk_ext
  all_goals (simp [LoadRect.idx, Rect.withinL, Rect.unit]; try omega)
theorem kvPrev_at (x5 : Vec Ideal S128x512 .f32) (a : Fin 128) (c : Fin 512) :
    kvPrev x5 (ix2 a c) = x5 (ix2 a c) := by
  unfold kvPrev; blk_ext
  all_goals (simp [LoadRect.idx, Rect.withinL, Rect.unit]; try omega)
theorem snkAt_at (x13 : Vec Ideal S4x1x1024 .f32) (h : Fin 4) (c : Fin 1024) :
    snkAt x13 h (ix3 0 0 c) = x13 (ix3 h 0 c) := by
  unfold snkAt; blk_ext
  all_goals (simp [LoadRect.idx, Rect.withinL, Rect.unit]; try omega)
theorem penAt_at (x12 : Vec Ideal S2x4x256x1024 .f32) (k h : Nat) (hk : k < 2) (hh : h < 4) (hoff) (s : Fin 256) (c : Fin 1024) :
    penAt x12 ![k, h, 0, 0] hoff (ix4 0 0 s c) = x12 (ix4 ⟨k, hk⟩ ⟨h, hh⟩ s c) := by
  unfold penAt; blk_ext
  all_goals (simp [LoadRect.idx, Rect.withinL, Rect.unit]; try omega)

/-! ## The tables at an index -/

/-- Whether a query `a` sees a key `s`: the key's distance lies in the window, and the key's row, `base` added, is a row. -/
def sees (base : BitVec 32) (s : Fin 256) (a : Fin 128) : BitVec 1 :=
  IntOp.andi (IntOp.andi
    (IntOp.cmpi CmpIPredicate.sge (IntOp.subi (IntOp.addi (128#32) (BitVec.ofNat 32 ↑a)) (BitVec.ofNat 32 ↑s)) 0#32)
    (IntOp.cmpi CmpIPredicate.slt (IntOp.subi (IntOp.addi (128#32) (BitVec.ofNat 32 ↑a)) (BitVec.ofNat 32 ↑s)) 128#32))
    (IntOp.cmpi CmpIPredicate.sge (IntOp.addi base (BitVec.ofNat 32 ↑s)) 0#32)

/-- The penalty of a key `s` for a query `a` under the slope `v`. -/
def penW (base : BitVec 32) (v : EReal) (s : Fin 256) (a : Fin 128) : EReal :=
  Scalar.select (sees base s a)
    (v * FloatOps.sitofp (F := Ideal) FTy.f32 (IntOp.subi (IntOp.addi (128#32) (BitVec.ofNat 32 ↑a)) (BitVec.ofNat 32 ↑s)))
    (Ideal.ofBits FTy.f32 2139095040#32)

theorem penTile_at (base : BitVec 32) (v : Elt Ideal .f32) (s : Fin 256) (a : Fin 128) :
    penTile base v (ix4 0 0 s a) = penW base v s a := by
  pointwise [penTile, seen, distT]
  rfl

theorem scalAt_at (x : Vec Ideal S32 .f32) (n : Fin 32) : scalAt x n = x (ix1 n) := by
  unfold scalAt
  refine congrArg x (funext fun a => Fin.ext ?_)
  fin_cases a
  rfl

/-- The table half's base. -/
def penBase (k : Fin 2) : BitVec 32 := if k.val = 0 then 4294967168#32 else 0#32

theorem penTile_eq (x2 : Vec Ideal S32 .f32) (b : BitVec 32) (n : Fin 32) (x : S1x1x256x128.Idx) (k : Fin 2) (h : Fin 4)
    (s : Fin 256) (c : Fin 1024) (hb : (k.val = 0 ∧ b = 4294967168#32) ∨ (k.val = 1 ∧ b = 0#32))
    (hn : n.val = 8 * h.val + c.val / 128) (h2 : (x 2).val = s.val) (h3 : (x 3).val = c.val % 128) :
    penTile b (scalAt x2 n) x = penW (penBase k) (x2 (ix1 ⟨8 * h.val + c.val / 128, by omega⟩)) s ⟨c.val % 128, by omega⟩ := by
  have hx : x = ix4 0 0 s ⟨c.val % 128, by omega⟩ := by
    funext a; apply Fin.ext
    have := (x 0).isLt; have := (x 1).isLt
    fin_cases a
    · exact Nat.lt_one_iff.mp (x 0).isLt
    · exact Nat.lt_one_iff.mp (x 1).isLt
    · exact h2
    · exact h3
  have hnn : n = ⟨8 * h.val + c.val / 128, by omega⟩ := Fin.ext hn
  have hbb : b = penBase k := by
    unfold penBase
    rcases hb with ⟨hk, rfl⟩ | ⟨hk, rfl⟩ <;> simp [hk]
  exact (congrArg (penTile b (scalAt x2 n)) hx).trans ((penTile_at _ _ _ _).trans (by rw [scalAt_at, hbb, congrArg ix1 hnn]))

set_option maxRecDepth 65536 in
set_option maxHeartbeats 2000000 in
theorem penTab_at (x2 : Vec Ideal S32 .f32) (k : Fin 2) (kh : Fin 4) (s : Fin 256) (c : Fin 1024) :
    penTab x2 (ix4 k kh s c) = penW (penBase k) (x2 (ix1 ⟨8 * kh.val + c.val / 128, by omega⟩)) s ⟨c.val % 128, by omega⟩ := by
  unfold penTab piecesPen
  canon_tiles x h
  all_goals
    change k.val = _ at h0
    change kh.val = _ at h1
    change s.val = _ at h2
    change c.val = _ at h3
    refine penTile_eq x2 _ _ x k kh s c ?_ ?_ ?_ ?_
    · first | exact Or.inl ⟨by omega, rfl⟩ | exact Or.inr ⟨by omega, rfl⟩
    · show _ = _; omega
    · omega
    · omega

theorem snkTile_at (v : Elt Ideal .f32) (x : S1x1x128.Idx) : snkTile (F := Ideal) v x = v := by
  pointwise [snkTile]

theorem snkTab_at (x3 : Vec Ideal S32 .f32) (kh : Fin 4) (c : Fin 1024) :
    snkTab x3 (ix3 kh 0 c) = x3 (ix1 ⟨8 * kh.val + c.val / 128, by omega⟩) := by
  unfold snkTab piecesSnk
  canon_tiles x h
  all_goals
    change kh.val = _ at h0
    change c.val = _ at h2
    refine (snkTile_at _ x).trans ((scalAt_at ..).trans (congrArg (fun n : Fin 32 => x3 (ix1 n)) (Fin.ext ?_)))
    simp only [Fin.isValue]; show _ = _; omega
end Cert.KernelIdeal.Hand
end
-- ==== Proof.AttBlk.lean ====
module

public import proofs.«01_k».proof.Proof.AttTile
public import proofs.«01_k».proof.Proof.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

/-- Row `s` of the 256 rows of keys and values that block row `R` reads: its own 128 rows and the 128 before them. -/
def kvRow (x4 : Vec Ideal S512x4608 .f32) (x5 : Vec Ideal S128x512 .f32) (R : Fin 512) (s : Fin 256) (j : Fin 512) : EReal :=
  if h : 128 ≤ R.val / 128 * 128 + s.val then x4 (ix2 ⟨R.val / 128 * 128 + s.val - 128, by omega⟩ ⟨2048 + j.val, by omega⟩)
  else x5 (ix2 ⟨s.val, by omega⟩ j)

/-- Which half of the table of penalties block row `R` reads. -/
def tblOf (i : grid0.Coords) (R : Fin 512) : Fin 2 := if R.val < 128 then ⟨min (i 1).val 1, by omega⟩ else 1

theorem penFirst_at (i : grid0.Coords) (x12 : Vec Ideal S2x4x256x1024 .f32) (h : Fin 4) (s : Fin 256) (c : Fin 1024) :
    penFirst i x12 h (ix4 0 0 s c) = x12 (ix4 ⟨min (i 1).val 1, by omega⟩ h s c) := by
  fin_cases h
  · simp only [penFirst]; simp only [k0_off1_eq]; exact penAt_at x12 _ _ (by omega) (by omega) _ s c
  · simp only [penFirst]; simp only [k0_off2_eq]; exact penAt_at x12 _ _ (by omega) (by omega) _ s c
  · simp only [penFirst]; simp only [k0_off3_eq]; exact penAt_at x12 _ _ (by omega) (by omega) _ s c
  · simp only [penFirst]; simp only [k0_off4_eq]; exact penAt_at x12 _ _ (by omega) (by omega) _ s c

/-- A tile's entry from the block's: the row blocks above and its own, the penalties of its table half. -/
theorem attTile_core (x4 : Vec Ideal S512x4608 .f32) (A : Vec Ideal S128x512 .f32) (x5 : Vec Ideal S128x512 .f32)
    (pen : Fin 4 → Vec Ideal S1x1x256x1024 .f32) (x12 : Vec Ideal S2x4x256x1024 .f32) (x13 : Vec Ideal S4x1x1024 .f32) (r h : Fin 4) (k : Fin 2)
    (x : S128x512.Idx) (R : Fin 512) (C : Fin 2048)
    (hR : R.val = 128 * r.val + (x 0).val) (hC : C.val = 512 * h.val + (x 1).val)
    (hA : ∀ s j, both A (kvAt x4 r) s j = kvRow x4 x5 R s j)
    (hpen : ∀ s c, pen h (ix4 0 0 s c) = x12 (ix4 k h s c)) :
    attTile x4 A (kvAt x4 r) pen x13 r h x =
      x4 (ix2 R ⟨2560 + C.val, by omega⟩) * Ideal.logistic (x4 (ix2 R ⟨2560 + C.val, by omega⟩)) *
      attK (fun e => x4 (ix2 R ⟨C.val / 64 * 64 + e.val, by omega⟩))
        (fun s e => kvRow x4 x5 R s ⟨64 * (C.val / 512) + e.val, by omega⟩)
        (fun s => kvRow x4 x5 R s ⟨256 + 64 * (C.val / 512) + C.val % 64, by omega⟩)
        (fun s => x12 (ix4 k ⟨C.val / 512, by omega⟩ s ⟨C.val / 64 % 8 * 128 + R.val % 128, by omega⟩))
        (x13 (ix3 ⟨C.val / 512, by omega⟩ 0 ⟨C.val / 64 % 8 * 128 + R.val % 128, by omega⟩)) := by
  have hx0 : (x 0).val < 128 := (x 0).isLt
  have hx1 : (x 1).val < 512 := (x 1).isLt
  have hx : x = ix2 ⟨(x 0).val, hx0⟩ ⟨(x 1).val, hx1⟩ := by
    funext a; fin_cases a <;> rfl
  refine (congrArg _ hx).trans ((attTile_at ..).trans ?_)
  have e1 : C.val / 512 = h.val := by omega
  have e2 : C.val / 64 % 8 * 128 + R.val % 128 = (x 1).val / 64 * 128 + (x 0).val := by omega
  have e3 : (x 1).val % 64 = C.val % 64 := by omega
  have ez : zAt x4 r h (ix2 ⟨(x 0).val, hx0⟩ ⟨(x 1).val, hx1⟩) = x4 (ix2 R ⟨2560 + C.val, by omega⟩) := by
    rw [zAt_at]; exact congrArg x4 (congrArg₂ ix2 (Fin.ext hR.symm) (Fin.ext (by simp only; omega)))
  rw [ez]
  refine congrArg _ ?_
  simp only [hA, hpen, snkAt_at, qAt_at]
  congr 1
  · funext e
    exact congrArg x4 (congrArg₂ ix2 (Fin.ext hR.symm) (Fin.ext (by simp only; omega)))
  · funext s e
    exact congrArg (kvRow x4 x5 R s) (Fin.ext (by simp only; omega))
  · funext s
    exact congrArg (kvRow x4 x5 R s) (Fin.ext (by simp only; omega))
  · funext s
    exact congrArg x12 (congrArg₂ (fun a b => ix4 k a s b) (Fin.ext e1.symm) (Fin.ext e2.symm))
  · exact congrArg x13 (congrArg₂ (fun a b => ix3 a 0 b) (Fin.ext e1.symm) (Fin.ext e2.symm))

theorem both_first (x4 : Vec Ideal S512x4608 .f32) (x5 : Vec Ideal S128x512 .f32) (R : Fin 512) (hR : R.val < 128) (s : Fin 256) (j : Fin 512) :
    both (kvPrev x5) (kvAt x4 0) s j = kvRow x4 x5 R s j := by
  have h0 : R.val / 128 * 128 = 0 := by omega
  unfold both kvRow
  by_cases hs : s.val < 128
  · rw [dif_pos hs, dif_neg (by omega), kvPrev_at]
  · rw [dif_neg hs, dif_pos (by omega), kvAt_at]
    exact congrArg x4 (congrArg₂ ix2 (Fin.ext (by simp only [Fin.val_zero]; omega)) rfl)

theorem both_rest (x4 : Vec Ideal S512x4608 .f32) (x5 : Vec Ideal S128x512 .f32) (r r' : Fin 4) (hr : r.val = r'.val + 1)
    (R : Fin 512) (hR : R.val / 128 = r.val) (s : Fin 256) (j : Fin 512) :
    both (kvAt x4 r') (kvAt x4 r) s j = kvRow x4 x5 R s j := by
  unfold both kvRow
  by_cases hs : s.val < 128
  · rw [dif_pos hs, dif_pos (by omega), kvAt_at]
    exact congrArg x4 (congrArg₂ ix2 (Fin.ext (by simp only; omega)) rfl)
  · rw [dif_neg hs, dif_pos (by omega), kvAt_at]
    exact congrArg x4 (congrArg₂ ix2 (Fin.ext (by simp only; omega)) rfl)

/-- A tile's entry, in the block's own coordinates. -/
theorem tileB_at (i : grid0.Coords) (x4 : Vec Ideal S512x4608 .f32) (x5 : Vec Ideal S128x512 .f32) (x12 : Vec Ideal S2x4x256x1024 .f32)
    (x13 : Vec Ideal S4x1x1024 .f32) (r h : Fin 4) (x : S128x512.Idx) (R : Fin 512) (C : Fin 2048)
    (hR : R.val = 128 * r.val + (x 0).val) (hC : C.val = 512 * h.val + (x 1).val) :
    tileB i x4 x5 x12 x13 r h x =
      x4 (ix2 R ⟨2560 + C.val, by omega⟩) * Ideal.logistic (x4 (ix2 R ⟨2560 + C.val, by omega⟩)) *
      attK (fun e => x4 (ix2 R ⟨C.val / 64 * 64 + e.val, by omega⟩))
        (fun s e => kvRow x4 x5 R s ⟨64 * (C.val / 512) + e.val, by omega⟩)
        (fun s => kvRow x4 x5 R s ⟨256 + 64 * (C.val / 512) + C.val % 64, by omega⟩)
        (fun s => x12 (ix4 (tblOf i R) ⟨C.val / 512, by omega⟩ s ⟨C.val / 64 % 8 * 128 + R.val % 128, by omega⟩))
        (x13 (ix3 ⟨C.val / 512, by omega⟩ 0 ⟨C.val / 64 % 8 * 128 + R.val % 128, by omega⟩)) := by
  have hx0 : (x 0).val < 128 := (x 0).isLt
  unfold tileB
  have hrest : ∀ s c, penRest x12 h (ix4 0 0 s c) = x12 (ix4 1 h s c) := fun s c => penAt_at x12 1 h.val (by omega) h.isLt _ s c
  fin_cases r
  · have hlt : R.val < 128 := by simp only [Fin.zero_eta, Fin.val_zero] at hR; omega
    have ht : tblOf i R = ⟨min (i 1).val 1, by omega⟩ := if_pos hlt
    rw [ht]
    exact attTile_core x4 _ x5 _ x12 x13 0 h _ x R C hR hC (both_first x4 x5 R hlt) (penFirst_at i x12 h)
  · have hR' : R.val = 128 * 1 + (x 0).val := hR
    rw [show tblOf i R = 1 from if_neg (by omega)]
    exact attTile_core x4 _ x5 _ x12 x13 1 h _ x R C hR hC (both_rest x4 x5 1 0 rfl R (by show _ = 1; omega)) hrest
  · have hR' : R.val = 128 * 2 + (x 0).val := hR
    rw [show tblOf i R = 1 from if_neg (by omega)]
    exact attTile_core x4 _ x5 _ x12 x13 2 h _ x R C hR hC (both_rest x4 x5 2 1 rfl R (by show _ = 2; omega)) hrest
  · have hR' : R.val = 128 * 3 + (x 0).val := hR
    rw [show tblOf i R = 1 from if_neg (by omega)]
    exact attTile_core x4 _ x5 _ x12 x13 3 h _ x R C hR hC (both_rest x4 x5 3 2 rfl R (by show _ = 3; omega)) hrest

theorem outB_at (i : grid0.Coords) (x4 : Vec Ideal S512x4608 .f32) (x5 : Vec Ideal S128x512 .f32) (x12 : Vec Ideal S2x4x256x1024 .f32)
    (x13 : Vec Ideal S4x1x1024 .f32) (R : Fin 512) (C : Fin 2048) :
    outB i x4 x5 x12 x13 (ix2 R C) =
      x4 (ix2 R ⟨2560 + C.val, by omega⟩) * Ideal.logistic (x4 (ix2 R ⟨2560 + C.val, by omega⟩)) *
      attK (fun e => x4 (ix2 R ⟨C.val / 64 * 64 + e.val, by omega⟩))
        (fun s e => kvRow x4 x5 R s ⟨64 * (C.val / 512) + e.val, by omega⟩)
        (fun s => kvRow x4 x5 R s ⟨256 + 64 * (C.val / 512) + C.val % 64, by omega⟩)
        (fun s => x12 (ix4 (tblOf i R) ⟨C.val / 512, by omega⟩ s ⟨C.val / 64 % 8 * 128 + R.val % 128, by omega⟩))
        (x13 (ix3 ⟨C.val / 512, by omega⟩ 0 ⟨C.val / 64 % 8 * 128 + R.val % 128, by omega⟩)) := by
  unfold outB piecesB
  canon_tiles x h
  all_goals
    change R.val = _ at h0
    change C.val = _ at h1
    refine tileB_at i x4 x5 x12 x13 _ _ x R C ?_ ?_
    · show _ = 128 * _ + _; omega
    · show _ = 512 * _ + _; omega
end Cert.KernelIdeal.Hand
end
-- ==== Proof.AttArr.lean ====
module

public import proofs.«01_k».proof.Proof.AttBlk
public import proofs.«01_k».proof.Proof.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
variable (m : (ℓ : Loc nD τ sig) → Buf (Elt Ideal) ℓ)
theorem tr2 : ∀ t : Fin cfg0.N, cc0_transform_2 (grid0.coords t) = ![512 * t.val, 4096] := (by decide +kernel : ∀ t : Fin grid0.N, _)
theorem idx2 : ∀ t : Fin cfg0.N, win0_2.index t = ![512 * t.val, 4096] := (by decide +kernel : ∀ t : Fin grid0.N, _)
theorem idx3 : ∀ t : Fin cfg0.N, win0_3.index t = ![4 * t.val - 1, 12] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![32 * t.val - 1, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem coord1 : ∀ t : Fin cfg0.N, (grid0.coords t 1).val = t.val % 8 := (by decide +kernel : ∀ t : Fin grid0.N, _)
theorem N16 : cfg0.N = 16 := by decide +kernel
theorem x4_at (c : Dev nD) (t : Fin cfg0.N) (R : Fin 512) (j : Fin 4608) :
    (iblk m c 2 t : Vec Ideal S512x4608 .f32) (ix2 R j) = (m (c, main_arg0) : Vec Ideal S9216x16896 .f32) (ix2 ⟨512 * t.val + R.val, by have ht : t.val < 16 := lt_of_lt_of_eq t.isLt N16; omega⟩ ⟨4096 + j.val, by omega⟩) := by
  blk_simp [iblk, V, idx2 t]
  blk_ext
  · change win0_2.index t 0 + 1 * _ = _
    rw [idx2 t]; simp
  · change win0_2.index t 1 + 1 * _ = _
    rw [idx2 t]; simp
theorem x5_at (c : Dev nD) (t : Fin cfg0.N) (R : Fin 128) (j : Fin 512) :
    (iblk m c 3 t : Vec Ideal S128x512 .f32) (ix2 R j) = (m (c, main_arg0) : Vec Ideal S9216x16896 .f32) (ix2 ⟨(4 * t.val - 1) * 128 + R.val, by have ht : t.val < 16 := lt_of_lt_of_eq t.isLt N16; omega⟩ ⟨6144 + j.val, by omega⟩) := by
  blk_point [iblk, V, idx3 t]

/-- Head `n`'s slope. -/
def slope (n : ℕ) : EReal :=
  Ideal.pow (Ideal.ofBits FTy.f32 1073741824#32)
    (Ideal.div (Ideal.ofBits FTy.f32 3238002688#32 * (FloatOps.sitofp (F := Ideal) FTy.f32 (BitVec.ofNat 32 n) + 1))
      (Ideal.ofBits FTy.f32 1107296256#32))

theorem V_v8 (c : Dev nD) (n : Fin 32) : (V m c main_v8 : Vec Ideal S32 .f32) (ix1 n) = slope n.val := by
  simp only [V, V0, hostOps0, List.flatten_cons, List.flatten_nil, List.append_nil]
  after_results_simp
  pointwise
  rfl
theorem V_v13 (c : Dev nD) (n : Fin 32) : (V m c main_v13 : Vec Ideal S32 .f32) (ix1 n) = (m (c, main_arg3) : Vec Ideal S1x32 .f32) (ix2 0 n) := by
  simp only [V, V0, hostOps0, List.flatten_cons, List.flatten_nil, List.append_nil]
  after_results_simp
  pointwise
theorem V_v10 (c : Dev nD) (g : Fin 4) (j e : Fin 512)  : (V m c main_v10 : Vec Ideal S4x512x512 .bf16) (ix3 g j e) = (m (c, main_arg1) : Vec Ideal S1x4x512x512 .f32) (ix4 0 g j e) := by
  simp only [V, V0, hostOps0, List.flatten_cons, List.flatten_nil, List.append_nil]
  after_results_simp
  pointwise
theorem V_v12 (c : Dev nD) (n : Fin 2048) : (V m c main_v12 : Vec Ideal S1x2048 .f32) (ix2 0 n) = (m (c, main_arg2) : Vec Ideal S1x2048 .f32) (ix2 0 n) := by
  simp only [V, V0, hostOps0, List.flatten_cons, List.flatten_nil, List.append_nil]
  after_results_simp
  pointwise

theorem slopes_at (c : Dev nD) (n : Fin 32) : (iblk m c 0 t0_0 : Vec Ideal S32 .f32) (ix1 n) = slope n.val := by
  blk_simp [iblk]
  refine Eq.trans (congrArg (V m c main_v8 : Vec Ideal S32 .f32) (funext fun a => Fin.ext ?_ : _ = ix1 n)) (V_v8 m c n)
  fin_cases a
  simp only [Fin.zero_eta]
  change win0_0.index t0_0 0 * 32 + 1 * n.val = n.val
  rw [show win0_0.index t0_0 0 = 0 from by decide +kernel]
  omega
theorem sinks_at (c : Dev nD) (n : Fin 32) : (iblk m c 1 t0_0 : Vec Ideal S32 .f32) (ix1 n) = (m (c, main_arg3) : Vec Ideal S1x32 .f32) (ix2 0 n) := by
  blk_simp [iblk]
  refine Eq.trans (congrArg (V m c main_v13 : Vec Ideal S32 .f32) (funext fun a => Fin.ext ?_ : _ = ix1 n)) (V_v13 m c n)
  fin_cases a
  simp only [Fin.zero_eta]
  change win0_1.index t0_0 0 * 32 + 1 * n.val = n.val
  rw [show win0_1.index t0_0 0 = 0 from by decide +kernel]
  omega
theorem x8_at (c : Dev nD) (t : Fin cfg0.N) (g : Fin 4) (j e : Fin 512) :
    (iblk m c 6 t : Vec Ideal S4x512x512 .bf16) (ix3 g j e) = (m (c, main_arg1) : Vec Ideal S1x4x512x512 .f32) (ix4 0 g j e) := by
  blk_simp [iblk]
  refine Eq.trans (congrArg (V m c main_v10 : Vec Ideal S4x512x512 .bf16) (funext fun a => Fin.ext ?_ : _ = ix3 g j e)) (V_v10 m c g j e)
  fin_cases a <;> simp [idx6 t]
theorem x9_at (c : Dev nD) (t : Fin cfg0.N) (n : Fin 2048) :
    (iblk m c 7 t : Vec Ideal S1x2048 .f32) (ix2 0 n) = (m (c, main_arg2) : Vec Ideal S1x2048 .f32) (ix2 0 n) := by
  blk_simp [iblk]
  refine Eq.trans (congrArg (V m c main_v12 : Vec Ideal S1x2048 .f32) (funext fun a => Fin.ext ?_ : _ = ix2 0 n)) (V_v12 m c n)
  fin_cases a <;> simp [idx7 t]
theorem x6_at (c : Dev nD) (t : Fin cfg0.N) (R : Fin 512) (j : Fin 4096) :
    (X0_4 m c t : Vec Ideal S512x4096 .f32) (ix2 R j) = (m (c, main_arg0) : Vec Ideal S9216x16896 .f32) (ix2 ⟨512 * t.val + R.val, by have ht : t.val < 16 := lt_of_lt_of_eq t.isLt N16; omega⟩ ⟨j.val, by omega⟩) := by
  unfold X0_4 Pipeline.Window.fill
  refine (dif_pos (moved0_4 t (ix2 R j))).trans ?_
  blk_point [iblk, V, idx4 t]
theorem x7_at (c : Dev nD) (t : Fin cfg0.N) (R : Fin 16) (j : Fin 2048) :
    (X0_5 m c t : Vec Ideal S16x2048 .f32) (ix2 R j) = (m (c, main_arg0) : Vec Ideal S9216x16896 .f32) (ix2 ⟨(32 * t.val - 1) * 16 + R.val, by have ht : t.val < 16 := lt_of_lt_of_eq t.isLt N16; omega⟩ ⟨j.val, by omega⟩) := by
  unfold X0_5 Pipeline.Window.fill
  refine (dif_pos (moved0_5 t (ix2 R j))).trans ?_
  blk_point [iblk, V, idx5 t]

/-- The row of the projections that holds row `s` of the keys and values of row `R`. -/
def kvIdx (R : Fin 8192) (s : Fin 256) : Fin 9216 :=
  ⟨if 128 ≤ R.val / 128 * 128 + s.val then R.val / 128 * 128 + s.val - 128 else s.val, by split <;> omega⟩

/-- Which half of the table of penalties row `R` reads: the first at a sequence's start. -/
def tblRow (R : Fin 8192) : Fin 2 := if R.val % 4096 < 128 then 0 else 1

/-- An entry of the attention's result, from the projections `P` and the sinks `S`. -/
def bK (P : Vec Ideal S9216x16896 .f32) (S : Vec Ideal S1x32 .f32) (R : Fin 8192) (C : Fin 2048) : EReal :=
  P (ix2 ⟨R.val, by omega⟩ ⟨6656 + C.val, by omega⟩) * Ideal.logistic (P (ix2 ⟨R.val, by omega⟩ ⟨6656 + C.val, by omega⟩)) *
  attK (fun e => P (ix2 ⟨R.val, by omega⟩ ⟨4096 + (C.val / 64 * 64 + e.val), by omega⟩))
    (fun s e => P (ix2 (kvIdx R s) ⟨6144 + (64 * (C.val / 512) + e.val), by omega⟩))
    (fun s => P (ix2 (kvIdx R s) ⟨6400 + (64 * (C.val / 512) + C.val % 64), by omega⟩))
    (fun s => penW (penBase (tblRow R)) (slope (C.val / 64)) s ⟨R.val % 128, by omega⟩)
    (S (ix2 0 ⟨C.val / 64, by omega⟩))

theorem kvRow_at (c : Dev nD) (t : Fin cfg0.N) (R' : Fin 512) (R : Fin 8192) (hR : R.val = 512 * t.val + R'.val) (s : Fin 256) (j : Fin 512) :
    kvRow (iblk m c 2 t) (iblk m c 3 t) R' s j = (m (c, main_arg0) : Vec Ideal S9216x16896 .f32) (ix2 (kvIdx R s) ⟨6144 + j.val, by omega⟩) := by
  have ht : t.val < 16 := lt_of_lt_of_eq t.isLt N16
  unfold kvRow
  by_cases h : 128 ≤ R'.val / 128 * 128 + s.val
  · rw [dif_pos h, x4_at]
    refine congrArg _ (congrArg₂ ix2 (Fin.ext ?_) (Fin.ext (by simp only; omega)))
    unfold kvIdx
    simp only
    rw [if_pos (by omega)]; omega
  · rw [dif_neg h, x5_at]
    refine congrArg _ (congrArg₂ ix2 (Fin.ext ?_) rfl)
    unfold kvIdx
    simp only
    split <;> omega

/-- A block's entry, from what its parts hold. -/
theorem outB_core (i : grid0.Coords) (x4 : Vec Ideal S512x4608 .f32) (x5 : Vec Ideal S128x512 .f32) (x12 : Vec Ideal S2x4x256x1024 .f32)
    (x13 : Vec Ideal S4x1x1024 .f32) (P : Vec Ideal S9216x16896 .f32) (S : Vec Ideal S1x32 .f32) (R' : Fin 512) (C : Fin 2048) (R : Fin 8192)
    (hm : R'.val % 128 = R.val % 128)
    (hx4 : ∀ j : Fin 4608, x4 (ix2 R' j) = P (ix2 ⟨R.val, by omega⟩ ⟨4096 + j.val, by omega⟩))
    (hkv : ∀ s (j : Fin 512), kvRow x4 x5 R' s j = P (ix2 (kvIdx R s) ⟨6144 + j.val, by omega⟩))
    (hpen : ∀ (h : Fin 4) s (a : Fin 1024), x12 (ix4 (tblOf i R') h s a) = penW (penBase (tblRow R)) (slope (8 * h.val + a.val / 128)) s ⟨a.val % 128, by omega⟩)
    (hsnk : ∀ (h : Fin 4) (a : Fin 1024), x13 (ix3 h 0 a) = S (ix2 0 ⟨8 * h.val + a.val / 128, by omega⟩)) :
    outB i x4 x5 x12 x13 (ix2 R' C) = bK P S R C := by
  rw [outB_at]
  unfold bK
  have hz : x4 (ix2 R' ⟨2560 + C.val, by omega⟩) = P (ix2 ⟨R.val, by omega⟩ ⟨6656 + C.val, by omega⟩) := by
    rw [hx4]; exact congrArg _ (congrArg₂ ix2 rfl (Fin.ext (by simp only; omega)))
  refine congrArg₂ (· * ·) (congrArg₂ (· * ·) hz (congrArg _ hz)) ?_
  congr 1
  · funext e
    rw [hx4]
  · funext s e
    rw [hkv]
  · funext s
    rw [hkv]; exact congrArg _ (congrArg₂ ix2 rfl (Fin.ext (by simp only; omega)))
  · funext s
    rw [hpen]
    refine congrArg₂ (fun n a => penW (penBase (tblRow R)) (slope n) s a) ?_ (Fin.ext ?_)
    · simp only; omega
    · simp only; omega
  · rw [hsnk]
    refine congrArg _ (congrArg (ix2 0) (Fin.ext ?_))
    simp only; omega

theorem tbl_at (t : Fin cfg0.N) (R' : Fin 512) (R : Fin 8192) (hR : R.val = 512 * t.val + R'.val) : tblOf (grid0.coords t) R' = tblRow R := by
  have ht : t.val < 16 := lt_of_lt_of_eq t.isLt N16
  have h1 := coord1 t
  unfold tblOf tblRow
  by_cases h : R'.val < 128
  · rw [if_pos h]
    by_cases h2 : R.val % 4096 < 128
    · rw [if_pos h2]; apply Fin.ext; show min _ 1 = 0; omega
    · rw [if_neg h2]; apply Fin.ext; show min _ 1 = 1; omega
  · rw [if_neg h, if_neg (by omega)]

theorem outBAt_at (c : Dev nD) (t : Fin cfg0.N) (R' : Fin 512) (C : Fin 2048) (R : Fin 8192) (hR : R.val = 512 * t.val + R'.val) :
    outBAt m c t (ix2 R' C) = bK (m (c, main_arg0)) (m (c, main_arg3)) R C := by
  unfold outBAt
  refine outB_core _ _ _ _ _ _ _ R' C R (by omega) (fun j => (x4_at m c t R' j).trans ?_) (kvRow_at m c t R' R hR) (fun h s a => ?_) (fun h a => ?_)
  · exact congrArg _ (congrArg₂ ix2 (Fin.ext hR.symm) rfl)
  · exact (penTab_at _ _ h s a).trans (by rw [tbl_at t R' R hR]; exact congrArg (fun v => penW _ v s _) (slopes_at m c _))
  · exact (snkTab_at _ h a).trans (sinks_at m c _)

theorem point_b (c : Dev nD) (t : Fin cfg0.N) (y : S512x2048.Idx) (R : Fin 8192) (C : Fin 2048) (hR : R.val = 512 * t.val + (y 0 : ℕ)) (hC : C.val = (y 1 : ℕ)) :
    outBAt m c t y = bK (m (c, main_arg0)) (m (c, main_arg3)) R C := by
  have hy0 : (y 0 : ℕ) < 512 := (y 0).isLt
  have hy : y = ix2 ⟨(y 0 : ℕ), hy0⟩ C := by
    funext a; apply Fin.ext; fin_cases a
    · rfl
    · exact hC.symm
  exact (congrArg (outBAt m c t) hy).trans (outBAt_at m c t ⟨(y 0 : ℕ), hy0⟩ C R hR)

/-- The attention's array after the run: the two sequences' rows as computed, the rest as at entry. -/
theorem arr_b (c : Dev nD) : ((dats m 0 c).arrAt 8 (cfgs 0).N : Vec Ideal S9216x2048 .bf16)
    = fun i => if (i 0 : ℕ) / 512 < 16 then bK (m (c, main_arg0)) (m (c, main_arg3)) ⟨min (i 0 : ℕ) 8191, by omega⟩ (i 1)
        else (V m c main_v14_0 : Vec Ideal S9216x2048 .bf16) i := by
  refine (dats m 0 c).arrAt_eq_of_coversWhere 8
    (fun i : S9216x2048.Idx => (bK (m (c, main_arg0)) (m (c, main_arg3)) ⟨min (i 0 : ℕ) 8191, by omega⟩ (i 1) : EReal))
    (fun β => β (0 : Fin 2) < 16) (by decide +kernel) (fun t hf y => ?_) (fun j => Iff.rfl)
  blk_simp
  rw [after_8]
  have ht : t.val < 16 := lt_of_lt_of_eq t.isLt N16
  have hy0 : (y 0 : ℕ) < 512 := (y 0).isLt
  have e0 : win0_8.index t 0 = t.val := congrFun (idx8 t) 0
  have e1 : win0_8.index t 1 = 0 := congrFun (idx8 t) 1
  have hb : min (win0_8.index t 0 * 512 + (y 0 : ℕ)) 8191 < 8192 := by omega
  have hR : (⟨min (win0_8.index t 0 * 512 + (y 0 : ℕ)) 8191, hb⟩ : Fin 8192).val = 512 * t.val + (y 0 : ℕ) := by
    show min (win0_8.index t 0 * 512 + (y 0 : ℕ)) 8191 = _
    omega
  have hC : (((win0_8.blk t).view.emb y 1 : Fin 2048)).val = (y 1 : ℕ) := by
    change win0_8.index t 1 * 2048 + 1 * (y 1 : ℕ) = _
    omega
  exact point_b m c t y _ _ hR hC
end Cert.KernelIdeal.Hand
end
-- ==== Proof.PoolTile.lean ====
module

public import proofs.«01_k».proof.Proof.Tiles
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

/-- The sum of the `2^n` entries of `f` up to `r`, by doublings. -/
def win (f : ℕ → EReal) : ℕ → ℕ → EReal
  | 0, r => f r
  | n + 1, r => win f n r + win f n (r - 2 ^ n)

theorem win_sum (f : ℕ → EReal) (n : ℕ) : ∀ r, 2 ^ n ≤ r + 1 → win f n r = ∑ d ∈ Finset.range (2 ^ n), f (r - d) := by
  induction n with
  | zero => intro r _; simp [win]
  | succ n ih =>
    intro r hr
    have h2 : 2 ^ (n + 1) = 2 ^ n + 2 ^ n := by ring
    rw [win, ih r (by omega), ih (r - 2 ^ n) (by omega), h2, Finset.sum_range_add]
    refine congrArg _ (Finset.sum_congr rfl fun d _ => congrArg f (by omega))

theorem dbl_at (k : BitVec 32) (s : FVec Ideal S528x512 .f32) (r : Fin 528) (j : Fin 512) (hk : k.toNat < 528) (hr : k.toNat ≤ r.val) :
    dbl k s (ix2 r j) = s (ix2 r j) + s (ix2 ⟨r.val - k.toNat, by omega⟩ j) := by
  pointwise [dbl]
  refine congrArg _ (congrArg s (congrArg₂ ix2 (Fin.ext ?_) rfl))
  have := r.isLt
  simp only [Nat.mod_eq_of_lt hk]
  omega

/-- Column `j` of the rows as a function of the row's number. -/
def colOf (s : FVec Ideal S528x512 .f32) (j : Fin 512) (r : ℕ) : EReal := if h : r < 528 then s (ix2 ⟨r, h⟩ j) else 0

theorem dbl_win (n : ℕ) (hn : n < 4) (s s' : FVec Ideal S528x512 .f32) (j : Fin 512) (lo : ℕ)
    (h : ∀ r : Fin 528, lo ≤ r.val → s' (ix2 r j) = win (colOf s j) n r.val) (r : Fin 528) (hr : lo + 2 ^ n ≤ r.val)
    (k : BitVec 32) (hk : k.toNat = 2 ^ n) :
    dbl k s' (ix2 r j) = win (colOf s j) (n + 1) r.val := by
  have := r.isLt
  rw [dbl_at k s' r j (by omega) (by omega), win, h r (by omega), h _ (by show lo ≤ r.val - k.toNat; omega)]; simp only [hk]

theorem winSum_at (s : FVec Ideal S528x512 .f32) (g : Fin 4) (r : Fin 528) (hr : 15 ≤ r.val) (j : Fin 512) :
    winSum s g (ix2 r j) = win (colOf s j) (g.val + 1) r.val := by
  have h0 : ∀ r : Fin 528, 0 ≤ r.val → s (ix2 r j) = win (colOf s j) 0 r.val := fun r _ => by
    rw [win, colOf, dif_pos r.isLt]
  have h1 := fun (r : Fin 528) (hr : 1 ≤ r.val) => dbl_win 0 (by omega) s s j 0 h0 r (by omega) 1#32 rfl
  have h2 := fun (r : Fin 528) (hr : 3 ≤ r.val) => dbl_win 1 (by omega) s _ j 1 h1 r (by omega) 2#32 rfl
  have h3 := fun (r : Fin 528) (hr : 7 ≤ r.val) => dbl_win 2 (by omega) s _ j 3 h2 r (by omega) 4#32 rfl
  have h4 := fun (r : Fin 528) (hr : 15 ≤ r.val) => dbl_win 3 (by omega) s _ j 7 h3 r (by omega) 8#32 rfl
  fin_cases g
  · exact h1 r (by omega)
  · exact h2 r (by omega)
  · exact h3 r (by omega)
  · exact h4 r (by omega)

/-- A row of the rows before the block and the block. -/
def extAt (i : grid0.Coords) (x6 : Vec Ideal S512x4096 .f32) (x7 : Vec Ideal S16x2048 .f32) (r : Fin 528) (c : Fin 2048) : EReal :=
  if h : r.val < 16 then (if (i 1).val = 0 then 0 else x7 (ix2 ⟨r.val, h⟩ c)) else x6 (ix2 ⟨r.val - 16, by omega⟩ ⟨c.val, by omega⟩)

theorem ext_at (i : grid0.Coords) (x6 : Vec Ideal S512x4096 .f32) (x7 : Vec Ideal S16x2048 .f32) (a : Fin 528) (e : Fin 2048) :
    extRows i x6 x7 (ix2 a e) = extAt i x6 x7 a e := by
  unfold extAt
  have hi : (i 1).val < 8 := (i 1).isLt
  have hs : ∀ v : EReal, Scalar.select (Scalar.cmpi CmpIPredicate.eq (BitVec.ofNat 32 ↑(i 1)) 0#32) 0 v = if (i 1).val = 0 then 0 else v := by
    intro v
    generalize (i 1).val = n at hi
    interval_cases n <;> rfl
  pointwise [extRows, halo, uBlk]
  simp only [hs]

/-- An entry of the pooling's block, from what the window covers, the gate, the group's matrix and the scale. -/
theorem tileA_at (i : grid0.Coords) (x6 : Vec Ideal S512x4096 .f32) (x7 : Vec Ideal S16x2048 .f32) (x8 : Vec Ideal S4x512x512 .bf16)
    (x9 : Vec Ideal S1x2048 .f32) (g : Fin 4) (a e : Fin 512) : tileA i x6 x7 x8 x9 g (ix2 a e) =
      x6 (ix2 a ⟨2048 + (512 * g.val + e.val), by omega⟩) * Ideal.logistic (x6 (ix2 a ⟨2048 + (512 * g.val + e.val), by omega⟩)) *
      ((∑ x : Fin 512,
          (Ideal.div (∑ d ∈ Finset.range (2 ^ (g.val + 1)), if h : 16 + a.val - d < 528 then extAt i x6 x7 ⟨16 + a.val - d, h⟩ ⟨512 * g.val + x.val, by omega⟩ else 0)
                (FloatOps.sitofp (F := Ideal) FTy.f32
                  (IntOp.minsi (winLen g)
                    (IntOp.addi (IntOp.addi (Scalar.muli (BitVec.ofNat 32 ↑(i 1)) 512#32) (BitVec.ofNat 32 ↑a)) 1#32))) -
              x6 (ix2 a ⟨512 * g.val + x.val, by omega⟩)) *
            x8 (ix3 g x e)) *
        x9 (ix2 0 ⟨512 * g.val + e.val, by omega⟩)) := by
  have h2 : 2 ^ (g.val + 1) ≤ 16 := by
    have := g.isLt
    calc 2 ^ (g.val + 1) ≤ 2 ^ 4 := Nat.pow_le_pow_right (by omega) (by omega)
      _ = 16 := rfl
  have hw : ∀ x : Fin 512, winSum (extractStridedSlice S528x512 ![0, 512 * g.val] (extRows i x6 x7) (sl_e g)) g (ix2 ⟨16 + a.val, by omega⟩ x)
      = ∑ d ∈ Finset.range (2 ^ (g.val + 1)), if h : 16 + a.val - d < 528 then extAt i x6 x7 ⟨16 + a.val - d, h⟩ ⟨512 * g.val + x.val, by omega⟩ else 0 := by
    intro x
    rw [winSum_at _ g _ (by show 15 ≤ 16 + a.val; omega), win_sum _ _ _ (by show _ ≤ 16 + a.val + 1; omega)]
    refine Finset.sum_congr rfl fun d _ => ?_
    unfold colOf
    by_cases h : 16 + a.val - d < 528
    · rw [dif_pos h, dif_pos h, ← ext_at]
      pointwise
    · rw [dif_neg h, dif_neg h]
  pointwise [tileA, pooled, zaBlk, uBlk, rowPos]
  simp only [hw]
end Cert.KernelIdeal.Hand
end
-- ==== Proof.PoolArr.lean ====
module

public import proofs.«01_k».proof.Proof.AttArr
public import proofs.«01_k».proof.Proof.PoolTile
public import Idealize.ShloMosaic.Lib.Pipeline.ValueKit
public import Idealize.ShloMosaic.Lib.WordArith

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The row `d` above row `R`, at column `c`: zero above the sequence's start. -/
def uAt (P : Vec Ideal S9216x16896 .f32) (R : Fin 8192) (d : ℕ) (c : Fin 2048) : EReal :=
  if d ≤ R.val % 4096 then P (ix2 ⟨R.val - d, by omega⟩ ⟨c.val, by omega⟩) else 0

/-- How many rows the window of length `w` covers at row `R`, as a number. -/
def cnt (w : ℕ) (R : Fin 8192) : EReal := FloatOps.sitofp (F := Ideal) FTy.f32 (BitVec.ofNat 32 (min w (R.val % 4096 + 1)))

/-- An entry of the pooling's result, from the projections `P`, the matrices `W` and the scales `S`. -/
def aK (P : Vec Ideal S9216x16896 .f32) (W : Vec Ideal S1x4x512x512 .f32) (S : Vec Ideal S1x2048 .f32) (R : Fin 8192) (C : Fin 2048) : EReal :=
  P (ix2 ⟨R.val, by omega⟩ ⟨2048 + C.val, by omega⟩) * Ideal.logistic (P (ix2 ⟨R.val, by omega⟩ ⟨2048 + C.val, by omega⟩)) *
  ((∑ x : Fin 512, (Ideal.div (∑ d ∈ Finset.range (2 ^ (C.val / 512 + 1)), uAt P R d ⟨512 * (C.val / 512) + x.val, by omega⟩) (cnt (2 ^ (C.val / 512 + 1)) R)
      - P (ix2 ⟨R.val, by omega⟩ ⟨512 * (C.val / 512) + x.val, by omega⟩)) * W (ix4 0 ⟨C.val / 512, by omega⟩ x ⟨C.val % 512, by omega⟩))
    * S (ix2 0 C))

theorem word_min (a b : ℕ) (ha : a < 2 ^ 31) (hb : b < 2 ^ 31) : IntOp.minsi (BitVec.ofNat 32 a) (BitVec.ofNat 32 b) = BitVec.ofNat 32 (min a b) := by
  have ea : (BitVec.ofNat 32 a).toNat = a := Nat.mod_eq_of_lt (by omega)
  have eb : (BitVec.ofNat 32 b).toNat = b := Nat.mod_eq_of_lt (by omega)
  apply BitVec.eq_of_toNat_eq
  refine (Idealize.ShloMosaic.WordArith.toNat_minsi_of_lt _ _ (by omega) (by omega)).trans ?_
  rw [ea, eb]
  exact (Nat.mod_eq_of_lt (by omega)).symm

theorem cnt_word (g : Fin 4) (n a : ℕ) (hn : n < 8) (ha : a < 512) :
    IntOp.minsi (winLen g) (IntOp.addi (IntOp.addi (Scalar.muli (BitVec.ofNat 32 n) 512#32) (BitVec.ofNat 32 a)) 1#32)
      = BitVec.ofNat 32 (min (2 ^ (g.val + 1)) (512 * n + a + 1)) := by
  have h1 : IntOp.addi (IntOp.addi (Scalar.muli (BitVec.ofNat 32 n) 512#32) (BitVec.ofNat 32 a)) 1#32 = BitVec.ofNat 32 (512 * n + a + 1) := by
    show (BitVec.ofNat 32 n * 512#32 + BitVec.ofNat 32 a) + 1#32 = _
    rw [show (512#32 : BitVec 32) = BitVec.ofNat 32 512 from rfl, show (1#32 : BitVec 32) = BitVec.ofNat 32 1 from rfl,
      ← BitVec.ofNat_mul, ← BitVec.ofNat_add, ← BitVec.ofNat_add]
    congr 1; omega
  have h2 : winLen g = BitVec.ofNat 32 (2 ^ (g.val + 1)) := by fin_cases g <;> rfl
  rw [h1, h2]
  refine word_min _ _ ?_ (by omega)
  fin_cases g <;> decide

theorem extAt_eq (c : Dev nD) (t : Fin cfg0.N) (a : Fin 512) (R : Fin 8192) (hR : R.val = 512 * t.val + a.val) (d : ℕ) (hd : d < 16)
    (h : 16 + a.val - d < 528) (j : Fin 2048) :
    extAt (grid0.coords t) (X0_4 m c t) (X0_5 m c t) ⟨16 + a.val - d, h⟩ j = uAt (m (c, main_arg0)) R d j := by
  have ht : t.val < 16 := lt_of_lt_of_eq t.isLt N16
  have h1 := coord1 t
  unfold extAt uAt
  by_cases hlt : 16 + a.val - d < 16
  · rw [dif_pos hlt]
    by_cases h0 : (grid0.coords t 1).val = 0
    · rw [if_pos h0, if_neg (by omega)]
    · rw [if_neg h0, if_pos (by omega), x7_at]
      refine congrArg _ (congrArg₂ ix2 (Fin.ext ?_) rfl)
      simp only; omega
  · rw [dif_neg hlt, if_pos (by omega), x6_at]
    refine congrArg _ (congrArg₂ ix2 (Fin.ext ?_) rfl)
    simp only; omega

theorem pow_le (g : ℕ) (h : g < 4) : 2 ^ (g + 1) ≤ 16 :=
  le_trans (Nat.pow_le_pow_right (by omega) (by omega : g + 1 ≤ 4)) (by decide)

/-- A tile's entry, in the array's own coordinates. -/
theorem tileA_core (i : grid0.Coords) (x6 : Vec Ideal S512x4096 .f32) (x7 : Vec Ideal S16x2048 .f32) (x8 : Vec Ideal S4x512x512 .bf16)
    (x9 : Vec Ideal S1x2048 .f32) (P : Vec Ideal S9216x16896 .f32) (W : Vec Ideal S1x4x512x512 .f32) (S : Vec Ideal S1x2048 .f32)
    (g : Fin 4) (a e : Fin 512) (R : Fin 8192) (C : Fin 2048) (hC : C.val = 512 * g.val + e.val)
    (hpos : R.val % 4096 = 512 * (i 1).val + a.val)
    (h6 : ∀ j : Fin 4096, x6 (ix2 a j) = P (ix2 ⟨R.val, by omega⟩ ⟨j.val, by omega⟩))
    (hext : ∀ d, d < 16 → ∀ (h : 16 + a.val - d < 528) j, extAt i x6 x7 ⟨16 + a.val - d, h⟩ j = uAt P R d j)
    (h8 : ∀ j, x8 (ix3 g j e) = W (ix4 0 g j e)) (h9 : ∀ n, x9 (ix2 0 n) = S (ix2 0 n)) :
    tileA i x6 x7 x8 x9 g (ix2 a e) = aK P W S R C := by
  have hi : (i 1).val < 8 := (i 1).isLt
  have ha := a.isLt
  have eg : C.val / 512 = g.val := by omega
  have ee : C.val % 512 = e.val := by omega
  obtain ⟨C, hCl⟩ := C
  simp only at hC eg ee
  subst hC
  rw [tileA_at]
  unfold aK
  simp only [eg, ee, h6, h8, h9]
  have hcnt : FloatOps.sitofp (F := Ideal) FTy.f32 (IntOp.minsi (winLen g)
        (IntOp.addi (IntOp.addi (Scalar.muli (BitVec.ofNat 32 ↑(i 1)) 512#32) (BitVec.ofNat 32 ↑a)) 1#32)) = cnt (2 ^ (g.val + 1)) R := by
    rw [cnt_word g _ _ hi ha, cnt, hpos]
  have hsum : ∀ x : Fin 512, (∑ d ∈ Finset.range (2 ^ (g.val + 1)), if h : 16 + a.val - d < 528 then extAt i x6 x7 ⟨16 + a.val - d, h⟩ ⟨512 * g.val + x.val, by omega⟩ else 0)
      = ∑ d ∈ Finset.range (2 ^ (g.val + 1)), uAt P R d ⟨512 * g.val + x.val, by omega⟩ := fun x =>
    Finset.sum_congr rfl fun d hd => by
      have := pow_le g.val g.isLt
      have := Finset.mem_range.mp hd
      rw [dif_pos (by omega)]
      exact hext d (by omega) _ _
  simp only [hsum, hcnt]

theorem tileA_pt (c : Dev nD) (t : Fin cfg0.N) (g : Fin 4) (x : S512x512.Idx) (R : Fin 8192) (C : Fin 2048)
    (hR : R.val = 512 * t.val + (x 0).val) (hC : C.val = 512 * g.val + (x 1).val) :
    tileA (grid0.coords t) (X0_4 m c t) (X0_5 m c t) (iblk m c 6 t) (iblk m c 7 t) g x
      = aK (m (c, main_arg0)) (m (c, main_arg1)) (m (c, main_arg2)) R C := by
  have ht : t.val < 16 := lt_of_lt_of_eq t.isLt N16
  have h1 := coord1 t
  have hx0 : (x 0).val < 512 := (x 0).isLt
  have hx1 : (x 1).val < 512 := (x 1).isLt
  have hx : x = ix2 ⟨(x 0).val, hx0⟩ ⟨(x 1).val, hx1⟩ := by funext a; fin_cases a <;> rfl
  refine (congrArg _ hx).trans (tileA_core _ _ _ _ _ _ _ _ g _ _ R C hC (by rw [h1]; show R.val % 4096 = 512 * (t.val % 8) + (x 0).val; omega)
    (fun j => (x6_at m c t _ j).trans ?_) (fun d hd h j => extAt_eq m c t _ R hR d hd h j) (fun j => x8_at m c t g j _) (fun n => x9_at m c t n))
  exact congrArg _ (congrArg₂ ix2 (Fin.ext hR.symm) rfl)

theorem point_a (c : Dev nD) (t : Fin cfg0.N) (R' : Fin 512) (C : Fin 2048) (R : Fin 8192) (hR : R.val = 512 * t.val + R'.val) :
    outAAt m c t (ix2 R' C) = aK (m (c, main_arg0)) (m (c, main_arg1)) (m (c, main_arg2)) R C := by
  unfold outAAt outA piecesA
  canon_tiles x h
  all_goals
    change R'.val = _ at h0
    change C.val = _ at h1
    refine tileA_pt m c t _ x R C ?_ ?_
    · omega
    · show _ = 512 * _ + _; omega

/-- The pooling's array after the run. -/
theorem arr_a (c : Dev nD) : ((dats m 0 c).arrAt 9 (cfgs 0).N : Vec Ideal S9216x2048 .bf16)
    = fun i => if (i 0 : ℕ) / 512 < 16 then aK (m (c, main_arg0)) (m (c, main_arg1)) (m (c, main_arg2)) ⟨min (i 0 : ℕ) 8191, by omega⟩ (i 1)
        else (V m c main_v14_1 : Vec Ideal S9216x2048 .bf16) i := by
  refine (dats m 0 c).arrAt_eq_of_coversWhere 9
    (fun i : S9216x2048.Idx => (aK (m (c, main_arg0)) (m (c, main_arg1)) (m (c, main_arg2)) ⟨min (i 0 : ℕ) 8191, by omega⟩ (i 1) : EReal))
    (fun β => β (0 : Fin 2) < 16) (by decide +kernel) (fun t hf y => ?_) (fun j => Iff.rfl)
  blk_simp
  rw [after_9]
  have ht : t.val < 16 := lt_of_lt_of_eq t.isLt N16
  have hy0 : (y 0 : ℕ) < 512 := (y 0).isLt
  have e0 : win0_9.index t 0 = t.val := congrFun (idx9 t) 0
  have e1 : win0_9.index t 1 = 0 := congrFun (idx9 t) 1
  have hb : min (win0_9.index t 0 * 512 + (y 0 : ℕ)) 8191 < 8192 := by omega
  have hR : (⟨min (win0_9.index t 0 * 512 + (y 0 : ℕ)) 8191, hb⟩ : Fin 8192).val = 512 * t.val + (y 0 : ℕ) := by
    show min (win0_9.index t 0 * 512 + (y 0 : ℕ)) 8191 = _
    omega
  have hC : (((win0_9.blk t).view.emb y 1 : Fin 2048)).val = (y 1 : ℕ) := by
    change win0_9.index t 1 * 2048 + 1 * (y 1 : ℕ) = _
    omega
  have hy : (y : S512x2048.Idx) = ix2 ⟨(y 0 : ℕ), hy0⟩ ((win0_9.blk t).view.emb y 1 : Fin 2048) := by
    funext a; apply Fin.ext; fin_cases a
    · rfl
    · exact hC.symm
  exact (congrArg (outAAt m c t) hy).trans (point_a m c t _ _ _ hR)
end Cert.KernelIdeal.Hand
end
-- ==== Proof.Tail.lean ====
/-
   The kernel's two results after its run: the slices of the two arrays that the tiles filled.
-/
module

public import proofs.«01_k».proof.Proof.PoolArr

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- A row of the first 8192. -/
theorem slice_row (f : Vec Ideal S9216x2048 .bf16) (i : S8192x2048.Idx) :
    extractStridedSlice S8192x2048 ![0, 0] f slices_S9216x2048_S8192x2048_0_0 i
      = f (ix2 ⟨(i 0 : ℕ), lt_trans (i 0).isLt (by decide)⟩ (i 1)) := by
  refine congrArg f (funext fun a => Fin.ext ?_)
  fin_cases a
  · show 0 + (i 0 : ℕ) = _; exact Nat.zero_add _
  · show 0 + (i 1 : ℕ) = _; exact Nat.zero_add _

/-- The attention's result. -/
theorem tail_b (c : Dev nD) : (Pipeline.afterTail₀ cfgs (dats m) 0 (V0 m) [hostOps1] c main_v15 : Vec Ideal S8192x2048 .bf16)
    = fun i => bK (m (c, main_arg0)) (m (c, main_arg3)) (i 0) (i 1) := by
  unfold Pipeline.afterTail₀
  simp only [hostOps1, List.flatten_cons, List.flatten_nil, List.append_nil]
  after_results_simp
  have h := (Pipeline.Dat.withArrays_arrAt (dats m 0 c) sharedIn0 (V0 m c) (A_eq m c) 8).trans (arr_b m c)
  funext i
  have hi : (i 0 : ℕ) < 8192 := (i 0).isLt
  refine (slice_row _ i).trans ((congrFun h _).trans ?_)
  refine (if_pos (by show (i 0 : ℕ) / 512 < 16; omega)).trans ?_
  refine congrArg₂ (bK (m (c, main_arg0)) (m (c, main_arg3))) (Fin.ext ?_) rfl
  show min (i 0 : ℕ) 8191 = _
  omega

/-- The pooling's result. -/
theorem tail_a (c : Dev nD) : (Pipeline.afterTail₀ cfgs (dats m) 0 (V0 m) [hostOps1] c main_v16 : Vec Ideal S8192x2048 .bf16)
    = fun i => aK (m (c, main_arg0)) (m (c, main_arg1)) (m (c, main_arg2)) (i 0) (i 1) := by
  unfold Pipeline.afterTail₀
  simp only [hostOps1, List.flatten_cons, List.flatten_nil, List.append_nil]
  after_results_simp
  have h := (Pipeline.Dat.withArrays_arrAt (dats m 0 c) sharedIn0 (V0 m c) (A_eq m c) 9).trans (arr_a m c)
  funext i
  have hi : (i 0 : ℕ) < 8192 := (i 0).isLt
  refine (slice_row _ i).trans ((congrFun h _).trans ?_)
  refine (if_pos (by show (i 0 : ℕ) / 512 < 16; omega)).trans ?_
  refine congrArg₂ (aK (m (c, main_arg0)) (m (c, main_arg1)) (m (c, main_arg2))) (Fin.ext ?_) rfl
  show min (i 0 : ℕ) 8191 = _
  omega

/-- The run of the kernel: its two results, and its arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v15) = (fun i => bK (m (c, main_arg0)) (m (c, main_arg3)) (i 0) (i 1) : Vec Ideal S8192x2048 .bf16)
      ∧ r.2.mem ((c.tc : Thread nD τ).loc main_v16) = (fun i => aK (m (c, main_arg0)) (m (c, main_arg1)) (m (c, main_arg2)) (i 0) (i 1) : Vec Ideal S8192x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v15 (Pipeline.mem_restRefs_of main_v15 (by decide) (by decide))).trans (tail_b m c),
      ((h.1 c).2 main_v16 (Pipeline.mem_restRefs_of main_v16 (by decide) (by decide))).trans (tail_a m c),
      ((h.1 c).1 5).trans (((dats m 0 c).arrAt_in 5 rfl _).trans ((A_eq m c 5).trans (V_main_arg0 m c))),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c))⟩) (run_main m ρ)

end Cert.KernelIdeal.Hand

end
-- ==== Proof.AttEq.lean ====
/-
   The two attentions' equation over the extended reals: the kernel scales its query before the products, sends a key out of
   sight by an infinite penalty and divides once at the end; the plain one scales the products, selects minus infinity and
   divides every weight.  With real arguments they agree.
-/
module

public import proofs.«01_k».proof.Proof.AttArr

@[expose] public section

noncomputable section

namespace Cert.KernelIdeal.Hand

open Idealize.ShloMosaic

/-- An entry of the plain attention. -/
def attR (q : Fin 64 → EReal) (k : Fin 256 → Fin 64 → EReal) (v : Fin 256 → EReal) (ok : Fin 256 → BitVec 1) (d : Fin 256 → EReal) (snk : EReal) : EReal :=
  let l := fun s => Scalar.select (ok s) ((∑ e, k s e * q e) * Ideal.ofBits .f32 0x3E000000#32 - d s) (Ideal.ofBits .f32 0xFF800000#32)
  let mx := max (Finset.fold max (Ideal.ofBits .f32 0xFF800000#32) l Finset.univ) snk
  ∑ s, v s * Ideal.div (Ideal.exp (l s - mx)) (∑ s, Ideal.exp (l s - mx) + Ideal.exp (snk - mx))

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_eighth : ∃ x : ℝ, Ideal.ofBits .f32 0x3E000000#32 = x := by
  simp only [Ideal.ofBits, Ideal.ieee]
  simp
  exact ⟨_, (EReal.coe_mul _ _).symm⟩
theorem bits_two : ∃ x : ℝ, Ideal.ofBits .f32 0x40000000#32 = x := by
  simp [Ideal.ofBits, Ideal.ieee]
  exact ⟨_, (EReal.coe_mul _ _).symm⟩
theorem bits_minus_eight : ∃ x : ℝ, Ideal.ofBits .f32 0xC1000000#32 = x := by
  simp [Ideal.ofBits, Ideal.ieee]
  exact ⟨-(8388608 * (2 ^ 20 : ℝ)⁻¹), by rw [EReal.coe_neg, EReal.coe_mul]⟩
theorem bits_thirty_two : ∃ x : ℝ, x ≠ 0 ∧ Ideal.ofBits .f32 0x42000000#32 = x := by
  simp [Ideal.ofBits, Ideal.ieee]
  exact ⟨8388608 * (2 ^ 18 : ℝ)⁻¹, by positivity, by rw [EReal.coe_mul]⟩

theorem sel_pos {α : Type} {b : BitVec 1} (h : b = 1#1) (x y : α) : Scalar.select b x y = x := if_pos h
theorem sel_neg {α : Type} {b : BitVec 1} (h : b ≠ 1#1) (x y : α) : Scalar.select b x y = y := if_neg h

theorem coe_sum {ι : Type} (s : Finset ι) (G : ι → ℝ) : ∑ r ∈ s, (G r : EReal) = ((∑ r ∈ s, G r : ℝ) : EReal) := by
  classical
  induction s using Finset.induction_on with
  | empty => simp
  | insert a s ha ih => rw [Finset.sum_insert ha, Finset.sum_insert ha, ih, EReal.coe_add]

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- A logit that is a real number or minus infinity. -/
def Logit (x : EReal) : Prop := x = ⊥ ∨ ∃ r : ℝ, x = r

theorem Logit.max {x y : EReal} (hx : Logit x) (hy : Logit y) : Logit (Max.max x y) := by
  rcases le_total x y with h | h
  · rw [max_eq_right h]; exact hy
  · rw [max_eq_left h]; exact hx

theorem fold_logit (l : Fin 256 → EReal) (hl : ∀ s, Logit (l s)) (s : Finset (Fin 256)) : Logit (Finset.fold Max.max ⊥ l s) := by
  classical
  induction s using Finset.induction_on with
  | empty => exact Or.inl rfl
  | insert a s ha ih => rw [Finset.fold_insert ha]; exact (hl a).max ih

theorem max_real (x : EReal) (hx : Logit x) (r : ℝ) : ∃ y : ℝ, Max.max x (r : EReal) = y := by
  rcases hx with h | ⟨z, h⟩
  · exact ⟨r, by rw [h]; exact max_eq_right bot_le⟩
  · rw [h]
    rcases le_total z r with h' | h'
    · exact ⟨r, max_eq_right (EReal.coe_le_coe_iff.mpr h')⟩
    · exact ⟨z, max_eq_left (EReal.coe_le_coe_iff.mpr h')⟩

theorem exp_logit (x : EReal) (hx : Logit x) (r : ℝ) : ∃ y : ℝ, 0 ≤ y ∧ Ideal.exp (x - (r : EReal)) = y := by
  rcases hx with h | ⟨z, h⟩
  · refine ⟨0, le_refl _, ?_⟩
    rw [h, EReal.bot_sub]; rfl
  · refine ⟨Real.exp (z - r), (Real.exp_pos _).le, ?_⟩
    rw [h, ← EReal.coe_sub]; rfl

theorem att_eq (q : Fin 64 → ℝ) (k k' : Fin 256 → Fin 64 → ℝ) (v v' : Fin 256 → ℝ) (ok : Fin 256 → BitVec 1) (d : Fin 256 → ℝ) (snk : ℝ)
    (hk : ∀ s, ok s = 1#1 → k s = k' s ∧ v s = v' s) :
    attK (fun e => q e) (fun s e => k s e) (fun s => v s) (fun s => Scalar.select (ok s) (d s : EReal) (Ideal.ofBits .f32 0x7F800000#32)) snk
      = attR (fun e => q e) (fun s e => k' s e) (fun s => v' s) ok (fun s => d s) snk := by
  obtain ⟨c, hc⟩ := bits_eighth
  unfold attK attR
  rw [bits_top, bits_bot, hc]
  have hl : ∀ s, (∑ e, (k s e : EReal) * ((q e : EReal) * (c : EReal)) - Scalar.select (ok s) (d s : EReal) ⊤)
      = Scalar.select (ok s) ((∑ e, (k' s e : EReal) * (q e : EReal)) * (c : EReal) - (d s : EReal)) ⊥ := by
    intro s
    simp only [← EReal.coe_mul, coe_sum]
    by_cases h : ok s = 1#1
    · rw [sel_pos h, sel_pos h, (hk s h).1]
      congr 2
      rw [Finset.sum_mul]
      exact Finset.sum_congr rfl fun e _ => by ring
    · rw [sel_neg h, sel_neg h, EReal.sub_top]
  simp only [hl]
  generalize hL : (fun s => Scalar.select (ok s) ((∑ e, (k' s e : EReal) * (q e : EReal)) * (c : EReal) - (d s : EReal)) ⊥) = L
  have hL' : ∀ s, Logit (L s) ∧ (ok s ≠ 1#1 → L s = ⊥) := by
    intro s
    rw [← hL]
    simp only [← EReal.coe_mul, coe_sum]
    by_cases h : ok s = 1#1
    · refine ⟨Or.inr ⟨(∑ e, k' s e * q e) * c - d s, ?_⟩, fun hn => absurd h hn⟩
      rw [sel_pos h, EReal.coe_sub]
    · have : Scalar.select (ok s) (((∑ e, k' s e * q e) * c : ℝ) - (d s : EReal)) (⊥ : EReal) = ⊥ := by rw [sel_neg h]
      exact ⟨Or.inl this, fun _ => this⟩
  have hL2 : ∀ s, Scalar.select (ok s) ((∑ e, (k' s e : EReal) * (q e : EReal)) * (c : EReal) - (d s : EReal)) ⊥ = L s := fun s => congrFun hL s
  simp only [hL2]
  obtain ⟨M, hM⟩ := max_real _ (fold_logit L (fun s => (hL' s).1) Finset.univ) snk
  rw [hM]
  choose p hp0 hp using fun s => exp_logit (L s) (hL' s).1 M
  obtain ⟨t, ht⟩ : ∃ t : ℝ, 0 < t ∧ Ideal.exp ((snk : EReal) - (M : EReal)) = t :=
    ⟨Real.exp (snk - M), Real.exp_pos _, by rw [← EReal.coe_sub]; rfl⟩
  have hp' : ∀ s, ok s ≠ 1#1 → p s = 0 := by
    intro s h
    have h1 := hp s
    rw [(hL' s).2 h, EReal.bot_sub] at h1
    have h2 : ((0 : ℝ) : EReal) = (p s : EReal) := h1
    exact (EReal.coe_eq_coe_iff.mp h2).symm
  simp only [hp, ht.2, coe_sum, ← EReal.coe_mul, ← EReal.coe_add]
  have hden : (∑ s, p s) + t ≠ 0 := ne_of_gt (add_pos_of_nonneg_of_pos (Finset.sum_nonneg fun s _ => hp0 s) ht.1)
  have e1 : (1 : EReal) = ((1 : ℝ) : EReal) := rfl
  rw [e1, div_coe _ _ hden, ← EReal.coe_mul]
  simp only [div_coe _ _ hden, ← EReal.coe_mul, coe_sum]
  congr 1
  rw [Finset.sum_mul]
  refine Finset.sum_congr rfl fun s _ => ?_
  by_cases h : ok s = 1#1
  · rw [(hk s h).2]; ring
  · rw [hp' s h]; ring

/-- A head's slope is a real number. -/
theorem slope_real (n : Nat) : ∃ x : ℝ, slope n = x := by
  obtain ⟨a, ha⟩ := bits_two
  obtain ⟨b, hb⟩ := bits_minus_eight
  obtain ⟨c, hc0, hc⟩ := bits_thirty_two
  have e1 : (1 : EReal) = ((1 : ℝ) : EReal) := rfl
  unfold slope
  rw [ha, hb, hc]
  rw [show FloatOps.sitofp (F := Ideal) FTy.f32 (BitVec.ofNat 32 n) = (((BitVec.ofNat 32 n).toInt : ℝ) : EReal) from rfl, e1, ← EReal.coe_add, ← EReal.coe_mul, div_coe _ _ hc0]
  exact ⟨_, rfl⟩

end Cert.KernelIdeal.Hand

end
-- ==== Proof.RefAtt.lean ====
module

public import proofs.«01_k».proof.Proof.Gen.ReferenceIdeal.Run
public import Idealize.ShloMosaic.Lib.Pipeline.ValueKit
public import proofs.«01_k».proof.Proof.AttEq
public import Idealize.ShloMosaic.Lib.WordArith

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem

variable (V0 : Valuation τ sig (Elt Ideal))

section last
variable {n0 n1 n2 n3 n4 n5 : Nat}

theorem fiber_last (h : (⟨6, ![n0, n1, n2, n3, n4, n5]⟩ : Shape).ReducesTo [5] ⟨5, ![n0, n1, n2, n3, n4]⟩)
    (a0 : Fin n0) (a1 : Fin n1) (a2 : Fin n2) (a3 : Fin n3) (a4 : Fin n4) (i : (⟨6, ![n0, n1, n2, n3, n4, n5]⟩ : Shape).Idx) :
    h.drop i = ix5 a0 a1 a2 a3 a4 ↔ ∃ k : Fin n5, ix6 a0 a1 a2 a3 a4 k = i := by
  constructor
  · intro e
    refine ⟨i 5, ?_⟩
    funext a; apply Fin.ext
    match a with
    | ⟨0, _⟩ => exact (congrArg Fin.val (congrFun e (0 : Fin 5))).symm
    | ⟨1, _⟩ => exact (congrArg Fin.val (congrFun e (1 : Fin 5))).symm
    | ⟨2, _⟩ => exact (congrArg Fin.val (congrFun e (2 : Fin 5))).symm
    | ⟨3, _⟩ => exact (congrArg Fin.val (congrFun e (3 : Fin 5))).symm
    | ⟨4, _⟩ => exact (congrArg Fin.val (congrFun e (4 : Fin 5))).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- The host's maximum along the last axis. -/
theorem max_last {u : Shape} (h : (⟨6, ![n0, n1, n2, n3, n4, n5]⟩ : Shape).ReducesTo [5] ⟨5, ![n0, n1, n2, n3, n4]⟩) (hu : 0 < u.numel)
    (x : (⟨6, ![n0, n1, n2, n3, n4, n5]⟩ : Shape).Idx → EReal) (init : u.Idx → EReal)
    (a0 : Fin n0) (a1 : Fin n1) (a2 : Fin n2) (a3 : Fin n3) (a4 : Fin n4) :
    Host.reduce (FloatOps.maximumf (F := Ideal) (φ := .f32)) x init h hu (ix5 a0 a1 a2 a3 a4)
      = Finset.fold max (init (Shape.Idx.first hu)) (fun k => x (ix6 a0 a1 a2 a3 a4 k)) Finset.univ := by
  show Host.reduce (max : EReal → EReal → EReal) x init h hu _ = _
  rw [Host.reduce_eq_fold]
  exact Finset.fold_filter_eq_fold_of_fiber _ _ (fun k : Fin n5 => ix6 a0 a1 a2 a3 a4 k) (fun _ _ e => congrFun e 5) (fiber_last h a0 a1 a2 a3 a4) _ x

/-- The host's sum along the last axis. -/
theorem sum_last (h : (⟨6, ![n0, n1, n2, n3, n4, n5]⟩ : Shape).ReducesTo [5] ⟨5, ![n0, n1, n2, n3, n4]⟩)
    (x : (⟨6, ![n0, n1, n2, n3, n4, n5]⟩ : Shape).Idx → EReal) (init : EReal)
    (a0 : Fin n0) (a1 : Fin n1) (a2 : Fin n2) (a3 : Fin n3) (a4 : Fin n4) :
    Ideal.hostReduceAdd h x init (ix5 a0 a1 a2 a3 a4) = init + ∑ k : Fin n5, x (ix6 a0 a1 a2 a3 a4 k) :=
  congrArg (init + ·) (Finset.sum_filter_eq_sum_of_fiber _ (fun k : Fin n5 => ix6 a0 a1 a2 a3 a4 k) (fun _ _ e => congrFun e 5) (fiber_last h a0 a1 a2 a3 a4) x)

end last

theorem top_at (y : Vec Ideal S2x32x4x8x128 .f32) (b : Fin 2) (n : Fin 32) (g : Fin 4) (q : Fin 8) (a : Fin 128) :
    (broadcastInDim S2x32x4x8x128x1 ![0, 1, 2, 3, 4] bcast_S2x32x4x8x128_S2x32x4x8x128x1_0_1_2_3_4 y) (ix6 b n g q a 0) = y (ix5 b n g q a) := by
  pointwise

theorem snk_at (b : Fin 2) (n : Fin 32) (g : Fin 4) (q : Fin 8) (a : Fin 128) :
    (broadcastInDim S2x32x4x8x128x1 ![0, 1, 2, 3, 4, 5] bcast_S1x1x4x8x1x1_S2x32x4x8x128x1_0_1_2_3_4_5 (res_main_v154 V0) : Vec Ideal S2x32x4x8x128x1 .f32) (ix6 b n g q a 0)
      = (V0 (Proc.devRef .tc main_arg3) : Vec Ideal S1x32 .f32) (ix2 0 ⟨g.val * 8 + q.val, by omega⟩) := by
  pointwise [res_main_v154]

/-- The logits, their maxima and the weights before division, at the extended reals. -/
abbrev logit : S2x32x4x8x128x256.Idx → EReal := res_main_v152 V0
abbrev topL : S2x32x4x8x128x1.Idx → EReal := res_main_v158 V0
abbrev wgt : S2x32x4x8x128x256.Idx → EReal := res_main_v161 V0

theorem max_lit (x : S2x32x4x8x128x256.Idx → EReal) (init : S_.Idx → EReal)
    (b : Fin 2) (n : Fin 32) (g : Fin 4) (q : Fin 8) (a : Fin 128) :
    Host.reduce (FloatOps.maximumf (F := Ideal) (φ := .f32)) x init reducesTo_S2x32x4x8x128x256_S2x32x4x8x128_d5 h_S_ (ix5 b n g q a)
      = Finset.fold max (init (Shape.Idx.first h_S_)) (fun k => x (ix6 b n g q a k)) Finset.univ := by
  have hf : (FloatOps.maximumf (F := Ideal) (φ := .f32)) = (max : EReal → EReal → EReal) := rfl
  rw [hf]
  rw [Host.reduce_eq_fold]
  exact Finset.fold_filter_eq_fold_of_fiber _ _ (fun k : Fin 256 => ix6 b n g q a k) (fun _ _ e => congrFun e 5) (fiber_last reducesTo_S2x32x4x8x128x256_S2x32x4x8x128_d5 b n g q a) _ x

theorem maximumf_at {s : Shape} (A y : Vec Ideal s .f32) (i : s.Idx) : (maximumf (F := Ideal) (φ := .f32) A y i : EReal) = (max (A i : EReal) (y i : EReal)) := rfl

theorem max_sink (x : Vec Ideal S2x32x4x8x128x256 .f32) (y : Vec Ideal S2x32x4x8x128x1 .f32) (b : Fin 2) (n : Fin 32) (g : Fin 4) (q : Fin 8) (a : Fin 128) :
    maximumf (F := Ideal) (φ := .f32) (broadcastInDim S2x32x4x8x128x1 ![0, 1, 2, 3, 4] bcast_S2x32x4x8x128_S2x32x4x8x128x1_0_1_2_3_4 (Host.reduce (FloatOps.maximumf (F := Ideal) (φ := .f32)) x (constant (F := Ideal) S_ .f32 0xFF800000#32) reducesTo_S2x32x4x8x128x256_S2x32x4x8x128_d5 h_S_)) y (ix6 b n g q a 0)
      = max (Finset.fold max (Ideal.ofBits .f32 0xFF800000#32) (fun s : Fin 256 => x (ix6 b n g q a s)) Finset.univ) (y (ix6 b n g q a 0)) := by
  rw [maximumf_at, top_at, max_lit]
  rfl

open Cert.KernelIdeal.Hand (kvIdx tblRow penBase sees slope attR)

/-- Where row `r` of the padded projections is one of the sequence's own. -/
theorem pad_iff (b : Fin 2) (r : Fin 4224) (g : Fin 4) (x : Fin 64) :
    (∀ a : Fin 4, (![0, 128, 0, 0] : Fin 4 → ℕ) a ≤ ((ix4 b r g x : S2x4224x4x64.Idx) a).val ∧
      (((ix4 b r g x : S2x4224x4x64.Idx) a).val - (![0, 128, 0, 0] : Fin 4 → ℕ) a) % ((![0, 0, 0, 0] : Fin 4 → ℕ) a + 1) = 0 ∧
      (((ix4 b r g x : S2x4224x4x64.Idx) a).val - (![0, 128, 0, 0] : Fin 4 → ℕ) a) / ((![0, 0, 0, 0] : Fin 4 → ℕ) a + 1) < S2x4096x4x64.size a) ↔ 128 ≤ r.val := by
  have hb := b.isLt; have hr := r.isLt; have hg := g.isLt; have hx := x.isLt
  constructor
  · intro h
    exact (h 1).1
  · intro h a
    fin_cases a
    · exact ⟨Nat.zero_le _, Nat.mod_one _, by show (b.val - 0) / 1 < 2; omega⟩
    · exact ⟨h, Nat.mod_one _, by show (r.val - 128) / 1 < 4096; omega⟩
    · exact ⟨Nat.zero_le _, Nat.mod_one _, by show (g.val - 0) / 1 < 4; omega⟩
    · exact ⟨Nat.zero_le _, Nat.mod_one _, by show (x.val - 0) / 1 < 64; omega⟩

/-- A key's or a value's entry as the plain attention reads it: zero before the sequence's start. -/
def kZ (P : Vec Ideal S9216x16896 .f32) (R : Fin 8192) (s : Fin 256) (c : Fin 16896) : EReal :=
  if 128 ≤ R.val % 4096 / 128 * 128 + s.val then P (ix2 (kvIdx R s) c) else 0

/-- The two masks are one. -/
theorem mask_eq (n : Fin 32) (a : Fin 128) (s : Fin 256) (R : Fin 8192) (hn : R.val % 4096 / 128 = n.val) :
    IntOp.andi (IntOp.andi
        (IntOp.cmpi CmpIPredicate.sge (IntOp.subi (IntOp.addi (128#32) (BitVec.ofNat 32 ↑a)) (BitVec.ofNat 32 ↑s)) 0#32)
        (IntOp.cmpi CmpIPredicate.slt (IntOp.subi (IntOp.addi (128#32) (BitVec.ofNat 32 ↑a)) (BitVec.ofNat 32 ↑s)) 128#32))
      (IntOp.cmpi CmpIPredicate.sge (IntOp.addi (IntOp.muli (IntOp.subi (BitVec.ofNat 32 n.val) 1#32) 128#32) (BitVec.ofNat 32 ↑s)) 0#32)
      = sees (penBase (tblRow R)) s a := by
  have hs := s.isLt; have hn' := n.isLt
  unfold sees
  congr 1
  by_cases h : n.val = 0
  · have ht : tblRow R = 0 := by unfold tblRow; rw [if_pos (by omega)]
    rw [ht, h]
    rfl
  · have ht : tblRow R = 1 := by unfold tblRow; rw [if_neg (by omega)]
    rw [ht]
    have e1 : IntOp.addi (IntOp.muli (IntOp.subi (BitVec.ofNat 32 n.val) 1#32) 128#32) (BitVec.ofNat 32 ↑s) = BitVec.ofNat 32 ((n.val - 1) * 128 + s.val) := by
      show (BitVec.ofNat 32 n.val - 1#32) * 128#32 + BitVec.ofNat 32 s.val = _
      obtain ⟨k, hk⟩ : ∃ k, n.val = k + 1 := ⟨n.val - 1, by omega⟩
      rw [hk, Nat.add_sub_cancel, BitVec.ofNat_add, BitVec.ofNat_add, BitVec.ofNat_mul, show BitVec.ofNat 32 1 = 1#32 from rfl, BitVec.add_sub_cancel]
    have e2 : IntOp.addi (penBase 1) (BitVec.ofNat 32 ↑s) = BitVec.ofNat 32 s.val := by
      show (0#32) + BitVec.ofNat 32 s.val = _
      rw [BitVec.zero_add]
    have key : ∀ w : ℕ, w < 2 ^ 31 → IntOp.cmpi CmpIPredicate.sge (BitVec.ofNat 32 w) 0#32 = 1#1 := by
      intro w hw
      have h1 : (BitVec.ofNat 32 w).toInt = (w : Int) := by
        rw [BitVec.toInt_eq_toNat_cond, BitVec.toNat_ofNat, Nat.mod_eq_of_lt (by omega), if_pos (by omega)]
      show BitVec.ofBool (decide ((0#32).toInt ≤ (BitVec.ofNat 32 w).toInt)) = 1#1
      rw [h1, decide_eq_true (show (0#32).toInt ≤ (w : Int) from Int.natCast_nonneg w)]
      rfl
    rw [e1, e2, key _ (by omega), key _ (by omega)]

theorem kZ_pos (P : Vec Ideal S9216x16896 .f32) (R : Fin 8192) (s : Fin 256) (c : Fin 16896) (r : Fin 9216)
    (h : 128 ≤ R.val % 4096 / 128 * 128 + s.val) (hr : r.val = R.val / 128 * 128 + s.val - 128) : (P (ix2 r c) : EReal) = kZ P R s c := by
  unfold kZ
  rw [if_pos h]
  refine congrArg _ (congrArg₂ ix2 (Fin.ext ?_) rfl)
  show r.val = if 128 ≤ R.val / 128 * 128 + s.val then R.val / 128 * 128 + s.val - 128 else s.val
  rw [if_pos (by omega), hr]

theorem kZ_neg (P : Vec Ideal S9216x16896 .f32) (R : Fin 8192) (s : Fin 256) (c : Fin 16896)
    (h : ¬ 128 ≤ R.val % 4096 / 128 * 128 + s.val) : (0 : EReal) = kZ P R s c := by
  unfold kZ
  rw [if_neg h]

theorem word_zero : FloatOps.sitofp (F := Ideal) FTy.f32 0#32 = (0 : EReal) := by
  show (((0#32 : BitVec 32).toInt : ℝ) : EReal) = 0
  simp

theorem sel_congr {b b' : BitVec 1} {x x' y y' : EReal} (hb : b = b') (hx : x = x') (hy : y = y') : Scalar.select b x y = Scalar.select b' x' y' := by
  rw [hb, hx, hy]

theorem logit_congr {f g k : Fin 64 → EReal} (c d : EReal) (h : ∀ x, f x = g x) : (∑ x, f x * k x) * c - d = (∑ x, g x * k x) * c - d := by
  rw [show f = g from funext h]

set_option maxHeartbeats 400000 in
theorem v152_at (b : Fin 2) (n : Fin 32) (g : Fin 4) (q : Fin 8) (a : Fin 128) (s : Fin 256) (R : Fin 8192) (hR : R.val = b.val * 4096 + (n.val * 128 + a.val)) :
    logit V0 (ix6 b n g q a s) = Scalar.select (sees (penBase (tblRow R)) s a)
      ((∑ e : Fin 64, kZ (V0 (Proc.devRef .tc main_arg0)) R s ⟨6144 + (g.val * 64 + e.val), by omega⟩
          * (V0 (Proc.devRef .tc main_arg0) : Vec Ideal S9216x16896 .f32) (ix2 ⟨b.val * 4096 + (n.val * 128 + a.val), by omega⟩ ⟨4096 + (g.val * 512 + q.val * 64 + e.val), by omega⟩))
        * Ideal.ofBits .f32 0x3E000000#32
        - Cert.KernelIdeal.Hand.slope (g.val * 8 + q.val) * FloatOps.sitofp (F := Ideal) FTy.f32 (IntOp.subi (IntOp.addi (128#32) (BitVec.ofNat 32 a.val)) (BitVec.ofNat 32 s.val)))
      (Ideal.ofBits .f32 0xFF800000#32) := by
  have hn : R.val % 4096 / 128 = n.val := by omega
  have hR' : R.val / 128 * 128 = b.val * 4096 + n.val * 128 := by omega
  unfold logit
  pointwise [res_main_v152, res_main_v106, res_main_v101, res_main_v2, res_main_v9]
  refine sel_congr (mask_eq n a s R hn) ?_ rfl
  refine congrArg₂ (fun x y : EReal => x - y) (congrArg (fun x : EReal => x * Ideal.ofBits .f32 0x3E000000#32) (Finset.sum_congr rfl fun e _ => congrArg₂ (fun x y : EReal => x * y) ?_ ?_)) ?_
  rotate_left
  · rfl
  · rfl
  have hs := s.isLt
  by_cases h : s.val < 128
  · refine (dif_pos h).trans ?_
    by_cases h2 : 128 ≤ n.val * 128 + s.val
    · refine (dif_pos (fun z => ?_)).trans ?_
      · exact (pad_iff b ⟨n.val * 128 + s.val, by omega⟩ g e).mpr h2 z
      · exact kZ_pos _ R s _ _ (by omega) (by show b.val * 4096 + (n.val * 128 + s.val - 128) = _; omega)
    · refine (dif_neg (fun hh => h2 ?_)).trans ?_
      · exact (hh 1).1
      · exact word_zero.trans (kZ_neg _ R s _ (by omega))
  · refine (dif_neg h).trans ?_
    exact kZ_pos _ R s _ _ (by omega) (by show b.val * 4096 + (n.val * 128 + (s.val - 128)) = _; omega)

theorem v158_at (b : Fin 2) (n : Fin 32) (g : Fin 4) (q : Fin 8) (a : Fin 128) :
    topL V0 (ix6 b n g q a 0)
      = max (Finset.fold max (Ideal.ofBits .f32 0xFF800000#32) (fun s : Fin 256 => logit V0 (ix6 b n g q a s)) Finset.univ)
          ((V0 (Proc.devRef .tc main_arg3) : Vec Ideal S1x32 .f32) (ix2 0 ⟨g.val * 8 + q.val, by omega⟩)) := by
  have e : topL V0 = maximumf (F := Ideal) (φ := .f32) (broadcastInDim S2x32x4x8x128x1 ![0, 1, 2, 3, 4] bcast_S2x32x4x8x128_S2x32x4x8x128x1_0_1_2_3_4 (Host.reduce (FloatOps.maximumf (F := Ideal) (φ := .f32)) (logit V0) (constant (F := Ideal) S_ .f32 0xFF800000#32) reducesTo_S2x32x4x8x128x256_S2x32x4x8x128_d5 h_S_)) (broadcastInDim S2x32x4x8x128x1 ![0, 1, 2, 3, 4, 5] bcast_S1x1x4x8x1x1_S2x32x4x8x128x1_0_1_2_3_4_5 (res_main_v154 V0) : Vec Ideal S2x32x4x8x128x1 .f32) := rfl
  rw [e, max_sink, snk_at]

theorem v161_at (b : Fin 2) (n : Fin 32) (g : Fin 4) (q : Fin 8) (a : Fin 128) (s : Fin 256) :
    wgt V0 (ix6 b n g q a s) = Ideal.exp (logit V0 (ix6 b n g q a s) - topL V0 (ix6 b n g q a 0)) := by
  unfold wgt
  pointwise [res_main_v161]

end Cert.ReferenceIdeal.Hand

end
-- ==== Proof.RefRes.lean ====
/-
   The plain attention's result, read at an entry.
-/
module

public import proofs.«01_k».proof.Proof.RefAtt

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Cert.KernelIdeal.Hand (kvIdx tblRow penBase sees attR)

variable (V0 : Valuation τ sig (Elt Ideal))

/-- The projections and the sinks, at the extended reals. -/
abbrev prj : S9216x16896.Idx → EReal := V0 (Proc.devRef .tc main_arg0)
abbrev snk : S1x32.Idx → EReal := V0 (Proc.devRef .tc main_arg3)

/-- The coordinates of the entry `(R, C)`: its sequence, its window, its group of heads, its head there and its place in the window. -/
def at6 (R : Fin 8192) (C : Fin 2048) (s : Fin 256) : S2x32x4x8x128x256.Idx :=
  ix6 (⟨R.val / 4096, by omega⟩ : Fin 2) (⟨R.val % 4096 / 128, by omega⟩ : Fin 32) (⟨C.val / 512, by omega⟩ : Fin 4)
    (⟨C.val / 64 % 8, by omega⟩ : Fin 8) (⟨R.val % 4096 % 128, by omega⟩ : Fin 128) s

/-- The maximum the weights of the entry `(R, C)` share. -/
def top6 (R : Fin 8192) (C : Fin 2048) : EReal :=
  topL V0 (ix6 (⟨R.val / 4096, by omega⟩ : Fin 2) (⟨R.val % 4096 / 128, by omega⟩ : Fin 32) (⟨C.val / 512, by omega⟩ : Fin 4)
    (⟨C.val / 64 % 8, by omega⟩ : Fin 8) (⟨R.val % 4096 % 128, by omega⟩ : Fin 128) 0)

/-- The plain attention's entry, from the projections `P` and the sinks `S`. -/
def bR (P : Vec Ideal S9216x16896 .f32) (S : Vec Ideal S1x32 .f32) (R : Fin 8192) (C : Fin 2048) : EReal :=
  attR (fun e => P (ix2 ⟨R.val, by omega⟩ ⟨4096 + (C.val / 64 * 64 + e.val), by omega⟩))
    (fun s e => kZ P R s ⟨6144 + (64 * (C.val / 512) + e.val), by omega⟩)
    (fun s => kZ P R s ⟨6400 + (64 * (C.val / 512) + C.val % 64), by omega⟩)
    (fun s => sees (penBase (tblRow R)) s ⟨R.val % 128, by omega⟩)
    (fun s => Cert.KernelIdeal.Hand.slope (C.val / 64) * FloatOps.sitofp (F := Ideal) FTy.f32 (IntOp.subi (IntOp.addi (128#32) (BitVec.ofNat 32 (R.val % 128))) (BitVec.ofNat 32 s.val)))
    (S (ix2 0 ⟨C.val / 64, by omega⟩))

theorem fin_eq {n : ℕ} {x y : ℕ} (h : x = y) (hx : x < n) (hy : y < n) : (⟨x, hx⟩ : Fin n) = ⟨y, hy⟩ := by
  subst h; rfl

/-- An entry's logits. -/
theorem logit_at6 (R : Fin 8192) (C : Fin 2048) (s : Fin 256) :
    logit V0 (at6 R C s) = Scalar.select (sees (penBase (tblRow R)) s ⟨R.val % 128, by omega⟩)
      ((∑ e : Fin 64, kZ (prj V0) R s ⟨6144 + (64 * (C.val / 512) + e.val), by omega⟩
          * prj V0 (ix2 ⟨R.val, by omega⟩ ⟨4096 + (C.val / 64 * 64 + e.val), by omega⟩))
        * Ideal.ofBits .f32 0x3E000000#32
        - Cert.KernelIdeal.Hand.slope (C.val / 64) * FloatOps.sitofp (F := Ideal) FTy.f32 (IntOp.subi (IntOp.addi (128#32) (BitVec.ofNat 32 (R.val % 128))) (BitVec.ofNat 32 s.val)))
      (Ideal.ofBits .f32 0xFF800000#32) := by
  have hR := R.isLt
  have hC := C.isLt
  unfold at6
  refine (v152_at V0 _ _ _ _ _ s R (by show R.val = R.val / 4096 * 4096 + (R.val % 4096 / 128 * 128 + R.val % 4096 % 128); omega)).trans ?_
  have e1 : R.val % 4096 % 128 = R.val % 128 := by omega
  refine sel_congr (congrArg (sees _ s) (fin_eq e1 _ _)) (congrArg₂ (fun x y : EReal => x - y) (congrArg (fun x : EReal => x * Ideal.ofBits .f32 0x3E000000#32) (Finset.sum_congr rfl fun e _ => congrArg₂ (fun x y : EReal => x * y) ?_ ?_)) (congrArg₂ (fun x y : EReal => x * y) (congrArg Cert.KernelIdeal.Hand.slope ?_) ?_)) rfl
  · exact congrArg (kZ _ R s) (fin_eq (show 6144 + (C.val / 512 * 64 + e.val) = 6144 + (64 * (C.val / 512) + e.val) by omega) _ _)
  · exact congrArg _ (congrArg₂ ix2
      (fin_eq (show R.val / 4096 * 4096 + (R.val % 4096 / 128 * 128 + R.val % 4096 % 128) = R.val by omega) _ _)
      (fin_eq (show 4096 + (C.val / 512 * 512 + C.val / 64 % 8 * 64 + e.val) = 4096 + (C.val / 64 * 64 + e.val) by omega) _ _))
  · show C.val / 512 * 8 + C.val / 64 % 8 = C.val / 64
    omega
  · show FloatOps.sitofp (F := Ideal) FTy.f32 (IntOp.subi (IntOp.addi (128#32) (BitVec.ofNat 32 (R.val % 4096 % 128))) (BitVec.ofNat 32 s.val)) = _
    rw [e1]

theorem snk_eq (S : Vec Ideal S1x32 .f32) (C : Fin 2048) (h : C.val / 512 * 8 + C.val / 64 % 8 < 32) :
    (S (ix2 0 ⟨C.val / 512 * 8 + C.val / 64 % 8, h⟩) : EReal) = S (ix2 0 ⟨C.val / 64, by omega⟩) :=
  congrArg S (congrArg (ix2 0) (fin_eq (by omega) _ _))

theorem top6_at (R : Fin 8192) (C : Fin 2048) :
    top6 V0 R C = max (Finset.fold max (Ideal.ofBits .f32 0xFF800000#32) (fun s : Fin 256 => logit V0 (at6 R C s)) Finset.univ)
      (snk V0 (ix2 0 ⟨C.val / 64, by omega⟩)) := by
  unfold top6
  rw [v158_at]
  exact congrArg _ (snk_eq _ C _)

theorem wgt_at6 (R : Fin 8192) (C : Fin 2048) (s : Fin 256) : wgt V0 (at6 R C s) = Ideal.exp (logit V0 (at6 R C s) - top6 V0 R C) := by
  unfold at6 top6
  exact v161_at V0 _ _ _ _ _ s

/-- The sum the weights of the entry `(R, C)` are divided by. -/
def den6 (R : Fin 8192) (C : Fin 2048) : EReal :=
  ∑ s : Fin 256, wgt V0 (at6 R C s) + Ideal.exp (snk V0 (ix2 0 ⟨C.val / 64, by omega⟩) - top6 V0 R C)

theorem bR_eq (R : Fin 8192) (C : Fin 2048) :
    bR (prj V0) (snk V0) R C
      = ∑ s : Fin 256, kZ (prj V0) R s ⟨6400 + (64 * (C.val / 512) + C.val % 64), by omega⟩ * Ideal.div (wgt V0 (at6 R C s)) (den6 V0 R C) := by
  unfold den6
  simp only [wgt_at6, top6_at, logit_at6]
  rfl

theorem sum_halves (f : Fin 256 → EReal) : ∑ s, f s = ∑ x : Fin 128, f ⟨x.val, by omega⟩ + ∑ x : Fin 128, f ⟨128 + x.val, by omega⟩ :=
  Fin.sum_univ_add (a := 128) (b := 128) f

theorem den_lit (x : S2x32x4x8x128x256.Idx → EReal) (b : Fin 2) (n : Fin 32) (g : Fin 4) (q : Fin 8) (a : Fin 128) :
    Ideal.hostReduceAdd reducesTo_S2x32x4x8x128x256_S2x32x4x8x128_d5 x 0 (ix5 b n g q a) = ∑ k : Fin 256, x (ix6 b n g q a k) := by
  rw [sum_last, zero_add]

theorem den_eq (R : Fin 8192) (C : Fin 2048) (h : C.val / 512 * 8 + C.val / 64 % 8 < 32) :
    Ideal.hostReduceAdd reducesTo_S2x32x4x8x128x256_S2x32x4x8x128_d5 (wgt V0) 0 (ix5 (⟨R.val / 4096, by omega⟩ : Fin 2) (⟨R.val % 4096 / 128, by omega⟩ : Fin 32) (⟨C.val / 512, by omega⟩ : Fin 4)
    (⟨C.val / 64 % 8, by omega⟩ : Fin 8) (⟨R.val % 4096 % 128, by omega⟩ : Fin 128))
      + Ideal.exp (snk V0 (ix2 0 ⟨C.val / 512 * 8 + C.val / 64 % 8, h⟩) - top6 V0 R C) = den6 V0 R C := by
  unfold den6
  exact congrArg₂ (fun x y : EReal => x + y) (den_lit (wgt V0) _ _ _ _ _)
    (congrArg (fun z : EReal => Ideal.exp (z - top6 V0 R C)) (snk_eq (snk V0) C h))

theorem bR_halves (R : Fin 8192) (C : Fin 2048) :
    bR (prj V0) (snk V0) R C
      = ∑ x : Fin 128, kZ (prj V0) R ⟨x.val, by omega⟩ ⟨6400 + (64 * (C.val / 512) + C.val % 64), by omega⟩ * Ideal.div (wgt V0 (at6 R C ⟨x.val, by omega⟩)) (den6 V0 R C)
        + ∑ x : Fin 128, kZ (prj V0) R ⟨128 + x.val, by omega⟩ ⟨6400 + (64 * (C.val / 512) + C.val % 64), by omega⟩ * Ideal.div (wgt V0 (at6 R C ⟨128 + x.val, by omega⟩)) (den6 V0 R C) :=
  (bR_eq V0 R C).trans (sum_halves _)

/-- The plain attention's result at an entry. -/
theorem v178_at (R : Fin 8192) (C : Fin 2048) : (truncf .bf16 (shapeCast _ (mulf (mulf (res_main_v8 V0) (Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf (res_main_v8 V0)))))) (shapeCast _ (transpose S2x32x128x4x8x64 [0, 1, 5, 2, 4, 3] (Host.dotGeneral dot_S2x32x256x4x64_S2x32x4x8x128x256_S2x32x4x64x8x128_2_5_4_34_013_012 none (concatenate S2x32x256x4x64 2 [⟨S2x32x128x4x64, (shapeCast _ (extractStridedSlice S2x4096x4x64 ![0, 0, 0, 0] (pad S2x4224x4x64 ![0, 128, 0, 0] ![0, 0, 0, 0] ![0, 0, 0, 0] (res_main_v10 V0) (sitofp .f32 (constantI S_ 32 0#32)) pads_S2x4096x4x64_S2x4224x4x64_000_12800_000_000 h_S_) slices_S2x4224x4x64_S2x4096x4x64_0_0_0_0) shapeCasts_S2x4096x4x64_S2x32x128x4x64)⟩, ⟨S2x32x128x4x64, (shapeCast _ (res_main_v10 V0) shapeCasts_S2x4096x4x64_S2x32x128x4x64)⟩] concatenates_S2x32x128x4x64_S2x32x128x4x64_S2x32x256x4x64_d2) (Host.divf (res_main_v161 V0) (broadcastInDim S2x32x4x8x128x256 ![0, 1, 2, 3, 4, 5] bcast_S2x32x4x8x128x1_S2x32x4x8x128x256_0_1_2_3_4_5 (addf (broadcastInDim S2x32x4x8x128x1 ![0, 1, 2, 3, 4] bcast_S2x32x4x8x128_S2x32x4x8x128x1_0_1_2_3_4 (Host.reduceAdd (res_main_v161 V0) (constant S_ .f32 0x00000000#32) reducesTo_S2x32x4x8x128x256_S2x32x4x8x128_d5 h_S_)) (Host.exp (subf (broadcastInDim S2x32x4x8x128x1 ![0, 1, 2, 3, 4, 5] bcast_S1x1x4x8x1x1_S2x32x4x8x128x1_0_1_2_3_4_5 (res_main_v154 V0)) (res_main_v158 V0))))))) transposes_S2x32x4x64x8x128_S2x32x128x4x8x64_0_1_5_2_4_3) shapeCasts_S2x32x128x4x8x64_S2x4096x2048)) shapeCasts_S2x4096x2048_S8192x2048) bitsLt_bf16_f32 : Vec Ideal S8192x2048 .bf16) (ix2 R C) =
      prj V0 (ix2 ⟨R.val, by omega⟩ ⟨6656 + C.val, by omega⟩) * Ideal.logistic (prj V0 (ix2 ⟨R.val, by omega⟩ ⟨6656 + C.val, by omega⟩))
        * bR (prj V0) (snk V0) R C := by
  have hR := R.isLt
  have hC := C.isLt
  pointwise [res_main_v8, res_main_v2, res_main_v10, res_main_v154]
  refine congrArg₂ (fun x y : EReal => x * y) rfl ?_
  refine Eq.trans ?_ (bR_halves V0 R C).symm
  refine congrArg₂ (fun x y : EReal => x + y) (Finset.sum_congr rfl fun x _ => congrArg₂ (fun x y : EReal => x * y) ?_ (congrArg₂ Ideal.div rfl (den_eq V0 R C _)))
    (Finset.sum_congr rfl fun x _ => congrArg₂ (fun x y : EReal => x * y) ?_ (congrArg₂ Ideal.div rfl (den_eq V0 R C _)))
  · have hx := x.isLt
    by_cases h2 : 128 ≤ R.val % 4096 / 128 * 128 + x.val
    · refine (dif_pos (fun z => ?_)).trans ?_
      · exact (pad_iff ⟨R.val / 4096, by omega⟩ ⟨R.val % 4096 / 128 * 128 + x.val, by omega⟩ ⟨C.val / 512, by omega⟩ ⟨C.val % 64, by omega⟩).mpr h2 z
      · refine (congrArg _ (congrArg₂ ix2 rfl (fin_eq ?_ _ ?_))).trans (kZ_pos _ R _ _ _ ?_ ?_)
        · omega
        · omega
        · exact h2
        · show R.val / 4096 * 4096 + (R.val % 4096 / 128 * 128 + x.val - 128) = R.val / 128 * 128 + x.val - 128
          omega
    · refine (dif_neg (fun hh => h2 ?_)).trans ?_
      · exact (hh 1).1
      · exact word_zero.trans (kZ_neg _ R _ _ h2)
  · have hx := x.isLt
    refine (congrArg _ (congrArg₂ ix2 rfl (fin_eq ?_ _ ?_))).trans (kZ_pos _ R _ _ _ ?_ ?_)
    · omega
    · omega
    · show 128 ≤ R.val % 4096 / 128 * 128 + (128 + x.val)
      omega
    · show R.val / 4096 * 4096 + (R.val % 4096 / 128 * 128 + x.val) = R.val / 128 * 128 + (128 + x.val) - 128
      omega

end Cert.ReferenceIdeal.Hand

end
-- ==== Proof.RefPool.lean ====
/-
   The plain pooling, read at an entry: differences of running sums are windows of the rows above.
-/
module

public import proofs.«01_k».proof.Proof.Gen.ReferenceIdeal.Run
public import Idealize.ShloMosaic.Lib.Pipeline.ValueKit
public import proofs.«01_k».proof.Proof.PoolArr

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem

theorem foldl_add_eq {ι : Type} (l : List ι) (F : ι → EReal) (v : EReal) : l.foldl (fun r n => r + F n) v = v + (l.map F).sum := by
  induction l generalizing v with
  | nil => simp
  | cons a l ih => rw [List.foldl_cons, ih, List.map_cons, List.sum_cons, add_assoc]

/-- The positions of the running sum's window. -/
abbrev Wnd : Shape := ⟨3, ![1, 4111, 1]⟩

/-- A window's positions are numbered by their middle coordinate. -/
def wndEquiv : Fin 4111 ≃ Wnd.Idx where
  toFun w := ix3 (0 : Fin 1) w (0 : Fin 1)
  invFun i := i 1
  left_inv _ := rfl
  right_inv i := by
    funext a
    fin_cases a
    · exact Subsingleton.elim (α := Fin 1) _ _
    · rfl
    · exact Subsingleton.elim (α := Fin 1) _ _

theorem sum_tail' (f : ℕ → EReal) (j d : ℕ) :
    (∑ w ∈ Finset.range (d + (j + 1)), if d + j ≤ j + w then f (j + w - (d + j)) else 0) = ∑ r ∈ Finset.range (j + 1), f r := by
  rw [Finset.sum_range_add, Finset.sum_eq_zero (fun w hw => if_neg (by have := Finset.mem_range.mp hw; omega)), zero_add]
  refine Finset.sum_congr rfl fun r _ => ?_
  rw [if_pos (by omega)]
  congr 1; omega

theorem sum_tail (f : ℕ → EReal) (j : ℕ) (hj : j < 4111) :
    (∑ w ∈ Finset.range 4111, if 4110 ≤ j + w then f (j + w - 4110) else 0) = ∑ r ∈ Finset.range (j + 1), f r := by
  have h := sum_tail' f j (4110 - j)
  rwa [show 4110 - j + (j + 1) = 4111 by omega, show 4110 - j + j = 4110 by omega] at h

/-- The running sum along the rows. -/
theorem cum_at (x : Vec Ideal S2x4111x2048 .f32) (init : Vec Ideal S_ .f32) (hi : ∀ i, init i = 0)
    (h : S2x4111x2048.ReduceWindows (![1, 4111, 1] : Fin 3 → ℕ) ![1, 1, 1] ![0, 4110, 0] ![0, 0, 0] S2x4111x2048) (hu : 0 < S_.numel)
    (b : Fin 2) (j : Fin 4111) (c : Fin 2048) (f : ℕ → EReal) (hx : ∀ r : Fin 4111, x (ix3 b r c) = f r.val) :
    Host.reduceWindowAdd (F := Ideal) (φ := .f32) ![1, 4111, 1] ![1, 1, 1] ![0, 4110, 0] ![0, 0, 0] x init h hu (ix3 b j c)
      = ∑ r ∈ Finset.range (j.val + 1), f r := by
  have hj := j.isLt
  unfold Host.reduceWindowAdd
  simp only [Ideal.hostReduceWindowAdd_def, hi]
  unfold Ideal.hostReduceWindowAdd Host.reduceWindow
  refine (foldl_add_eq _ _ _).trans ?_
  rw [zero_add, ← List.ofFn_eq_map, List.sum_ofFn, ← sum_tail f j.val hj, Finset.sum_range]
  refine Fintype.sum_equiv (Wnd.rowMajor.symm.trans wndEquiv.symm) _ _ fun n => ?_
  have e0 : ((Wnd.rowMajor.symm n) 0).val = 0 := Nat.lt_one_iff.mp ((Wnd.rowMajor.symm n) 0).isLt
  have e2 : ((Wnd.rowMajor.symm n) 2).val = 0 := Nat.lt_one_iff.mp ((Wnd.rowMajor.symm n) 2).isLt
  have e1 : ((Wnd.rowMajor.symm.trans wndEquiv.symm) n).val = ((Wnd.rowMajor.symm n) 1).val := rfl
  rw [e1]
  have hw : ((Wnd.rowMajor.symm n) 1).val < 4111 := ((Wnd.rowMajor.symm n) 1).isLt
  split
  · next hin =>
    have h1 := (hin 1).1
    change 4110 ≤ j.val * 1 + ((Wnd.rowMajor.symm n) 1).val at h1
    rw [if_pos (by omega)]
    refine (congrArg x (funext fun a => Fin.ext ?_)).trans (hx ⟨j.val + ((Wnd.rowMajor.symm n) 1).val - 4110, by omega⟩)
    fin_cases a
    · show b.val * 1 + ((Wnd.rowMajor.symm n) 0).val - 0 = b.val; omega
    · show j.val * 1 + ((Wnd.rowMajor.symm n) 1).val - 4110 = j.val + ((Wnd.rowMajor.symm n) 1).val - 4110; omega
    · show c.val * 1 + ((Wnd.rowMajor.symm n) 2).val - 0 = c.val; omega
  · next hin =>
    rw [if_neg fun hle => hin fun a => ?_]
    have := b.isLt; have := c.isLt
    fin_cases a
    · show 0 ≤ b.val * 1 + ((Wnd.rowMajor.symm n) 0).val ∧ b.val * 1 + ((Wnd.rowMajor.symm n) 0).val - 0 < 2; omega
    · show 4110 ≤ j.val * 1 + ((Wnd.rowMajor.symm n) 1).val ∧ j.val * 1 + ((Wnd.rowMajor.symm n) 1).val - 4110 < 4111; omega
    · show 0 ≤ c.val * 1 + ((Wnd.rowMajor.symm n) 2).val ∧ c.val * 1 + ((Wnd.rowMajor.symm n) 2).val - 0 < 2048; omega

theorem coe_sum {ι : Type} (s : Finset ι) (G : ι → ℝ) : ∑ r ∈ s, (G r : EReal) = ((∑ r ∈ s, G r : ℝ) : EReal) := by
  classical
  induction s using Finset.induction_on with
  | empty => simp
  | insert a s ha ih => rw [Finset.sum_insert ha, Finset.sum_insert ha, ih, EReal.coe_add]

/-- A window of a sequence of numbers is the difference of two running sums. -/
theorem diff_sum (f : ℕ → EReal) (hf : ∀ r, ∃ x : ℝ, f r = x) (n w : ℕ) :
    (∑ r ∈ Finset.range (n + w), f r) - ∑ r ∈ Finset.range n, f r = ∑ d ∈ Finset.range w, f (n + w - 1 - d) := by
  choose F hF using hf
  have hr : ∑ d ∈ Finset.range w, f (n + w - 1 - d) = ∑ x ∈ Finset.range w, f (n + x) := by
    rw [← Finset.sum_range_reflect (fun x => f (n + x))]
    refine Finset.sum_congr rfl fun d hd => ?_
    have := Finset.mem_range.mp hd
    congr 1; omega
  rw [hr, Finset.sum_range_add]
  simp only [hF, coe_sum]
  rw [← EReal.coe_add, ← EReal.coe_sub]
  congr 1; ring

variable (V0 : Valuation τ sig (Elt Ideal))

/-- Row `r` of the rows that follow fifteen zero rows. -/
def padRow (P : Vec Ideal S9216x16896 .f32) (b : Fin 2) (c : Fin 2048) (r : ℕ) : EReal :=
  if h : 15 ≤ r ∧ r < 4111 then P (ix2 ⟨b.val * 4096 + (r - 15), by omega⟩ ⟨c.val, by omega⟩) else 0

theorem v12_at (b : Fin 2) (r : Fin 4111) (c : Fin 2048) :
    ((res_main_v12 V0) (ix3 b r c) : EReal) = padRow (V0 (Proc.devRef .tc main_arg0)) b c r.val := by
  have hr := r.isLt
  pointwise [res_main_v12, res_main_v2]
  unfold padRow
  by_cases h : r.val < 15
  · rw [dif_pos h, dif_neg (by omega)]
  · rw [dif_neg h, dif_pos (by omega)]

theorem v17_at (b : Fin 2) (n : Fin 4112) (c : Fin 2048) :
    ((res_main_v17 V0) (ix3 b n c) : EReal) = ∑ r ∈ Finset.range n.val, padRow (V0 (Proc.devRef .tc main_arg0)) b c r := by
  pointwise [res_main_v17]
  by_cases h : n.val < 1
  · rw [dif_pos h, show n.val = 0 by omega]; rfl
  · rw [dif_neg h]
    refine (cum_at (res_main_v12 V0) _ (fun i => ?_) _ _ b _ c (padRow (V0 (Proc.devRef .tc main_arg0)) b c) (fun r => v12_at V0 b r c)).trans ?_
    · pointwise
    · show ∑ r ∈ Finset.range (n.val - 1 + 1), _ = _
      rw [show n.val - 1 + 1 = n.val by omega]

open Cert.KernelIdeal.Hand (aK uAt cnt word_min)

/-- Every entry of the projections is a real number. -/
def Real' (P : Vec Ideal S9216x16896 .f32) : Prop := ∀ i, ∃ x : ℝ, (P i : EReal) = (x : EReal)

/-- The running sums. -/
abbrev v17 : S2x4112x2048.Idx → EReal := res_main_v17 V0

theorem pool_diff (hP : Real' (V0 (Proc.devRef .tc main_arg0))) (b : Fin 2) (t : Fin 4096) (c : Fin 2048)
    (w : ℕ) (n1 n2 : Fin 4112) (h1 : n1.val = 16 + t.val) (h2 : n2.val + w = n1.val) (R : Fin 8192) (hR : R.val = b.val * 4096 + t.val) :
    v17 V0 (ix3 b n1 c) - v17 V0 (ix3 b n2 c)
      = ∑ d ∈ Finset.range w, uAt (V0 (Proc.devRef .tc main_arg0)) R d c := by
  unfold v17
  rw [v17_at, v17_at, ← h2, diff_sum]
  · refine Finset.sum_congr rfl fun d hd => ?_
    have := Finset.mem_range.mp hd
    have := t.isLt
    unfold padRow uAt
    by_cases hd : d ≤ t.val
    · rw [dif_pos (by omega), if_pos (by omega)]
      refine congrArg _ (congrArg₂ ix2 (Fin.ext ?_) rfl)
      show b.val * 4096 + (n2.val + w - 1 - d - 15) = R.val - d
      omega
    · rw [dif_neg (by omega), if_neg (by omega)]
  · intro r
    unfold padRow
    split
    · exact hP _
    · exact ⟨0, rfl⟩

theorem cnt_ref (w : ℕ) (hw : w < 32) (b : Fin 2) (t : Fin 4096) (R : Fin 8192) (hR : R.val = b.val * 4096 + t.val) :
    FloatOps.sitofp (F := Ideal) FTy.f32 (IntOp.minsi (BitVec.ofNat 32 w) (IntOp.addi (IntOp.addi (0#32) (BitVec.ofNat 32 t.val)) 1#32)) = cnt w R := by
  have ht := t.isLt
  have h1 : IntOp.addi (IntOp.addi (0#32) (BitVec.ofNat 32 t.val)) 1#32 = BitVec.ofNat 32 (t.val + 1) := by
    show (0#32 + BitVec.ofNat 32 t.val) + 1#32 = _
    rw [BitVec.zero_add, show (1#32 : BitVec 32) = BitVec.ofNat 32 1 from rfl, ← BitVec.ofNat_add]
  rw [h1, word_min _ _ (by omega) (by omega), cnt]
  rw [show t.val + 1 = R.val % 4096 + 1 by omega]

theorem last_row (b : Fin 2) (t : Fin 4096) (c : Fin 2048) (n : Fin 4111) (hn : n.val = 15 + t.val) (R : Fin 8192) (hR : R.val = b.val * 4096 + t.val) :
    ((res_main_v12 V0) (ix3 b n c) : EReal) = (V0 (Proc.devRef .tc main_arg0) : Vec Ideal S9216x16896 .f32) (ix2 ⟨R.val, by omega⟩ ⟨c.val, by omega⟩) := by
  have ht := t.isLt
  rw [v12_at, padRow, dif_pos (by omega)]
  refine congrArg _ (congrArg₂ ix2 (Fin.ext ?_) rfl)
  show b.val * 4096 + (n.val - 15) = R.val
  omega

theorem v174_at (hP : Real' (V0 (Proc.devRef .tc main_arg0))) (b : Fin 2) (t : Fin 4096) (c : Fin 2048)
    (R : Fin 8192) (hR : R.val = b.val * 4096 + t.val) :
    ((res_main_v174 V0) (ix3 b t c) : EReal)
      = aK (V0 (Proc.devRef .tc main_arg0)) (V0 (Proc.devRef .tc main_arg1)) (V0 (Proc.devRef .tc main_arg2)) R c := by
  have hc := c.isLt
  pointwise [res_main_v174, res_main_v4, res_main_v2, res_main_v18, res_main_v19, res_main_v22]
  unfold aK Ideal.logistic
  have eR : (⟨b.val * 4096 + t.val, by omega⟩ : Fin 9216) = ⟨R.val, by omega⟩ := Fin.ext hR.symm
  simp only [eR]
  refine congrArg₂ (· * ·) rfl (congrArg₂ (· * ·) (Finset.sum_congr rfl fun x _ => ?_) rfl)
  refine (mul_comm _ _).trans (congrArg₂ (· * ·) ?_ rfl)
  have hx := x.isLt
  have hg : c.val / 512 = 0 ∨ c.val / 512 = 1 ∨ c.val / 512 = 2 ∨ c.val / 512 = 3 := by omega
  rcases hg with hg | hg | hg | hg <;> simp only [hg]
  · rw [dif_pos (by omega)]
    refine congrArg₂ (· - ·) (congrArg₂ Ideal.div (?_ : _ = _) (cnt_ref 2 (by omega) b t R hR)) ((last_row V0 b t _ _ rfl R hR).trans ?_)
    · refine (pool_diff V0 hP b t _ 2 _ _ ?_ ?_ R hR).trans ?_
      · rfl
      · show 14 + t.val + 2 = 16 + t.val; omega
      refine Finset.sum_congr rfl fun d _ => congrArg _ (Fin.ext ?_)
      show x.val = 512 * 0 + x.val; omega
    · refine congrArg _ (congrArg₂ ix2 rfl (Fin.ext ?_))
      show x.val = 512 * 0 + x.val; omega
  · rw [dif_neg (by omega), dif_pos (by omega)]
    refine congrArg₂ (· - ·) (congrArg₂ Ideal.div (?_ : _ = _) (cnt_ref 4 (by omega) b t R hR)) ((last_row V0 b t _ _ rfl R hR).trans ?_)
    · refine (pool_diff V0 hP b t _ 4 _ _ ?_ ?_ R hR)
      · rfl
      · show 12 + t.val + 4 = 16 + t.val; omega
    · rfl
  · rw [dif_neg (by omega), dif_neg (by omega), dif_pos (by omega)]
    refine congrArg₂ (· - ·) (congrArg₂ Ideal.div (?_ : _ = _) (cnt_ref 8 (by omega) b t R hR)) ((last_row V0 b t _ _ rfl R hR).trans ?_)
    · refine (pool_diff V0 hP b t _ 8 _ _ ?_ ?_ R hR)
      · rfl
      · show 8 + t.val + 8 = 16 + t.val; omega
    · rfl
  · rw [dif_neg (by omega), dif_neg (by omega), dif_neg (by omega)]
    refine congrArg₂ (· - ·) (congrArg₂ Ideal.div (?_ : _ = _) (cnt_ref 16 (by omega) b t R hR)) ((last_row V0 b t _ _ rfl R hR).trans ?_)
    · refine (pool_diff V0 hP b t _ 16 _ _ ?_ ?_ R hR)
      · rfl
      · show t.val + 16 = 16 + t.val; omega
    · rfl

end Cert.ReferenceIdeal.Hand

end
-- ==== Proof.Equal.lean ====
/-
   The equation of the two mixers' values: the precondition read as real arguments, the kernel's attention as the plain one,
   and the plain results as the kernel's.
-/
module

public import proofs.«01_k».proof.Proof.RefRes
public import proofs.«01_k».proof.Proof.RefPool
public import proofs.«01_k».proof.Proof.Gen.Pre_finite_inputs
public import proofs.«01_k».proof.Pre_finite_inputs
public import Idealize.ShloMosaic.Lib.ReduceAll

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Cert.KernelIdeal.Hand (kvIdx tblRow penBase sees penW attK attR att_eq bK aK slope_real)

/-- Every sink is a real number. -/
def RealS (S : Vec Ideal S1x32 .f32) : Prop := ∀ i, ∃ r : ℝ, (S i : EReal) = r

/-- A number whose absolute value is below infinity is real. -/
theorem real_of_lt (x : EReal) (h : FloatOps.cmpf (F := Ideal) (φ := .f32) .olt (FloatOps.absf (F := Ideal) (φ := .f32) x) (Ideal.ofBits .f32 0x7F800000#32) = 1#1) :
    ∃ r : ℝ, x = r := by
  rw [Cert.KernelIdeal.Hand.bits_top] at h
  have h1 : Max.max x (-x) < ⊤ := by
    by_contra hn
    have h2 : FloatOps.cmpf (F := Ideal) (φ := .f32) .olt (FloatOps.absf (F := Ideal) (φ := .f32) x) (⊤ : EReal) = BitVec.ofBool (decide (Max.max x (-x) < ⊤)) := rfl
    rw [h2, decide_eq_false hn] at h
    exact absurd h (by decide)
  have h3 : x ≠ ⊤ := fun e => absurd (lt_of_le_of_lt (le_max_left x (-x)) h1) (by rw [e]; exact lt_irrefl _)
  have h4 : x ≠ ⊥ := fun e => absurd (lt_of_le_of_lt (le_max_right x (-x)) h1) (by rw [e]; exact lt_irrefl _)
  exact ⟨x.toReal, (EReal.coe_toReal h3 h4).symm⟩

theorem and_one : ∀ a b : BitVec 1, IntOp.andi a b = 1#1 → a = 1#1 ∧ b = 1#1 := by decide

theorem pre_real (x0 : FVec Ideal S9216x16896 .f32) (x1 : FVec Ideal Cert.Pre_finite_inputs.S1x4x512x512 .f32) (x2 : FVec Ideal Cert.Pre_finite_inputs.S1x2048 .f32) (x3 : FVec Ideal S1x32 .f32)
    (h : Cert.Pre_finite_inputs.fn (F := Ideal) x0 x1 x2 x3 = (fun _ => 1#1)) :
    Real' x0 ∧ RealS x3 := by
  have h0 := congrFun h ix0
  dsimp only [Cert.Pre_finite_inputs.fn] at h0
  obtain ⟨h1, h2⟩ := and_one _ _ h0
  haveI : Subsingleton Cert.Pre_finite_inputs.S_.Idx := ⟨fun a b => funext fun z => z.elim0⟩
  exact ⟨fun i => real_of_lt _ (Host.reduce_andi_all _ _ _ _ _ h1 i), fun i => real_of_lt _ (Host.reduce_andi_all _ _ _ _ _ h2 i)⟩

/-- A key in sight is one of the sequence's own. -/
theorem sees_own (R : Fin 8192) (s : Fin 256) (a : Fin 128) (h : sees (penBase (tblRow R)) s a = 1#1) : 128 ≤ R.val % 4096 / 128 * 128 + s.val := by
  by_contra hn
  have hs : s.val < 128 := by omega
  have ht : tblRow R = 0 := by unfold tblRow; rw [if_pos (by omega)]
  have key : ∀ x : Fin 128, IntOp.cmpi CmpIPredicate.sge (IntOp.addi 4294967168#32 (BitVec.ofNat 32 x.val)) 0#32 = 0#1 := by decide
  have k2 := key ⟨s.val, hs⟩
  rw [ht] at h
  unfold sees at h
  rw [show penBase 0 = 4294967168#32 from rfl, show BitVec.ofNat 32 s.val = BitVec.ofNat 32 (⟨s.val, hs⟩ : Fin 128).val from rfl, k2] at h
  exact absurd (and_one _ _ h).2 (by decide)

/-- The kernel's attention at an entry is the plain one. -/
theorem bK_eq (P : Vec Ideal S9216x16896 .f32) (S : Vec Ideal S1x32 .f32) (hP : Real' P) (hS : RealS S)
    (R : Fin 8192) (C : Fin 2048) :
    bK P S R C = P (ix2 ⟨R.val, by omega⟩ ⟨6656 + C.val, by omega⟩) * Ideal.logistic (P (ix2 ⟨R.val, by omega⟩ ⟨6656 + C.val, by omega⟩)) * bR P S R C := by
  have hR := R.isLt
  have hC := C.isLt
  choose p hp using hP
  choose t ht using hS
  obtain ⟨w, hw⟩ := slope_real (C.val / 64)
  have hd : ∀ z : BitVec 32, FloatOps.sitofp (F := Ideal) FTy.f32 z = (((z.toInt : ℝ)) : EReal) := fun _ => rfl
  have hk : ∀ (s : Fin 256) (c : Fin 16896), kZ P R s c = (((if 128 ≤ R.val % 4096 / 128 * 128 + s.val then p (ix2 (kvIdx R s) c) else 0 : ℝ)) : EReal) := by
    intro s c
    unfold kZ
    split
    · exact hp _
    · rfl
  unfold bK bR penW
  refine congrArg₂ (fun x y : EReal => x * y) rfl ?_
  simp only [hk, hp, ht, hw, hd, ← EReal.coe_mul]
  exact att_eq _ _ _ _ _ _ _ _ fun s hs => by
    have := sees_own R s _ hs
    simp only [if_pos this]
    constructor <;> first | rfl | trivial

/-- The plain pooling's result at an entry. -/
theorem v180_at (V0 : Valuation τ sig (Elt Ideal)) (hP : Real' (V0 (Proc.devRef .tc main_arg0))) (R : Fin 8192) (C : Fin 2048) :
    (truncf .bf16 (shapeCast _ (res_main_v174 V0) shapeCasts_S2x4096x2048_S8192x2048) bitsLt_bf16_f32 : Vec Ideal S8192x2048 .bf16) (ix2 R C)
      = aK (V0 (Proc.devRef .tc main_arg0)) (V0 (Proc.devRef .tc main_arg1)) (V0 (Proc.devRef .tc main_arg2)) R C := by
  have hR := R.isLt
  pointwise
  exact v174_at V0 hP ⟨R.val / 4096, by omega⟩ ⟨R.val % 4096, by omega⟩ C R (by show R.val = R.val / 4096 * 4096 + R.val % 4096; omega)

theorem ix2_self (i : S8192x2048.Idx) : i = ix2 (i 0) (i 1) := by
  funext a
  match a with
  | ⟨0, _⟩ => rfl
  | ⟨1, _⟩ => rfl

/-- The run of the plain program, its results named as the kernel's. -/
theorem run_values (m : (ℓ : Loc nD τ sig) → Buf (Elt Ideal) ℓ) (ρ : Dev nD → PrngReg)
    (hm : ∀ c : Dev nD, Real' (m ((c.tc : Thread nD τ).loc main_arg0)) ∧ RealS (m ((c.tc : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v178) = (fun i => bK (m ((c.tc : Thread nD τ).loc main_arg0)) (m ((c.tc : Thread nD τ).loc main_arg3)) (i 0) (i 1))
      ∧ r.2.mem ((c.tc : Thread nD τ).loc main_v180) = (fun i => aK (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.ReferenceIdeal.Value.run (F := Ideal) m ρ)
  obtain ⟨h1, h2, h3⟩ := h c
  obtain ⟨hP, hS⟩ := hm c
  refine ⟨h1.trans (funext fun i => ?_), h2.trans (funext fun i => ?_), h3⟩
  · exact (congrArg _ (ix2_self i)).trans ((v178_at (StableHlo.launchContents m c) (i 0) (i 1)).trans
      (bK_eq (m ((c.tc : Thread nD τ).loc main_arg0)) (m ((c.tc : Thread nD τ).loc main_arg3)) hP hS (i 0) (i 1)).symm)
  · exact (congrArg _ (ix2_self i)).trans (v180_at (StableHlo.launchContents m c) hP (i 0) (i 1))

end Cert.ReferenceIdeal.Hand

end
-- ==== Proof.ProjRun.lean ====
/-
   One grid point of the projection: which of the two weight buffers it fills a chunk of, which it multiplies by.
-/
module

public import proofs.«01_k».proof.Proof.Gen.Kernel2Ideal.Frame
public import proofs.«01_k».proof.Proof.Gen.Kernel2Ideal.Skeleton
public import Idealize.ShloMosaic.Lib.Tactic.Stretches
public import Idealize.ShloMosaic.Lib.Pipeline.ReadBack
public import Idealize.ShloMosaic.Lib.WritesUnit
public import Idealize.ShloMosaic.Lib.VecWindow

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off1_eq : ∀ i : grid0.Coords, k0_off1 i = ![256 * (i 1).val, 0] := by
  decide +kernel
theorem off2_eq : ∀ i : grid0.Coords, k0_off2 i = ![256 * (i 1).val, 0] := off1_eq
theorem off3_eq : ∀ i : grid0.Coords, k0_off3 i = ![256 * (i 1).val, 0] := off1_eq

/-- `b` is `a` with chunk `n`'s 256 rows replaced by `p`. -/
def Put (n : ℕ) (a b : Vec F S4096x1792 .bf16) (p : Vec F S256x1792 .bf16) : Prop :=
  (∀ (y : S4096x1792.Idx) (x : S256x1792.Idx), (y 0).val = 256 * n + (x 0).val → (y 1).val = (x 1).val → b y = p x)
    ∧ ∀ y : S4096x1792.Idx, (y 0).val / 256 ≠ n → b y = a y

/-- A store of whole rows is such a replacement. -/
theorem put_of_store (v : View sig .tc .vmem S4096x1792 .bf16) (f : v.ty.Contents (Elt F)) {off : Fin 2 → ℕ} (n : ℕ)
    (inb : ∀ a : Fin 2, off a + S256x1792.size a ≤ S4096x1792.size a) (hoff : off = ![256 * n, 0]) (p : Vec F S256x1792 .bf16) :
    Put n (v.read (Elt F) f) (v.read (Elt F) (v.writes (Elt F) f [⟨Rect.unit (s := S4096x1792) off S256x1792.size inb, p⟩])) p := by
  refine ⟨fun y x h0 h1 => ?_, fun y h => ?_⟩
  · exact View.read_writes_cons_rows_of_mem v f inb p [] y x hoff h0 h1
  · refine (View.read_writes_cons_rows_of_not_mem (W := 256) v f inb p [] y hoff rfl ?_).trans rfl
    omega

set_option maxHeartbeats 2000000 in
/-- A point of the first pass: the first buffer gets its chunk, the product's block is left as found. -/
theorem run_stage (c : Dev nD) (i : grid0.Coords) (arg2 : Memref sig .tc .vmem S576x4096 .bf16) (harg2 : arg2.IsWhole) (arg3 : Memref sig .tc .vmem S256x1792 .f32) (harg3 : arg3.IsWhole) (arg4 : Memref sig .tc .vmem S32x4096 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .hbm S9216x16896 .f32) (harg7 : arg7.IsWhole) (arg8 : Memref sig .tc .vmem S576x1792 .f32) (harg8 : arg8.IsWhole) (arg9 : Memref sig .tc .vmem S32x4096 .bf16) (harg9 : arg9.IsWhole) (arg10 : Memref sig .tc .vmem S1x128x256 .f32) (harg10 : arg10.IsWhole) (arg11 : Memref sig .tc .vmem S1x128x256 .f32) (harg11 : arg11.IsWhole) (arg12 : Memref sig .tc .vmem S4096x1792 .bf16) (harg12 : arg12.IsWhole) (arg13 : Memref sig .tc .vmem S4096x1792 .bf16) (harg13 : arg13.IsWhole)
    (h1 : k0_cond1 i = 1#1) (h2 : ¬ k0_cond2 i = 1#1) (h3 : ¬ k0_cond3 i = 1#1) (x2 : Vec F S576x4096 .bf16) (x3 : Vec F S256x1792 .f32) (x4 : Vec F S32x4096 .f32) (x5 : Vec F S1x256x128 .f32) (x6 : Vec F S1x256x128 .f32) (x8 : Vec F S576x1792 .f32) (x12 : Vec F S4096x1792 .bf16) (x13 : Vec F S4096x1792 .bf16) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ owns (c : Thread nD τ) arg9 fullShare (k0_pay1 x4) ∗ owns (c : Thread nD τ) arg10 fullShare (k0_pay2 x5) ∗ owns (c : Thread nD τ) arg11 fullShare (k0_pay3 x6) ∗ (∃ b, ⌜Put (i 1).val x12 b (k0_pay4 x3)⌝ ∗ owns (c : Thread nD τ) arg12 fullShare b) ∗ owns (c : Thread nD τ) arg13 fullShare x13) -∗ K ⟨⟩))
        ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K := by
  intro E K
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
  subst hf2; subst hf3; subst hf4; subst hf5; subst hf6; subst hf8; subst hf12; subst hf13
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists f8; isplitr; · ipureintro; rfl
    iexact H8
  isplitl [H9]
  · iexists _; isplitr; swap; · iexact H9
    ipureintro
    sl_open_run
    refine (View.read_writes_full _ _ _ _ _).trans ?_
    exact congrArg k0_pay1 (View.readAt_full _ _ _)
  isplitl [H10]
  · iexists _; isplitr; swap; · iexact H10
    ipureintro
    sl_open_run
    refine (View.read_writes_full _ _ _ _ _).trans ?_
    exact congrArg k0_pay2 (View.readAt_full _ _ _)
  isplitl [H11]
  · iexists _; isplitr; swap; · iexact H11
    ipureintro
    sl_open_run
    refine (View.read_writes_full _ _ _ _ _).trans ?_
    exact congrArg k0_pay3 (View.readAt_full _ _ _)
  isplitl [H12]
  · iexists _; isplitr; swap
    · iexists _; isplitr; swap; · iexact H12
      ipureintro; rfl
    ipureintro
    sl_open_run
    have e : k0_pay4 (arg3.view.readAt (Elt F) (Rect.unit (s := S256x1792) ![0, 0] S256x1792.size inb_S256x1792_S256x1792_0_0).toLoadRect f3) = k0_pay4 (arg3.view.read (Elt F) f3) := congrArg k0_pay4 (View.readAt_full _ _ _)
    rw [← e]
    exact put_of_store arg12.view f12 _ _ (off1_eq i) _
  iexists f13; isplitr; · ipureintro; rfl
  iexact H13

set_option maxHeartbeats 2000000 in
/-- A point of a later even pass: the first buffer gets its chunk, the product is by the second. -/
theorem run_even (c : Dev nD) (i : grid0.Coords) (arg2 : Memref sig .tc .vmem S576x4096 .bf16) (harg2 : arg2.IsWhole) (arg3 : Memref sig .tc .vmem S256x1792 .f32) (harg3 : arg3.IsWhole) (arg4 : Memref sig .tc .vmem S32x4096 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .hbm S9216x16896 .f32) (harg7 : arg7.IsWhole) (arg8 : Memref sig .tc .vmem S576x1792 .f32) (harg8 : arg8.IsWhole) (arg9 : Memref sig .tc .vmem S32x4096 .bf16) (harg9 : arg9.IsWhole) (arg10 : Memref sig .tc .vmem S1x128x256 .f32) (harg10 : arg10.IsWhole) (arg11 : Memref sig .tc .vmem S1x128x256 .f32) (harg11 : arg11.IsWhole) (arg12 : Memref sig .tc .vmem S4096x1792 .bf16) (harg12 : arg12.IsWhole) (arg13 : Memref sig .tc .vmem S4096x1792 .bf16) (harg13 : arg13.IsWhole)
    (h1 : ¬ k0_cond1 i = 1#1) (h2 : k0_cond2 i = 1#1) (h3 : ¬ k0_cond3 i = 1#1) (x2 : Vec F S576x4096 .bf16) (x3 : Vec F S256x1792 .f32) (x4 : Vec F S32x4096 .f32) (x5 : Vec F S1x256x128 .f32) (x6 : Vec F S1x256x128 .f32) (x8 : Vec F S576x1792 .f32) (x12 : Vec F S4096x1792 .bf16) (x13 : Vec F S4096x1792 .bf16) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare (k0_pay9 x2 x13) ∗ owns (c : Thread nD τ) arg9 fullShare (k0_pay1 x4) ∗ owns (c : Thread nD τ) arg10 fullShare (k0_pay2 x5) ∗ owns (c : Thread nD τ) arg11 fullShare (k0_pay3 x6) ∗ (∃ b, ⌜Put (i 1).val x12 b (k0_pay4 x3)⌝ ∗ owns (c : Thread nD τ) arg12 fullShare b) ∗ owns (c : Thread nD τ) arg13 fullShare x13) -∗ K ⟨⟩))
        ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K := by
  intro E K
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
  subst hf2; subst hf3; subst hf4; subst hf5; subst hf6; subst hf8; subst hf12; subst hf13
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists _; isplitr; swap; · iexact H8
    ipureintro
    sl_open_run
    refine (View.read_writes_full _ _ _ _ _).trans ?_
    exact congrArg₂ k0_pay9 (View.readAt_full _ _ _) (View.readAt_full _ _ _)
  isplitl [H9]
  · iexists _; isplitr; swap; · iexact H9
    ipureintro
    sl_open_run
    refine (View.read_writes_full _ _ _ _ _).trans ?_
    exact congrArg k0_pay1 (View.readAt_full _ _ _)
  isplitl [H10]
  · iexists _; isplitr; swap; · iexact H10
    ipureintro
    sl_open_run
    refine (View.read_writes_full _ _ _ _ _).trans ?_
    exact congrArg k0_pay2 (View.readAt_full _ _ _)
  isplitl [H11]
  · iexists _; isplitr; swap; · iexact H11
    ipureintro
    sl_open_run
    refine (View.read_writes_full _ _ _ _ _).trans ?_
    exact congrArg k0_pay3 (View.readAt_full _ _ _)
  isplitl [H12]
  · iexists _; isplitr; swap
    · iexists _; isplitr; swap; · iexact H12
      ipureintro; rfl
    ipureintro
    sl_open_run
    have e : k0_pay4 (arg3.view.readAt (Elt F) (Rect.unit (s := S256x1792) ![0, 0] S256x1792.size inb_S256x1792_S256x1792_0_0).toLoadRect f3) = k0_pay4 (arg3.view.read (Elt F) f3) := congrArg k0_pay4 (View.readAt_full _ _ _)
    rw [← e]
    exact put_of_store arg12.view f12 _ _ (off2_eq i) _
  iexists f13; isplitr; · ipureintro; rfl
  iexact H13

set_option maxHeartbeats 2000000 in
/-- A point of an odd pass: the second buffer gets its chunk, the product is by the first. -/
theorem run_odd (c : Dev nD) (i : grid0.Coords) (arg2 : Memref sig .tc .vmem S576x4096 .bf16) (harg2 : arg2.IsWhole) (arg3 : Memref sig .tc .vmem S256x1792 .f32) (harg3 : arg3.IsWhole) (arg4 : Memref sig .tc .vmem S32x4096 .f32) (harg4 : arg4.IsWhole) (arg5 : Memref sig .tc .vmem S1x256x128 .f32) (harg5 : arg5.IsWhole) (arg6 : Memref sig .tc .vmem S1x256x128 .f32) (harg6 : arg6.IsWhole) (arg7 : Memref sig .tc .hbm S9216x16896 .f32) (harg7 : arg7.IsWhole) (arg8 : Memref sig .tc .vmem S576x1792 .f32) (harg8 : arg8.IsWhole) (arg9 : Memref sig .tc .vmem S32x4096 .bf16) (harg9 : arg9.IsWhole) (arg10 : Memref sig .tc .vmem S1x128x256 .f32) (harg10 : arg10.IsWhole) (arg11 : Memref sig .tc .vmem S1x128x256 .f32) (harg11 : arg11.IsWhole) (arg12 : Memref sig .tc .vmem S4096x1792 .bf16) (harg12 : arg12.IsWhole) (arg13 : Memref sig .tc .vmem S4096x1792 .bf16) (harg13 : arg13.IsWhole)
    (h1 : ¬ k0_cond1 i = 1#1) (h2 : ¬ k0_cond2 i = 1#1) (h3 : k0_cond3 i = 1#1) (x2 : Vec F S576x4096 .bf16) (x3 : Vec F S256x1792 .f32) (x4 : Vec F S32x4096 .f32) (x5 : Vec F S1x256x128 .f32) (x6 : Vec F S1x256x128 .f32) (x8 : Vec F S576x1792 .f32) (x12 : Vec F S4096x1792 .bf16) (x13 : Vec F S4096x1792 .bf16) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare (k0_pay9 x2 x12) ∗ owns (c : Thread nD τ) arg9 fullShare (k0_pay1 x4) ∗ owns (c : Thread nD τ) arg10 fullShare (k0_pay2 x5) ∗ owns (c : Thread nD τ) arg11 fullShare (k0_pay3 x6) ∗ owns (c : Thread nD τ) arg12 fullShare x12 ∗ (∃ b, ⌜Put (i 1).val x13 b (k0_pay4 x3)⌝ ∗ owns (c : Thread nD τ) arg13 fullShare b)) -∗ K ⟨⟩))
        ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K := by
  intro E K
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
  subst hf2; subst hf3; subst hf4; subst hf5; subst hf6; subst hf8; subst hf12; subst hf13
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H8]
  · iexists _; isplitr; swap; · iexact H8
    ipureintro
    sl_open_run
    refine (View.read_writes_full _ _ _ _ _).trans ?_
    exact congrArg₂ k0_pay9 (View.readAt_full _ _ _) (View.readAt_full _ _ _)
  isplitl [H9]
  · iexists _; isplitr; swap; · iexact H9
    ipureintro
    sl_open_run
    refine (View.read_writes_full _ _ _ _ _).trans ?_
    exact congrArg k0_pay1 (View.readAt_full _ _ _)
  isplitl [H10]
  · iexists _; isplitr; swap; · iexact H10
    ipureintro
    sl_open_run
    refine (View.read_writes_full _ _ _ _ _).trans ?_
    exact congrArg k0_pay2 (View.readAt_full _ _ _)
  isplitl [H11]
  · iexists _; isplitr; swap; · iexact H11
    ipureintro
    sl_open_run
    refine (View.read_writes_full _ _ _ _ _).trans ?_
    exact congrArg k0_pay3 (View.readAt_full _ _ _)
  isplitl [H12]
  · iexists f12; isplitr; · ipureintro; rfl
    iexact H12
  iexists _; isplitr; swap
  · iexists _; isplitr; swap; · iexact H13
    ipureintro; rfl
  ipureintro
  sl_open_run
  have e : k0_pay4 (arg3.view.readAt (Elt F) (Rect.unit (s := S256x1792) ![0, 0] S256x1792.size inb_S256x1792_S256x1792_0_0).toLoadRect f3) = k0_pay4 (arg3.view.read (Elt F) f3) := congrArg k0_pay4 (View.readAt_full _ _ _)
  rw [← e]
  exact put_of_store arg13.view f13 _ _ (off3_eq i) _

end Cert.Kernel2Ideal.Hand

end
-- ==== Proof.ProjFrame.lean ====
/-
   The projection's run: what the two weight buffers hold before each grid point, and the frame.
-/
module

public import proofs.«01_k».proof.Proof.ProjRun
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_eq : cfg0.N = 160 := by decide +kernel
theorem coord0 : ∀ t : Fin cfg0.N, (grid0.coords t 0).val = t.val / 16 := (by decide +kernel : ∀ t : Fin grid0.N, _)
theorem coord1 : ∀ t : Fin cfg0.N, (grid0.coords t 1).val = t.val % 16 := (by decide +kernel : ∀ t : Fin grid0.N, _)

/-- The first pass only stages, -/
theorem is_stage : ∀ t : Fin cfg0.N, t.val / 16 = 0 → k0_cond1 (grid0.coords t) = 1#1 ∧ ¬ k0_cond2 (grid0.coords t) = 1#1 ∧ ¬ k0_cond3 (grid0.coords t) = 1#1 :=
  (by decide +kernel : ∀ t : Fin grid0.N, t.val / 16 = 0 → k0_cond1 (grid0.coords t) = 1#1 ∧ ¬ k0_cond2 (grid0.coords t) = 1#1 ∧ ¬ k0_cond3 (grid0.coords t) = 1#1)
/-- the later even ones multiply by the second buffer, -/
theorem is_even : ∀ t : Fin cfg0.N, t.val / 16 ≠ 0 → t.val / 16 % 2 = 0 → ¬ k0_cond1 (grid0.coords t) = 1#1 ∧ k0_cond2 (grid0.coords t) = 1#1 ∧ ¬ k0_cond3 (grid0.coords t) = 1#1 :=
  (by decide +kernel : ∀ t : Fin grid0.N, t.val / 16 ≠ 0 → t.val / 16 % 2 = 0 → ¬ k0_cond1 (grid0.coords t) = 1#1 ∧ k0_cond2 (grid0.coords t) = 1#1 ∧ ¬ k0_cond3 (grid0.coords t) = 1#1)
/-- and the odd ones by the first. -/
theorem is_odd : ∀ t : Fin cfg0.N, t.val / 16 % 2 = 1 → ¬ k0_cond1 (grid0.coords t) = 1#1 ∧ ¬ k0_cond2 (grid0.coords t) = 1#1 ∧ k0_cond3 (grid0.coords t) = 1#1 :=
  (by decide +kernel : ∀ t : Fin grid0.N, t.val / 16 % 2 = 1 → ¬ k0_cond1 (grid0.coords t) = 1#1 ∧ ¬ k0_cond2 (grid0.coords t) = 1#1 ∧ k0_cond3 (grid0.coords t) = 1#1)

/-- The chunk of weights that point `t` stages. -/
def chunk (c : Dev nD) (t : Fin cfg0.N) : Vec F S256x1792 .bf16 := k0_pay4 (X0_1 m c t)

/-- What is known of the two buffers before point `n`: of each pass that still matters, the chunks staged so far. The even
    passes stage into the first buffer, the odd ones into the second. -/
def Staged (c : Dev nD) (n : ℕ) (a b : Vec F S4096x1792 .bf16) : Prop :=
  ∀ s : Fin cfg0.N, s.val < n → n / 16 ≤ s.val / 16 + 1 → ∀ (y : S4096x1792.Idx) (x : S256x1792.Idx),
    (y 0).val = 256 * (s.val % 16) + (x 0).val → (y 1).val = (x 1).val →
    (if s.val / 16 % 2 = 0 then a else b) y = chunk m c s x

/-- The weights point `t` multiplies by: those of the pass before. -/
def weights (c : Dev nD) (t : Fin cfg0.N) : Vec F S4096x1792 .bf16 := fun y =>
  chunk m c ⟨16 * (t.val / 16 - 1) + (y 0).val / 256, by
      have ht : t.val < 160 := lt_of_lt_of_eq t.isLt N_eq
      have hy : (y 0).val < 4096 := (y 0).isLt
      have := N_eq; omega⟩
    (ix2 ⟨(y 0).val % 256, Nat.mod_lt _ (by decide)⟩ (y 1))

/-- The buffer a later pass multiplies by holds them. -/
theorem weights_of (c : Dev nD) (t : Fin cfg0.N) (a b : Vec F S4096x1792 .bf16) (h : Staged m c t.val a b) (h0 : t.val / 16 ≠ 0) :
    (if t.val / 16 % 2 = 0 then b else a) = weights m c t := by
  funext y
  have hy : (y 0).val < 4096 := (y 0).isLt
  have ht : t.val < 160 := lt_of_lt_of_eq t.isLt N_eq
  unfold weights
  refine Eq.trans ?_ (h _ ?_ ?_ y _ ?_ rfl)
  · refine congrArg (fun f : Vec F S4096x1792 .bf16 => f y) ?_
    dsimp only
    by_cases e : t.val / 16 % 2 = 0
    · rw [if_pos e, if_neg (by omega)]
    · rw [if_neg e, if_pos (by omega)]
  · dsimp only; omega
  · dsimp only; omega
  · show (y 0).val = 256 * ((16 * (t.val / 16 - 1) + (y 0).val / 256) % 16) + (y 0).val % 256
    omega

/-- A chunk more, in the first buffer. -/
theorem staged_even (c : Dev nD) (t : Fin cfg0.N) (a a' b : Vec F S4096x1792 .bf16) (h : Staged m c t.val a b) (he : t.val / 16 % 2 = 0)
    (hp : Put (grid0.coords t 1).val a a' (chunk m c t)) : Staged m c (t.val + 1) a' b := by
  rw [coord1] at hp
  intro s hs hn y x h0 h1
  have hx : (x 0).val < 256 := (x 0).isLt
  by_cases e : s.val = t.val
  · have e' : s = t := Fin.ext e
    subst e'
    rw [if_pos he]
    exact hp.1 y x h0 h1
  · have hh := h s (by omega) (by omega) y x h0 h1
    by_cases e2 : s.val / 16 % 2 = 0
    · rw [if_pos e2] at hh ⊢
      exact (hp.2 y (by omega)).trans hh
    · rw [if_neg e2] at hh ⊢
      exact hh

/-- A chunk more, in the second. -/
theorem staged_odd (c : Dev nD) (t : Fin cfg0.N) (a b b' : Vec F S4096x1792 .bf16) (h : Staged m c t.val a b) (he : t.val / 16 % 2 = 1)
    (hp : Put (grid0.coords t 1).val b b' (chunk m c t)) : Staged m c (t.val + 1) a b' := by
  rw [coord1] at hp
  intro s hs hn y x h0 h1
  have hx : (x 0).val < 256 := (x 0).isLt
  by_cases e : s.val = t.val
  · have e' : s = t := Fin.ext e
    subst e'
    rw [if_neg (by omega)]
    exact hp.1 y x h0 h1
  · have hh := h s (by omega) (by omega) y x h0 h1
    by_cases e2 : s.val / 16 % 2 = 0
    · rw [if_pos e2] at hh ⊢
      exact hh
    · rw [if_neg e2] at hh ⊢
      exact (hp.2 y (by omega)).trans hh

/-- Between points: two buffers of which `Staged` holds. -/
def inv (c : Dev nD) (n : ℕ) : sProp 𝕄 :=
  iprop((∃ a b : Vec F S4096x1792 .bf16, ⌜Staged m c n a b⌝ ∗ owns (c : Thread nD τ) (Memref.whole cc0_scratch0) fullShare a
      ∗ owns (c : Thread nD τ) (Memref.whole cc0_scratch1) fullShare b) ∗ ∃ r, prngReg c r)

/-- The product's block after point `t`. -/
def outAt (c : Dev nD) (t : Fin cfg0.N) : Vec F S576x1792 .f32 := k0_pay9 (iblk m c 0 t) (weights m c t)

/-- The run's data: the arrays at entry, each window's block after a point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => outAt m c t
    | ⟨6, _⟩ => k0_pay1 (iblk m c 2 t)
    | ⟨7, _⟩ => k0_pay2 (iblk m c 3 t)
    | ⟨8, _⟩ => k0_pay3 (iblk m c 4 t)
    | ⟨_ + 9, h⟩ => absurd h (by simp only [cfg0]; omega)
  Φ t := inv m c t.val
  q w := fullShare
  owed _ := 0

theorem A_eq (c : Dev nD) (w) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]
theorem after_6 (c : Dev nD) (t : Fin cfg0.N) : (dats m 0 c).after 6 t = k0_pay1 (iblk m c 2 t) := by dsimp only [dats]
theorem after_7 (c : Dev nD) (t : Fin cfg0.N) : (dats m 0 c).after 7 t = k0_pay2 (iblk m c 3 t) := by dsimp only [dats]
theorem after_8 (c : Dev nD) (t : Fin cfg0.N) : (dats m 0 c).after 8 t = k0_pay3 (iblk m c 4 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The block of the product is left alone in the first pass only, and is not written back there. -/
theorem idle5 : ∀ t : Fin cfg0.N, t.val / 16 = 0 → cfg0.idle 5 (cfg0.grid.coords t) = true ∧ (cfg0.win 5).flush t = false :=
  (by decide +kernel : ∀ t : Fin cfg0.N, t.val / 16 = 0 → idle0 5 (grid0.coords t) = true ∧ win0_5.flush t = false)
theorem live5 : ∀ t : Fin cfg0.N, t.val / 16 ≠ 0 → cfg0.idle 5 (cfg0.grid.coords t) = false :=
  (by decide +kernel : ∀ t : Fin cfg0.N, t.val / 16 ≠ 0 → idle0 5 (grid0.coords t) = false)
theorem live6 : ∀ t : Fin cfg0.N, cfg0.idle 6 (cfg0.grid.coords t) = false := (by decide +kernel : ∀ t : Fin cfg0.N, idle0 6 (grid0.coords t) = false)
theorem live7 : ∀ t : Fin cfg0.N, cfg0.idle 7 (cfg0.grid.coords t) = false := live6
theorem live8 : ∀ t : Fin cfg0.N, cfg0.idle 8 (cfg0.grid.coords t) = false := live6

theorem Φ_castSucc (c : Dev nD) (t : Fin cfg0.N) : (dats m 0 c).Φ t.castSucc = inv m c t.val := rfl
theorem Φ_succ (c : Dev nD) (t : Fin cfg0.N) : (dats m 0 c).Φ t.succ = inv m c (t.val + 1) := rfl

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The body at a point: it stages, and but in the first pass it multiplies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  unfold Dat.owesAt Pipeline.owesWithin
  rw [show (dats m 0 c).owed t.castSucc = 0 from rfl, show (dats m 0 c).owed t.succ = 0 from rfl, Φ_castSucc, Φ_succ]
  rw [leaves_live m c 0 t rfl, leaves_live m c 1 t rfl, leaves_live m c 2 t rfl, leaves_live m c 3 t rfl, leaves_live m c 4 t rfl,
    leaves_live m c 6 t (live6 t), leaves_live m c 7 t (live7 t), leaves_live m c 8 t (live8 t)]
  simp only [before_0, before_1, before_2, before_3, before_4, after_0, after_1, after_2, after_3, after_4, after_6, after_7, after_8]
  unfold inv
  by_cases h0 : t.val / 16 = 0
  · rw [Dat.leavesExact_idle _ 5 t (idle5 t h0).1 (idle5 t h0).2]
    iintro ⟨⟨⟨%a, %b, %hS, HS0, HS1⟩, Hg⟩, ⟨%W, HB, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_stage c (grid0.coords t) _ _ _ _ _ _ _ _ _ _ _ _ _ _ _ _ _ _ _ _ (Memref.whole cc0_scratch0) (Memref.isWhole_whole _) (Memref.whole cc0_scratch1) (Memref.isWhole_whole _) (is_stage t h0).1 (is_stage t h0).2.1 (is_stage t h0).2.2 (iblk m c 0 t) (X0_1 m c t) (iblk m c 2 t) (iblk m c 3 t) (iblk m c 4 t) ((dats m 0 c).before 5 t d5) a b Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, ⟨%a', %hp, HS0⟩, HS1⟩
    isplitl [HS0 HS1 Hg]
    · isplitl [HS0 HS1]
      · iexists a', b
        isplitr; · ipureintro; exact staged_even m c t a a' b hS (by omega) hp
        isplitl [HS0]; · iexact HS0
        iexact HS1
      iexact Hg
    isplitl [HB HW]
    · iexists W; isplitl [HB]; · iexact HB
      iexact HW
    isplitl [H0]; · iexact H0
    isplitl [H1]; · iexact H1
    isplitl [H2]; · iexact H2
    isplitl [H3]; · iexact H3
    isplitl [H4]; · iexact H4
    isplitl [H5]; · iexists d5; iexact H5
    isplitl [H6]; · iexact H6
    isplitl [H7]; · iexact H7
    iexact H8
  rw [leaves_live m c 5 t (live5 t h0), after_5]
  unfold outAt
  by_cases he : t.val / 16 % 2 = 0
  · iintro ⟨⟨⟨%a, %b, %hS, HS0, HS1⟩, Hg⟩, ⟨%W, HB, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hw : b = weights m c t := (if_pos he).symm.trans (weights_of m c t a b hS h0)
    rw [← hw]
    iapply (run_even c (grid0.coords t) _ _ _ _ _ _ _ _ _ _ _ _ _ _ _ _ _ _ _ _ (Memref.whole cc0_scratch0) (Memref.isWhole_whole _) (Memref.whole cc0_scratch1) (Memref.isWhole_whole _) (is_even t h0 he).1 (is_even t h0 he).2.1 (is_even t h0 he).2.2 (iblk m c 0 t) (X0_1 m c t) (iblk m c 2 t) (iblk m c 3 t) (iblk m c 4 t) ((dats m 0 c).before 5 t d5) a b Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, ⟨%a', %hp, HS0⟩, HS1⟩
    isplitl [HS0 HS1 Hg]
    · isplitl [HS0 HS1]
      · iexists a', b
        isplitr; · ipureintro; exact staged_even m c t a a' b hS he hp
        isplitl [HS0]; · iexact HS0
        iexact HS1
      iexact Hg
    isplitl [HB HW]
    · iexists W; isplitl [HB]; · iexact HB
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have he : t.val / 16 % 2 = 1 := by omega
    iintro ⟨⟨⟨%a, %b, %hS, HS0, HS1⟩, Hg⟩, ⟨%W, HB, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hw : a = weights m c t := (if_neg (by omega)).symm.trans (weights_of m c t a b hS h0)
    rw [← hw]
    iapply (run_odd c (grid0.coords t) _ _ _ _ _ _ _ _ _ _ _ _ _ _ _ _ _ _ _ _ (Memref.whole cc0_scratch0) (Memref.isWhole_whole _) (Memref.whole cc0_scratch1) (Memref.isWhole_whole _) (is_odd t he).1 (is_odd t he).2.1 (is_odd t he).2.2 (iblk m c 0 t) (X0_1 m c t) (iblk m c 2 t) (iblk m c 3 t) (iblk m c 4 t) ((dats m 0 c).before 5 t d5) a b Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, ⟨%b', %hp, HS1⟩⟩
    isplitl [HS0 HS1 Hg]
    · isplitl [HS0 HS1]
      · iexists a, b'
        isplitr; · ipureintro; exact staged_odd m c t a b b' hS he hp
        isplitl [HS0]; · iexact HS0
        iexact HS1
      iexact Hg
    isplitl [HB HW]
    · iexists W; isplitl [HB]; · iexact HB
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known of the buffers before the first point, -/
theorem inv_first (c : Dev nD) : Pipeline.ΦA spec0 c ⊢ (dats m 0 c).Φ 0 := by
  rw [show (dats m 0 c).Φ 0 = inv m c 0 from rfl]
  unfold inv Pipeline.ΦA
  rw [scopedRest0_eq]
  iintro ⟨⟨⟨%f0, HS0⟩, ⟨%f1, HS1⟩⟩, Hg⟩
  isplitl [HS0 HS1]
  · iexists f0, f1
    isplitr; · ipureintro; exact fun s hs => absurd hs (Nat.not_lt_zero _)
    rw [owns_whole, owns_whole]
    isplitl [HS0]; · iexact HS0
    iexact HS1
  iexact Hg

/-- and what is known at the end is forgotten. -/
theorem inv_last (c : Dev nD) : (dats m 0 c).Φ (Fin.last cfg0.N) ⊢ Pipeline.ΦA spec0 c := by
  rw [show (dats m 0 c).Φ (Fin.last cfg0.N) = inv m c 160 from congrArg (inv m c) N_0]
  unfold inv Pipeline.ΦA
  rw [scopedRest0_eq]
  simp only [owns_whole]
  iintro ⟨⟨%a, %b, -, HS0, HS1⟩, Hg⟩
  isplitl [HS0 HS1]
  · isplitl [HS0]
    · iexists a; iexact HS0
    iexists b; iexact HS1
  iexact Hg

set_option backward.isDefEq.respectTransparency.types false in
/-- The whole run: the arrays end as the points' blocks leave them, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c).loose) (fun _ w => by fin_cases w <;> rfl) (fun _ _ => rfl) (V0 m) [hostOps1]
    sfx_sub sfx_fresh sfx_keeps (hmain m Variants.none) (A_eq m)
    (inv_first m) (inv_last m) _ (fun _ h => h)

/-- The frame: the arguments end unchanged and every semaphore ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).1 0).trans (((dats m 0 c).arrAt_in 0 rfl _).trans ((A_eq m c 0).trans (V_main_arg0 m c))),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c)),
      ((h.1 c).1 3).trans (((dats m 0 c).arrAt_in 3 rfl _).trans ((A_eq m c 3).trans (V_main_arg4 m c))),
      ((h.1 c).1 4).trans (((dats m 0 c).arrAt_in 4 rfl _).trans ((A_eq m c 4).trans (V_main_arg5 m c)))⟩, h.2⟩) (run_main m ρ)

end Cert.Kernel2Ideal.Hand

end
-- ==== Proof.ProjArr.lean ====
/-
   The projection's values: every entry of the written columns is the row of activations times the column of weights.
-/
module

public import proofs.«01_k».proof.Proof.ProjFrame

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem

variable (m : (ℓ : Loc nD τ sig) → Buf (Elt Ideal) ℓ)

theorem pay4_at (v : Vec Ideal S256x1792 .f32) (r : Fin 256) (j : Fin 1792) : k0_pay4 v (ix2 r j) = v (ix2 r j) := by
  pointwise [k0_pay4]

/-- A block's product, entry by entry. -/
theorem pay9_at (x : Vec Ideal S576x4096 .bf16) (w : Vec Ideal S4096x1792 .bf16) (r : Fin 576) (j : Fin 1792) :
    k0_pay9 x w (ix2 r j) = ∑ k : Fin 4096, x (ix2 r k) * w (ix2 k j) := by
  pointwise [k0_pay9]

theorem idx0 : ∀ t : Fin cfg0.N, t.val / 16 ≠ 0 → win0_0.index t = ![t.val % 16, 0] := (by decide +kernel : ∀ t : Fin grid0.N, t.val / 16 ≠ 0 → win0_0.index t = ![t.val % 16, 0])
theorem idx1 : ∀ t : Fin cfg0.N, t.val / 16 < 9 → win0_1.index t = ![t.val % 16, t.val / 16] := (by decide +kernel : ∀ t : Fin grid0.N, t.val / 16 < 9 → win0_1.index t = ![t.val % 16, t.val / 16])
theorem idx5 : ∀ t : Fin cfg0.N, t.val / 16 ≠ 0 → win0_5.index t = ![t.val % 16, t.val / 16 - 1] := (by decide +kernel : ∀ t : Fin grid0.N, t.val / 16 ≠ 0 → win0_5.index t = ![t.val % 16, t.val / 16 - 1])
theorem flush5 : ∀ t : Fin cfg0.N, win0_5.flush t = true → t.val / 16 ≠ 0 := (by decide +kernel : ∀ t : Fin grid0.N, win0_5.flush t = true → t.val / 16 ≠ 0)

theorem V_v0 (c : Dev nD) (k : Fin 4096) (j : Fin 16896) : (V m c main_v0 : Vec Ideal S4096x16896 .f32) (ix2 k j) = (m (c, main_arg2) : Vec Ideal S1x4096x16896 .f32) (ix3 0 k j) := by
  simp only [V, V0, hostOps0, List.flatten_cons, List.flatten_nil, List.append_nil]
  after_results_simp
  pointwise

theorem V_arg0 (c : Dev nD) : (V m c main_arg0 : Vec Ideal S9216x4096 .bf16) = m (c, main_arg0) := V_main_arg0 m c

theorem x_at (c : Dev nD) (t : Fin cfg0.N) (h : t.val / 16 ≠ 0) (r : Fin 576) (k : Fin 4096) :
    (iblk m c 0 t : Vec Ideal S576x4096 .bf16) (ix2 r k) = (m (c, main_arg0) : Vec Ideal S9216x4096 .bf16) (ix2 ⟨t.val % 16 * 576 + r.val, by omega⟩ k) := by
  blk_simp [iblk]
  refine Eq.trans (congrArg (V m c main_arg0 : Vec Ideal S9216x4096 .bf16) (funext fun a => Fin.ext ?_ : _ = ix2 ⟨t.val % 16 * 576 + r.val, by omega⟩ k)) (congrFun (V_arg0 m c) _)
  fin_cases a <;> simp [idx0 t h]

theorem w_at (c : Dev nD) (t : Fin cfg0.N) (h : t.val / 16 < 9) (r : Fin 256) (j : Fin 1792) :
    (X0_1 m c t : Vec Ideal S256x1792 .f32) (ix2 r j) = (m (c, main_arg2) : Vec Ideal S1x4096x16896 .f32) (ix3 0 ⟨t.val % 16 * 256 + r.val, by omega⟩ ⟨t.val / 16 * 1792 + j.val, by omega⟩) := by
  unfold X0_1 Pipeline.Window.fill
  refine (dif_pos (moved0_1 t (ix2 r j))).trans ?_
  blk_simp [iblk]
  refine Eq.trans (congrArg (V m c main_v0 : Vec Ideal S4096x16896 .f32) (funext fun a => Fin.ext ?_ : _ = ix2 ⟨t.val % 16 * 256 + r.val, by omega⟩ ⟨t.val / 16 * 1792 + j.val, by omega⟩)) (V_v0 m c _ _)
  fin_cases a <;> simp [idx1 t h]

/-- The weights of a pass: 1792 columns of the matrix. -/
theorem weights_at (c : Dev nD) (t : Fin cfg0.N) (h : t.val / 16 ≠ 0) (k : Fin 4096) (j : Fin 1792) (J : Fin 16896) (hJ : J.val = (t.val / 16 - 1) * 1792 + j.val) :
    weights m c t (ix2 k j) = (m (c, main_arg2) : Vec Ideal S1x4096x16896 .f32) (ix3 0 k J) := by
  have ht : t.val < 160 := lt_of_lt_of_eq t.isLt N_eq
  have hk := k.isLt
  unfold weights chunk
  refine (pay4_at _ _ _).trans ((w_at m c _ (by dsimp only; show (16 * (t.val / 16 - 1) + k.val / 256) / 16 < 9; omega) _ _).trans ?_)
  refine congrArg _ (congrArg₂ (ix3 0) (Fin.ext ?_) (Fin.ext ?_))
  · show (16 * (t.val / 16 - 1) + k.val / 256) % 16 * 256 + k.val % 256 = k.val
    omega
  · show (16 * (t.val / 16 - 1) + k.val / 256) / 16 * 1792 + j.val = J.val
    omega

/-- An entry of the projection, from the activations `x` and the weights `w`. -/
def proj (x : Vec Ideal S9216x4096 .bf16) (w : Vec Ideal S1x4096x16896 .f32) (R : Fin 9216) (J : Fin 16896) : EReal :=
  ∑ k : Fin 4096, x (ix2 R k) * w (ix3 0 k J)

theorem outAt_at (c : Dev nD) (t : Fin cfg0.N) (h : t.val / 16 ≠ 0) (y : S576x1792.Idx) (R : Fin 9216) (J : Fin 16896)
    (hR : R.val = t.val % 16 * 576 + (y 0 : ℕ)) (hJ : J.val = (t.val / 16 - 1) * 1792 + (y 1 : ℕ)) :
    outAt m c t y = proj (m (c, main_arg0)) (m (c, main_arg2)) R J := by
  have hy0 : (y 0 : ℕ) < 576 := (y 0).isLt
  have hy1 : (y 1 : ℕ) < 1792 := (y 1).isLt
  have hy : y = ix2 ⟨(y 0 : ℕ), hy0⟩ ⟨(y 1 : ℕ), hy1⟩ := by
    funext a; fin_cases a <;> rfl
  refine (congrArg (outAt m c t) hy).trans ?_
  unfold outAt proj
  refine (pay9_at _ _ _ _).trans (Finset.sum_congr rfl fun k _ => congrArg₂ (· * ·) ?_ (weights_at m c t h k _ J hJ))
  exact (x_at m c t h _ k).trans (congrArg _ (congrArg₂ ix2 (Fin.ext hR.symm) rfl))

/-- The projection's array after the run: the first nine tiles of columns as computed, the rest as at entry. -/
theorem arr_proj (c : Dev nD) : ((dats m 0 c).arrAt 5 (cfgs 0).N : Vec Ideal S9216x16896 .f32)
    = fun i => if (i 1 : ℕ) / 1792 < 9 then proj (m (c, main_arg0)) (m (c, main_arg2)) (i 0) (i 1)
        else (V m c main_v2_0 : Vec Ideal S9216x16896 .f32) i := by
  refine (dats m 0 c).arrAt_eq_of_coversWhere 5
    (fun i : S9216x16896.Idx => (proj (m (c, main_arg0)) (m (c, main_arg2)) (i 0) (i 1) : EReal))
    (fun β => β (1 : Fin 2) < 9) (by decide +kernel) (fun t hf y => ?_) (fun j => Iff.rfl)
  blk_simp
  rw [after_5]
  have h := flush5 t hf
  refine outAt_at m c t h _ _ _ ?_ ?_
  · change win0_5.index t 0 * 576 + 1 * (y 0 : ℕ) = _
    rw [idx5 t h]
    exact congrArg _ (Nat.one_mul _)
  · change win0_5.index t 1 * 1792 + 1 * (y 1 : ℕ) = _
    rw [idx5 t h]
    exact congrArg _ (Nat.one_mul _)

/-- One of the first 16128 columns, among all. -/
def col (J : Fin 16128) : Fin 16896 := ⟨J.val, by omega⟩

/-- An entry in one of them. -/
theorem slice_col (f : Vec Ideal S9216x16896 .f32) (i : S9216x16128.Idx) :
    extractStridedSlice S9216x16128 ![0, 0] f slices_S9216x16896_S9216x16128_0_0 i
      = f (ix2 (i 0) (col (i 1))) := by
  refine congrArg f (funext fun a => Fin.ext ?_)
  fin_cases a
  · show 0 + (i 0 : ℕ) = _; exact Nat.zero_add _
  · show 0 + (i 1 : ℕ) = _; exact Nat.zero_add _

end Cert.Kernel2Ideal.Hand

end
-- ==== Proof.ProjStates.lean ====
/-
   The projection's results: its written columns, and the prompt group's states cut from them.
-/
module

public import proofs.«01_k».proof.Proof.ProjArr

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem

variable (m : (ℓ : Loc nD τ sig) → Buf (Elt Ideal) ℓ)

/-- Row `s` of the last 128 rows of sequence `b`. -/
def lastRow (b : Fin 2) (s : Fin 128) : Fin 9216 := ⟨b.val * 4096 + (3968 + s.val), by omega⟩

/-- Row `s` of the last 15 rows of sequence `b`. -/
def poolRow (b : Fin 2) (s : Fin 15) : Fin 9216 := ⟨b.val * 4096 + (4081 + s.val), by omega⟩

/-- The keys of the last 128 rows of the two sequences, read at an entry. -/
theorem keys_at (f : Vec Ideal S9216x16896 .f32) (b : Fin 2) (s : Fin 128) (h : Fin 4) (d : Fin 64) :
    (shapeCast S1x2x128x4x64 (concatenate S2x128x256 0 [⟨S1x128x256, broadcastInDim S1x128x256 ![1, 2] bcast_S128x256_S1x128x256_1_2 (extractStridedSlice S128x256 ![3968, 6144] f slices_S9216x16896_S128x256_3968_6144)⟩,
        ⟨S1x128x256, broadcastInDim S1x128x256 ![1, 2] bcast_S128x256_S1x128x256_1_2 (extractStridedSlice S128x256 ![8064, 6144] f slices_S9216x16896_S128x256_8064_6144)⟩]
        concatenates_S1x128x256_S1x128x256_S2x128x256_d0) shapeCasts_S2x128x256_S1x2x128x4x64 : Vec Ideal S1x2x128x4x64 .f32) (ix5 0 b s h d)
      = f (ix2 (lastRow b s) ⟨6144 + (h.val * 64 + d.val), by omega⟩) := by
  pointwise
  by_cases hb : b.val < 1
  · refine (dif_pos hb).trans (congrArg (fun R => f (ix2 R _)) (Fin.ext (by show 3968 + s.val = b.val * 4096 + (3968 + s.val); omega)))
  · refine (dif_neg hb).trans (congrArg (fun R => f (ix2 R _)) (Fin.ext (by show 8064 + s.val = b.val * 4096 + (3968 + s.val); omega)))

/-- The values of the last 128 rows of the two sequences, read at an entry. -/
theorem vals_at (f : Vec Ideal S9216x16896 .f32) (b : Fin 2) (s : Fin 128) (h : Fin 4) (d : Fin 64) :
    (shapeCast S1x2x128x4x64 (concatenate S2x128x256 0 [⟨S1x128x256, broadcastInDim S1x128x256 ![1, 2] bcast_S128x256_S1x128x256_1_2 (extractStridedSlice S128x256 ![3968, 6400] f slices_S9216x16896_S128x256_3968_6400)⟩,
        ⟨S1x128x256, broadcastInDim S1x128x256 ![1, 2] bcast_S128x256_S1x128x256_1_2 (extractStridedSlice S128x256 ![8064, 6400] f slices_S9216x16896_S128x256_8064_6400)⟩]
        concatenates_S1x128x256_S1x128x256_S2x128x256_d0) shapeCasts_S2x128x256_S1x2x128x4x64 : Vec Ideal S1x2x128x4x64 .f32) (ix5 0 b s h d)
      = f (ix2 (lastRow b s) ⟨6400 + (h.val * 64 + d.val), by omega⟩) := by
  pointwise
  by_cases hb : b.val < 1
  · refine (dif_pos hb).trans (congrArg (fun R => f (ix2 R _)) (Fin.ext (by show 3968 + s.val = b.val * 4096 + (3968 + s.val); omega)))
  · refine (dif_neg hb).trans (congrArg (fun R => f (ix2 R _)) (Fin.ext (by show 8064 + s.val = b.val * 4096 + (3968 + s.val); omega)))

/-- The pooled columns of the last 15 rows of the two sequences, read at an entry. -/
theorem pools_at (f : Vec Ideal S9216x16896 .f32) (b : Fin 2) (s : Fin 15) (j : Fin 2048) :
    (broadcastInDim S1x2x15x2048 ![1, 2, 3] bcast_S2x15x2048_S1x2x15x2048_1_2_3 (concatenate S2x15x2048 0 [⟨S1x15x2048, broadcastInDim S1x15x2048 ![1, 2] bcast_S15x2048_S1x15x2048_1_2 (extractStridedSlice S15x2048 ![4081, 0] f slices_S9216x16896_S15x2048_4081_0)⟩,
        ⟨S1x15x2048, broadcastInDim S1x15x2048 ![1, 2] bcast_S15x2048_S1x15x2048_1_2 (extractStridedSlice S15x2048 ![8177, 0] f slices_S9216x16896_S15x2048_8177_0)⟩]
        concatenates_S1x15x2048_S1x15x2048_S2x15x2048_d0) : Vec Ideal S1x2x15x2048 .f32) (ix4 0 b s j)
      = f (ix2 (poolRow b s) ⟨j.val, by omega⟩) := by
  pointwise
  by_cases hb : b.val < 1
  · refine (dif_pos hb).trans (congrArg (fun R => f (ix2 R _)) (Fin.ext (by show 4081 + s.val = b.val * 4096 + (4081 + s.val); omega)))
  · refine (dif_neg hb).trans (congrArg (fun R => f (ix2 R _)) (Fin.ext (by show 8177 + s.val = b.val * 4096 + (4081 + s.val); omega)))

/-- The keys or the values among the states: from column `o` of the projected rows. -/
def kvEnt (x : Vec Ideal S9216x4096 .bf16) (w : Vec Ideal S1x4096x16896 .f32) (o : ℕ) (ho : o ≤ 6400) (b : Fin 2) (s : Fin 128) (h : Fin 4) (d : Fin 64) : EReal :=
  proj x w (lastRow b s) ⟨o + (h.val * 64 + d.val), by omega⟩

/-- The pooling state. -/
def poolEnt (x : Vec Ideal S9216x4096 .bf16) (w : Vec Ideal S1x4096x16896 .f32) (b : Fin 2) (s : Fin 15) (j : Fin 2048) : EReal :=
  proj x w (poolRow b s) ⟨j.val, by omega⟩

/-- The array after the run, in a column that the call writes. -/
theorem arr_at (c : Dev nD) (R : Fin 9216) (J : Fin 16896) (hJ : J.val < 16128) :
    (Pipeline.withArrays spec0 c (V0 m c) (fun w => (dats m 0 c).arrAt w (cfgs 0).N) main_v2_0 : Vec Ideal S9216x16896 .f32) (ix2 R J)
      = proj (m (c, main_arg0)) (m (c, main_arg2)) R J := by
  have h := (Pipeline.withArrays_arr spec0 launch0.win.arr_inj c (V0 m c) (fun w => (dats m 0 c).arrAt w (cfgs 0).N) 5).trans (arr_proj m c)
  exact (congrFun h _).trans (if_pos (by show J.val / 1792 < 9; omega))

/-- The written columns. -/
theorem tail_proj (c : Dev nD) : (Pipeline.afterTail₀ cfgs (dats m) 0 (V0 m) [hostOps1] c main_v21 : Vec Ideal S9216x16128 .f32)
    = fun i => proj (m (c, main_arg0)) (m (c, main_arg2)) (i 0) (col (i 1)) := by
  unfold Pipeline.afterTail₀
  simp only [hostOps1, List.flatten_cons, List.flatten_nil, List.append_nil]
  after_results_simp
  funext i
  exact (slice_col _ i).trans (arr_at m c _ _ (i 1).isLt)

/-- An index of the keys' or the values' state, by its coordinates. -/
theorem idx5_eq (i : S1x2x128x4x64.Idx) : i = ix5 (0 : Fin 1) (i 1 : Fin 2) (i 2 : Fin 128) (i 3 : Fin 4) (i 4 : Fin 64) := by
  have h0 : (i 0 : Fin 1).val < 1 := (i 0 : Fin 1).isLt
  funext a
  match a with
  | ⟨0, _⟩ => exact Fin.ext (by show (i 0 : Fin 1).val = 0; omega)
  | ⟨1, _⟩ => rfl
  | ⟨2, _⟩ => rfl
  | ⟨3, _⟩ => rfl
  | ⟨4, _⟩ => rfl

/-- An index of the pooling state, by its coordinates. -/
theorem idx4_eq (i : S1x2x15x2048.Idx) : i = ix4 (0 : Fin 1) (i 1 : Fin 2) (i 2 : Fin 15) (i 3 : Fin 2048) := by
  have h0 : (i 0 : Fin 1).val < 1 := (i 0 : Fin 1).isLt
  funext a
  match a with
  | ⟨0, _⟩ => exact Fin.ext (by show (i 0 : Fin 1).val = 0; omega)
  | ⟨1, _⟩ => rfl
  | ⟨2, _⟩ => rfl
  | ⟨3, _⟩ => rfl

/-- The keys' state. -/
theorem tail_keys (c : Dev nD) : (Pipeline.afterTail₀ cfgs (dats m) 0 (V0 m) [hostOps1] c main_v8 : Vec Ideal S1x2x128x4x64 .f32)
    = fun i => kvEnt (m (c, main_arg0)) (m (c, main_arg2)) 6144 (by norm_num) (i 1) (i 2) (i 3) (i 4) := by
  unfold Pipeline.afterTail₀
  simp only [hostOps1, List.flatten_cons, List.flatten_nil, List.append_nil]
  after_results_simp
  funext i
  have hi : i = ix5 0 (i 1 : Fin 2) (i 2 : Fin 128) (i 3 : Fin 4) (i 4 : Fin 64) := idx5_eq i
  have h3 : (i 3 : Fin 4).val < 4 := (i 3 : Fin 4).isLt
  have h4 : (i 4 : Fin 64).val < 64 := (i 4 : Fin 64).isLt
  refine (congrArg _ hi).trans ((keys_at _ _ _ _ _).trans (arr_at m c _ _ ?_))
  show 6144 + ((i 3 : Fin 4).val * 64 + (i 4 : Fin 64).val) < 16128
  omega

/-- The values' state. -/
theorem tail_vals (c : Dev nD) : (Pipeline.afterTail₀ cfgs (dats m) 0 (V0 m) [hostOps1] c main_v14 : Vec Ideal S1x2x128x4x64 .f32)
    = fun i => kvEnt (m (c, main_arg0)) (m (c, main_arg2)) 6400 (by norm_num) (i 1) (i 2) (i 3) (i 4) := by
  unfold Pipeline.afterTail₀
  simp only [hostOps1, List.flatten_cons, List.flatten_nil, List.append_nil]
  after_results_simp
  funext i
  have hi : i = ix5 0 (i 1 : Fin 2) (i 2 : Fin 128) (i 3 : Fin 4) (i 4 : Fin 64) := idx5_eq i
  have h3 : (i 3 : Fin 4).val < 4 := (i 3 : Fin 4).isLt
  have h4 : (i 4 : Fin 64).val < 64 := (i 4 : Fin 64).isLt
  refine (congrArg _ hi).trans ((vals_at _ _ _ _ _).trans (arr_at m c _ _ ?_))
  show 6400 + ((i 3 : Fin 4).val * 64 + (i 4 : Fin 64).val) < 16128
  omega

/-- The pooling state. -/
theorem tail_pools (c : Dev nD) : (Pipeline.afterTail₀ cfgs (dats m) 0 (V0 m) [hostOps1] c main_v20 : Vec Ideal S1x2x15x2048 .f32)
    = fun i => poolEnt (m (c, main_arg0)) (m (c, main_arg2)) (i 1) (i 2) (i 3) := by
  unfold Pipeline.afterTail₀
  simp only [hostOps1, List.flatten_cons, List.flatten_nil, List.append_nil]
  after_results_simp
  funext i
  have h3 : (i 3 : Fin 2048).val < 2048 := (i 3 : Fin 2048).isLt
  refine (congrArg _ (idx4_eq i)).trans ((pools_at _ _ _ _).trans (arr_at m c _ _ ?_))
  show (i 3 : Fin 2048).val < 16128
  omega

/-- The run of the kernel: its results, and its arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v21) = (fun i => proj (m (c, main_arg0)) (m (c, main_arg2)) (i 0) (col (i 1)) : Vec Ideal S9216x16128 .f32)
      ∧ r.2.mem ((c.tc : Thread nD τ).loc main_v8) = (fun i => kvEnt (m (c, main_arg0)) (m (c, main_arg2)) 6144 (by norm_num) (i 1) (i 2) (i 3) (i 4) : Vec Ideal S1x2x128x4x64 .f32)
      ∧ r.2.mem ((c.tc : Thread nD τ).loc main_v14) = (fun i => kvEnt (m (c, main_arg0)) (m (c, main_arg2)) 6400 (by norm_num) (i 1) (i 2) (i 3) (i 4) : Vec Ideal S1x2x128x4x64 .f32)
      ∧ r.2.mem ((c.tc : Thread nD τ).loc main_v20) = (fun i => poolEnt (m (c, main_arg0)) (m (c, main_arg2)) (i 1) (i 2) (i 3) : Vec Ideal S1x2x15x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v21 (Pipeline.mem_restRefs_of main_v21 (by decide) (by decide))).trans (tail_proj m c),
      ((h.1 c).2 main_v8 (Pipeline.mem_restRefs_of main_v8 (by decide) (by decide))).trans (tail_keys m c),
      ((h.1 c).2 main_v14 (Pipeline.mem_restRefs_of main_v14 (by decide) (by decide))).trans (tail_vals m c),
      ((h.1 c).2 main_v20 (Pipeline.mem_restRefs_of main_v20 (by decide) (by decide))).trans (tail_pools m c),
      ((h.1 c).1 0).trans (((dats m 0 c).arrAt_in 0 rfl _).trans ((A_eq m c 0).trans (V_main_arg0 m c))),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      (((h.1 c).2 main_arg3 (Pipeline.mem_restRefs_of main_arg3 (by decide) (by decide))).trans (W_main_arg3 m (dats m) c)),
      ((h.1 c).1 3).trans (((dats m 0 c).arrAt_in 3 rfl _).trans ((A_eq m c 3).trans (V_main_arg4 m c))),
      ((h.1 c).1 4).trans (((dats m 0 c).arrAt_in 4 rfl _).trans ((A_eq m c 4).trans (V_main_arg5 m c)))⟩) (run_main m ρ)

end Cert.Kernel2Ideal.Hand

end
-- ==== Proof.ProjRef.lean ====
/-
   The plain projection and the plain states, read at an entry.
-/
module

public import proofs.«01_k».proof.Proof.ProjStates
public import proofs.«01_k».proof.Proof.Gen.Reference2Ideal.Run

@[expose] public section

set_option maxRecDepth 16384

noncomputable section

namespace Cert.Reference2Ideal.Hand

open Cert.Reference2Ideal Cert.Reference2Ideal.Gen Cert.Reference2Ideal.Value
open Idealize.ShloMosaic Idealize.ShloMosaic.TcCoe Idealize.SL.Sem
open Cert.Kernel2Ideal.Hand (proj col lastRow poolRow kvEnt poolEnt idx4_eq idx5_eq)

/-- An entry of the plain projection: the row of activations times the column of weights. -/
theorem dot_at (x : FVec Ideal S9216x4096 .bf16) (w : Vec Ideal S1x4096x16896 .f32) (R : Fin 9216) (J : Fin 16128) :
    extractStridedSlice S9216x16128 ![0, 0] (Host.dotGeneral (F := Ideal) (φ₁ := .f32) (φ₂ := .f32) dot_S9216x4096_S4096x16896_S9216x16896_1_0_0_1_n_n none
      (extf .f32 x bitsLt_bf16_f32) (shapeCast S4096x16896 w shapeCasts_S1x4096x16896_S4096x16896)) slices_S9216x16896_S9216x16128_0_0 (ix2 R J)
      = proj x w R (col J) := by
  unfold proj
  pointwise
  rfl

/-- The plain program's keys, read at an entry. -/
theorem keys_at (x : FVec Ideal S9216x4096 .bf16) (w : Vec Ideal S1x4096x16896 .f32) (b : Fin 2) (s : Fin 128) (h : Fin 4) (d : Fin 64) :
    (broadcastInDim S1x2x128x4x64 ![1, 2, 3, 4] bcast_S2x128x4x64_S1x2x128x4x64_1_2_3_4 (extractStridedSlice S2x128x4x64 ![0, 3968, 0, 0] (shapeCast S2x4096x4x64 (extractStridedSlice S2x4096x256 ![0, 0, 6144] (shapeCast S2x4096x16896 (extractStridedSlice S8192x16896 ![0, 0]
      (Host.dotGeneral (F := Ideal) (φ₁ := .f32) (φ₂ := .f32) dot_S9216x4096_S4096x16896_S9216x16896_1_0_0_1_n_n none (extf .f32 x bitsLt_bf16_f32) (shapeCast S4096x16896 w shapeCasts_S1x4096x16896_S4096x16896))
      slices_S9216x16896_S8192x16896_0_0) shapeCasts_S8192x16896_S2x4096x16896) slices_S2x4096x16896_S2x4096x256_0_0_6144) shapeCasts_S2x4096x256_S2x4096x4x64) slices_S2x4096x4x64_S2x128x4x64_0_3968_0_0) : Vec Ideal S1x2x128x4x64 .f32) (ix5 0 b s h d)
      = kvEnt x w 6144 (by norm_num) b s h d := by
  unfold kvEnt proj lastRow
  pointwise

/-- The plain program's values, read at an entry. -/
theorem vals_at (x : FVec Ideal S9216x4096 .bf16) (w : Vec Ideal S1x4096x16896 .f32) (b : Fin 2) (s : Fin 128) (h : Fin 4) (d : Fin 64) :
    (broadcastInDim S1x2x128x4x64 ![1, 2, 3, 4] bcast_S2x128x4x64_S1x2x128x4x64_1_2_3_4 (extractStridedSlice S2x128x4x64 ![0, 3968, 0, 0] (shapeCast S2x4096x4x64 (extractStridedSlice S2x4096x256 ![0, 0, 6400] (shapeCast S2x4096x16896 (extractStridedSlice S8192x16896 ![0, 0]
      (Host.dotGeneral (F := Ideal) (φ₁ := .f32) (φ₂ := .f32) dot_S9216x4096_S4096x16896_S9216x16896_1_0_0_1_n_n none (extf .f32 x bitsLt_bf16_f32) (shapeCast S4096x16896 w shapeCasts_S1x4096x16896_S4096x16896))
      slices_S9216x16896_S8192x16896_0_0) shapeCasts_S8192x16896_S2x4096x16896) slices_S2x4096x16896_S2x4096x256_0_0_6400) shapeCasts_S2x4096x256_S2x4096x4x64) slices_S2x4096x4x64_S2x128x4x64_0_3968_0_0) : Vec Ideal S1x2x128x4x64 .f32) (ix5 0 b s h d)
      = kvEnt x w 6400 (by norm_num) b s h d := by
  unfold kvEnt proj lastRow
  pointwise

/-- The plain program's pooling state, read at an entry: no row of it is one of the zeros before the sequence. -/
theorem pools_at (x : FVec Ideal S9216x4096 .bf16) (w : Vec Ideal S1x4096x16896 .f32) (b : Fin 2) (s : Fin 15) (j : Fin 2048) :
    (broadcastInDim S1x2x15x2048 ![1, 2, 3] bcast_S2x15x2048_S1x2x15x2048_1_2_3 (extractStridedSlice S2x15x2048 ![0, 4096, 0] (concatenate S2x4111x2048 1 [⟨S2x15x2048, (broadcastInDim S2x15x2048 ![] bcast_S_S2x15x2048 (constant (F := Ideal) S_ .f32 0x00000000#32))⟩, ⟨S2x4096x2048, (extractStridedSlice S2x4096x2048 ![0, 0, 0] (shapeCast S2x4096x16896 (extractStridedSlice S8192x16896 ![0, 0]
      (Host.dotGeneral (F := Ideal) (φ₁ := .f32) (φ₂ := .f32) dot_S9216x4096_S4096x16896_S9216x16896_1_0_0_1_n_n none (extf .f32 x bitsLt_bf16_f32) (shapeCast S4096x16896 w shapeCasts_S1x4096x16896_S4096x16896))
      slices_S9216x16896_S8192x16896_0_0) shapeCasts_S8192x16896_S2x4096x16896) slices_S2x4096x16896_S2x4096x2048_0_0_0)⟩] concatenates_S2x15x2048_S2x4096x2048_S2x4111x2048_d1) slices_S2x4111x2048_S2x15x2048_0_4096_0) : Vec Ideal S1x2x15x2048 .f32) (ix4 0 b s j)
      = poolEnt x w b s j := by
  unfold poolEnt proj poolRow
  pointwise
  refine (dif_neg (by omega)).trans (Finset.sum_congr rfl fun k _ => congrArg (fun R => x (ix2 R k) * _) (Fin.ext ?_))
  show b.val * 4096 + (4096 + s.val - 15) = b.val * 4096 + (4081 + s.val)
  omega

/-- The run of the plain program, its results named as the kernel's. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = (fun i => proj (m ((c.tc : Thread nD τ).loc main_arg0)) (m ((c.tc : Thread nD τ).loc main_arg2)) (i 0) (col (i 1)) : Vec Ideal S9216x16128 .f32)
      ∧ r.2.mem ((c.tc : Thread nD τ).loc main_v14) = (fun i => kvEnt (m ((c.tc : Thread nD τ).loc main_arg0)) (m ((c.tc : Thread nD τ).loc main_arg2)) 6144 (by norm_num) (i 1) (i 2) (i 3) (i 4) : Vec Ideal S1x2x128x4x64 .f32)
      ∧ r.2.mem ((c.tc : Thread nD τ).loc main_v16) = (fun i => kvEnt (m ((c.tc : Thread nD τ).loc main_arg0)) (m ((c.tc : Thread nD τ).loc main_arg2)) 6400 (by norm_num) (i 1) (i 2) (i 3) (i 4) : Vec Ideal S1x2x128x4x64 .f32)
      ∧ r.2.mem ((c.tc : Thread nD τ).loc main_v18) = (fun i => poolEnt (m ((c.tc : Thread nD τ).loc main_arg0)) (m ((c.tc : Thread nD τ).loc main_arg2)) (i 1) (i 2) (i 3) : Vec Ideal S1x2x15x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.Reference2Ideal.Value.run (F := Ideal) m ρ)
  obtain ⟨h1, hk, hv, hp, h2⟩ := h c
  refine ⟨h1.trans (funext fun i => ?_), hk.trans (funext fun i => (congrArg _ (idx5_eq i)).trans (keys_at _ _ _ _ _ _)),
    hv.trans (funext fun i => (congrArg _ (idx5_eq i)).trans (vals_at _ _ _ _ _ _)), hp.trans (funext fun i => (congrArg _ (idx4_eq i)).trans (pools_at _ _ _ _ _)), h2⟩
  have hi : i = ix2 (i 0) (i 1) := by
    funext a
    match a with
    | ⟨0, _⟩ => rfl
    | ⟨1, _⟩ => rfl
  exact (congrArg _ hi).trans (dot_at _ _ (i 0) (i 1))

end Cert.Reference2Ideal.Hand

end
-- ==== Proof.MergeRun.lean ====
/-
   One grid point of the merge of the two branches: which weight buffers it fills a chunk of, which it multiplies by.
-/
module

public import proofs.«01_k».proof.Proof.Gen.Kernel3Ideal.Frame
public import proofs.«01_k».proof.Proof.Gen.Kernel3Ideal.Skeleton
public import Idealize.ShloMosaic.Lib.Tactic.Stretches
public import Idealize.ShloMosaic.Lib.Pipeline.ReadBack
public import Idealize.ShloMosaic.Lib.WritesUnit
public import Idealize.ShloMosaic.Lib.VecWindow
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off1_eq : ∀ i : grid0.Coords, k0_off1 i = ![128 * (i 1).val, 0] := by
  decide +kernel
theorem off2_eq : ∀ i : grid0.Coords, k0_off2 i = ![128 * (i 1).val, 0] := off1_eq
theorem off3_eq : ∀ i : grid0.Coords, k0_off3 i = ![128 * (i 1).val, 0] := off1_eq

/-- `b` is `a` with chunk `n`'s 128 rows replaced by `p`. -/
def Put (n : ℕ) (a b : Vec F S2048x1024 .bf16) (p : Vec F S128x1024 .bf16) : Prop :=
  (∀ (y : S2048x1024.Idx) (x : S128x1024.Idx), (y 0).val = 128 * n + (x 0).val → (y 1).val = (x 1).val → b y = p x)
    ∧ ∀ y : S2048x1024.Idx, (y 0).val / 128 ≠ n → b y = a y

/-- A store of whole rows is such a replacement. -/
theorem put_of_store (v : View sig .tc .vmem S2048x1024 .bf16) (f : v.ty.Contents (Elt F)) {off : Fin 2 → ℕ} (n : ℕ)
    (inb : ∀ a : Fin 2, off a + S128x1024.size a ≤ S2048x1024.size a) (hoff : off = ![128 * n, 0]) (p : Vec F S128x1024 .bf16) :
    Put n (v.read (Elt F) f) (v.read (Elt F) (v.writes (Elt F) f [⟨Rect.unit (s := S2048x1024) off S128x1024.size inb, p⟩])) p := by
  refine ⟨fun y x h0 h1 => ?_, fun y h => ?_⟩
  · exact View.read_writes_cons_rows_of_mem v f inb p [] y x hoff h0 h1
  · refine (View.read_writes_cons_rows_of_not_mem (W := 128) v f inb p [] y hoff rfl ?_).trans rfl
    omega

/-- The upper half of the merged block: both products and both gates, at the rows of that half. -/
def top (x2 x3 : Vec F S576x2048 .bf16) (wp wa : Vec F S2048x1024 .bf16) (x6 x7 : Vec F S576x1024 .f32) : FVec F S288x1024 .bf16 :=
  k0_pay7 (VecWindow.window x2 ![0, 0] S288x2048.size inb_S576x2048_S288x2048_0_0) wp
    (VecWindow.window x3 ![0, 0] S288x2048.size inb_S576x2048_S288x2048_0_0) wa
    (VecWindow.window x6 ![0, 0] S288x1024.size inb_S576x1024_S288x1024_0_0)
    (VecWindow.window x7 ![0, 0] S288x1024.size inb_S576x1024_S288x1024_0_0)

/-- The lower half. -/
def bot (x2 x3 : Vec F S576x2048 .bf16) (wp wa : Vec F S2048x1024 .bf16) (x6 x7 : Vec F S576x1024 .f32) : FVec F S288x1024 .bf16 :=
  k0_pay7 (VecWindow.window x2 ![288, 0] S288x2048.size inb_S576x2048_S288x2048_288_0) wp
    (VecWindow.window x3 ![288, 0] S288x2048.size inb_S576x2048_S288x2048_288_0) wa
    (VecWindow.window x6 ![288, 0] S288x1024.size inb_S576x1024_S288x1024_288_0)
    (VecWindow.window x7 ![288, 0] S288x1024.size inb_S576x1024_S288x1024_288_0)

/-- The merged block: its two halves. -/
def outBlk (x2 x3 : Vec F S576x2048 .bf16) (wp wa : Vec F S2048x1024 .bf16) (x6 x7 : Vec F S576x1024 .f32) : Vec F S576x1024 .bf16 := fun y =>
  if h : (y 0).val < 288 then top x2 x3 wp wa x6 x7 (ix2 ⟨(y 0).val, h⟩ (y 1))
  else bot x2 x3 wp wa x6 x7 (ix2 ⟨(y 0).val - 288, by have hy : (y 0).val < 576 := (y 0).isLt; omega⟩ (y 1))

/-- The two stores of a point leave that block. -/
theorem out_of_stores (v : View sig .tc .vmem S576x1024 .bf16) (f : v.ty.Contents (Elt F))
    (x2 x3 : Vec F S576x2048 .bf16) (wp wa : Vec F S2048x1024 .bf16) (x6 x7 : Vec F S576x1024 .f32) :
    v.read (Elt F) (v.writes (Elt F) f [⟨Rect.unit (s := S576x1024) ![288, 0] S288x1024.size inb_S576x1024_S288x1024_288_0, bot x2 x3 wp wa x6 x7⟩,
        ⟨Rect.unit (s := S576x1024) ![0, 0] S288x1024.size inb_S576x1024_S288x1024_0_0, top x2 x3 wp wa x6 x7⟩])
      = outBlk x2 x3 wp wa x6 x7 := by
  funext y
  have hy : (y 0).val < 576 := (y 0).isLt
  unfold outBlk
  by_cases h : (y 0).val < 288
  · rw [dif_pos h]
    refine (View.read_writes_cons_rows_of_not_mem (W := 288) v f _ _ _ y rfl rfl (Or.inl h)).trans ?_
    exact View.read_writes_cons_rows_of_mem v f _ _ [] y (ix2 ⟨(y 0).val, h⟩ (y 1)) rfl (Nat.zero_add _).symm rfl
  · rw [dif_neg h]
    refine View.read_writes_cons_rows_of_mem v f _ _ _ y (ix2 ⟨(y 0).val - 288, _⟩ (y 1)) rfl ?_ rfl
    show (y 0).val = 288 + ((y 0).val - 288)
    omega

set_option maxHeartbeats 2000000 in
/-- A point of the first pass: the first pair of buffers gets its chunks, the merged block is left as found. -/
theorem run_stage (c : Dev nD) (i : grid0.Coords) (arg2 : Memref sig .tc .vmem S576x2048 .bf16) (harg2 : arg2.IsWhole) (arg3 : Memref sig .tc .vmem S576x2048 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S576x1024 .f32) (harg6 : arg6.IsWhole) (arg7 : Memref sig .tc .vmem S576x1024 .f32) (harg7 : arg7.IsWhole) (arg8 : Memref sig .tc .vmem S576x1024 .bf16) (harg8 : arg8.IsWhole) (arg9 : Memref sig .tc .vmem S2048x1024 .bf16) (harg9 : arg9.IsWhole) (arg10 : Memref sig .tc .vmem S2048x1024 .bf16) (harg10 : arg10.IsWhole) (arg11 : Memref sig .tc .vmem S2048x1024 .bf16) (harg11 : arg11.IsWhole) (arg12 : Memref sig .tc .vmem S2048x1024 .bf16) (harg12 : arg12.IsWhole)
    (h1 : k0_cond1 i = 1#1) (h2 : ¬ k0_cond2 i = 1#1) (h3 : ¬ k0_cond3 i = 1#1) (x2 : Vec F S576x2048 .bf16) (x3 : Vec F S576x2048 .bf16) (x4 : Vec F S128x1024 .f32) (x5 : Vec F S128x1024 .f32) (x6 : Vec F S576x1024 .f32) (x7 : Vec F S576x1024 .f32) (x8 : Vec F S576x1024 .bf16) (x9 : Vec F S2048x1024 .bf16) (x10 : Vec F S2048x1024 .bf16) (x11 : Vec F S2048x1024 .bf16) (x12 : Vec F S2048x1024 .bf16) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ b, ⌜Put (i 1).val x9 b (k0_pay1 x4)⌝ ∗ owns (c : Thread nD τ) arg9 fullShare b) ∗ owns (c : Thread nD τ) arg10 fullShare x10 ∗ (∃ b, ⌜Put (i 1).val x11 b (k0_pay1 x5)⌝ ∗ owns (c : Thread nD τ) arg11 fullShare b) ∗ owns (c : Thread nD τ) arg12 fullShare x12) -∗ K ⟨⟩))
        ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12) K := by
  intro E K
  simp only [cc0_merge_eq_skeleton]; unfold cc0_merge_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf7; subst hf8; subst hf9; subst hf10; subst hf11; subst hf12
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap
    · iexists _; isplitr; swap; · iexact H9
      ipureintro; rfl
    ipureintro
    sl_open_run
    have e : k0_pay1 (arg4.view.readAt (Elt F) (Rect.unit (s := S128x1024) ![0, 0] S128x1024.size inb_S128x1024_S128x1024_0_0).toLoadRect f4) = k0_pay1 (arg4.view.read (Elt F) f4) := congrArg k0_pay1 (View.readAt_full _ _ _)
    rw [← e]
    exact put_of_store arg9.view f9 _ _ (off1_eq i) _
  isplitl [H10]
  · iexists f10; isplitr; · ipureintro; rfl
    iexact H10
  isplitl [H11]
  · iexists _; isplitr; swap
    · iexists _; isplitr; swap; · iexact H11
      ipureintro; rfl
    ipureintro
    sl_open_run
    have e : k0_pay1 (arg5.view.readAt (Elt F) (Rect.unit (s := S128x1024) ![0, 0] S128x1024.size inb_S128x1024_S128x1024_0_0).toLoadRect f5) = k0_pay1 (arg5.view.read (Elt F) f5) := congrArg k0_pay1 (View.readAt_full _ _ _)
    rw [← e]
    exact put_of_store arg11.view f11 _ _ (off1_eq i) _
  iexists f12; isplitr; · ipureintro; rfl
  iexact H12

set_option maxHeartbeats 2000000 in
/-- A point of a later even pass: the first pair of buffers gets its chunks, the products are by the second. -/
theorem run_even (c : Dev nD) (i : grid0.Coords) (arg2 : Memref sig .tc .vmem S576x2048 .bf16) (harg2 : arg2.IsWhole) (arg3 : Memref sig .tc .vmem S576x2048 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S576x1024 .f32) (harg6 : arg6.IsWhole) (arg7 : Memref sig .tc .vmem S576x1024 .f32) (harg7 : arg7.IsWhole) (arg8 : Memref sig .tc .vmem S576x1024 .bf16) (harg8 : arg8.IsWhole) (arg9 : Memref sig .tc .vmem S2048x1024 .bf16) (harg9 : arg9.IsWhole) (arg10 : Memref sig .tc .vmem S2048x1024 .bf16) (harg10 : arg10.IsWhole) (arg11 : Memref sig .tc .vmem S2048x1024 .bf16) (harg11 : arg11.IsWhole) (arg12 : Memref sig .tc .vmem S2048x1024 .bf16) (harg12 : arg12.IsWhole)
    (h1 : ¬ k0_cond1 i = 1#1) (h2 : k0_cond2 i = 1#1) (h3 : ¬ k0_cond3 i = 1#1) (x2 : Vec F S576x2048 .bf16) (x3 : Vec F S576x2048 .bf16) (x4 : Vec F S128x1024 .f32) (x5 : Vec F S128x1024 .f32) (x6 : Vec F S576x1024 .f32) (x7 : Vec F S576x1024 .f32) (x8 : Vec F S576x1024 .bf16) (x9 : Vec F S2048x1024 .bf16) (x10 : Vec F S2048x1024 .bf16) (x11 : Vec F S2048x1024 .bf16) (x12 : Vec F S2048x1024 .bf16) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outBlk x2 x3 x10 x12 x6 x7) ∗ (∃ b, ⌜Put (i 1).val x9 b (k0_pay1 x4)⌝ ∗ owns (c : Thread nD τ) arg9 fullShare b) ∗ owns (c : Thread nD τ) arg10 fullShare x10 ∗ (∃ b, ⌜Put (i 1).val x11 b (k0_pay1 x5)⌝ ∗ owns (c : Thread nD τ) arg11 fullShare b) ∗ owns (c : Thread nD τ) arg12 fullShare x12) -∗ K ⟨⟩))
        ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12) K := by
  intro E K
  simp only [cc0_merge_eq_skeleton]; unfold cc0_merge_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf7; subst hf8; subst hf9; subst hf10; subst hf11; subst hf12
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    sl_open_run
    have ep : arg10.view.readAt (Elt F) (Rect.unit (s := S2048x1024) ![0, 0] S2048x1024.size inb_S2048x1024_S2048x1024_0_0).toLoadRect f10 = arg10.view.read (Elt F) f10 := View.readAt_full _ _ _
    have ea : arg12.view.readAt (Elt F) (Rect.unit (s := S2048x1024) ![0, 0] S2048x1024.size inb_S2048x1024_S2048x1024_0_0).toLoadRect f12 = arg12.view.read (Elt F) f12 := View.readAt_full _ _ _
    rw [← ep, ← ea]
    exact out_of_stores arg8.view f8 _ _ _ _ _ _
  isplitl [H9]
  · iexists _; isplitr; swap
    · iexists _; isplitr; swap; · iexact H9
      ipureintro; rfl
    ipureintro
    sl_open_run
    have e : k0_pay1 (arg4.view.readAt (Elt F) (Rect.unit (s := S128x1024) ![0, 0] S128x1024.size inb_S128x1024_S128x1024_0_0).toLoadRect f4) = k0_pay1 (arg4.view.read (Elt F) f4) := congrArg k0_pay1 (View.readAt_full _ _ _)
    rw [← e]
    exact put_of_store arg9.view f9 _ _ (off2_eq i) _
  isplitl [H10]
  · iexists f10; isplitr; · ipureintro; rfl
    iexact H10
  isplitl [H11]
  · iexists _; isplitr; swap
    · iexists _; isplitr; swap; · iexact H11
      ipureintro; rfl
    ipureintro
    sl_open_run
    have e : k0_pay1 (arg5.view.readAt (Elt F) (Rect.unit (s := S128x1024) ![0, 0] S128x1024.size inb_S128x1024_S128x1024_0_0).toLoadRect f5) = k0_pay1 (arg5.view.read (Elt F) f5) := congrArg k0_pay1 (View.readAt_full _ _ _)
    rw [← e]
    exact put_of_store arg11.view f11 _ _ (off2_eq i) _
  iexists f12; isplitr; · ipureintro; rfl
  iexact H12

set_option maxHeartbeats 2000000 in
/-- A point of an odd pass: the second pair of buffers gets its chunks, the products are by the first. -/
theorem run_odd (c : Dev nD) (i : grid0.Coords) (arg2 : Memref sig .tc .vmem S576x2048 .bf16) (harg2 : arg2.IsWhole) (arg3 : Memref sig .tc .vmem S576x2048 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S576x1024 .f32) (harg6 : arg6.IsWhole) (arg7 : Memref sig .tc .vmem S576x1024 .f32) (harg7 : arg7.IsWhole) (arg8 : Memref sig .tc .vmem S576x1024 .bf16) (harg8 : arg8.IsWhole) (arg9 : Memref sig .tc .vmem S2048x1024 .bf16) (harg9 : arg9.IsWhole) (arg10 : Memref sig .tc .vmem S2048x1024 .bf16) (harg10 : arg10.IsWhole) (arg11 : Memref sig .tc .vmem S2048x1024 .bf16) (harg11 : arg11.IsWhole) (arg12 : Memref sig .tc .vmem S2048x1024 .bf16) (harg12 : arg12.IsWhole)
    (h1 : ¬ k0_cond1 i = 1#1) (h2 : ¬ k0_cond2 i = 1#1) (h3 : k0_cond3 i = 1#1) (x2 : Vec F S576x2048 .bf16) (x3 : Vec F S576x2048 .bf16) (x4 : Vec F S128x1024 .f32) (x5 : Vec F S128x1024 .f32) (x6 : Vec F S576x1024 .f32) (x7 : Vec F S576x1024 .f32) (x8 : Vec F S576x1024 .bf16) (x9 : Vec F S2048x1024 .bf16) (x10 : Vec F S2048x1024 .bf16) (x11 : Vec F S2048x1024 .bf16) (x12 : Vec F S2048x1024 .bf16) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outBlk x2 x3 x9 x11 x6 x7) ∗ owns (c : Thread nD τ) arg9 fullShare x9 ∗ (∃ b, ⌜Put (i 1).val x10 b (k0_pay1 x4)⌝ ∗ owns (c : Thread nD τ) arg10 fullShare b) ∗ owns (c : Thread nD τ) arg11 fullShare x11 ∗ (∃ b, ⌜Put (i 1).val x12 b (k0_pay1 x5)⌝ ∗ owns (c : Thread nD τ) arg12 fullShare b)) -∗ K ⟨⟩))
        ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12) K := by
  intro E K
  simp only [cc0_merge_eq_skeleton]; unfold cc0_merge_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf7; subst hf8; subst hf9; subst hf10; subst hf11; subst hf12
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    sl_open_run
    have ep : arg9.view.readAt (Elt F) (Rect.unit (s := S2048x1024) ![0, 0] S2048x1024.size inb_S2048x1024_S2048x1024_0_0).toLoadRect f9 = arg9.view.read (Elt F) f9 := View.readAt_full _ _ _
    have ea : arg11.view.readAt (Elt F) (Rect.unit (s := S2048x1024) ![0, 0] S2048x1024.size inb_S2048x1024_S2048x1024_0_0).toLoadRect f11 = arg11.view.read (Elt F) f11 := View.readAt_full _ _ _
    rw [← ep, ← ea]
    exact out_of_stores arg8.view f8 _ _ _ _ _ _
  isplitl [H9]
  · iexists f9; isplitr; · ipureintro; rfl
    iexact H9
  isplitl [H10]
  · iexists _; isplitr; swap
    · iexists _; isplitr; swap; · iexact H10
      ipureintro; rfl
    ipureintro
    sl_open_run
    have e : k0_pay1 (arg4.view.readAt (Elt F) (Rect.unit (s := S128x1024) ![0, 0] S128x1024.size inb_S128x1024_S128x1024_0_0).toLoadRect f4) = k0_pay1 (arg4.view.read (Elt F) f4) := congrArg k0_pay1 (View.readAt_full _ _ _)
    rw [← e]
    exact put_of_store arg10.view f10 _ _ (off3_eq i) _
  isplitl [H11]
  · iexists f11; isplitr; · ipureintro; rfl
    iexact H11
  iexists _; isplitr; swap
  · iexists _; isplitr; swap; · iexact H12
    ipureintro; rfl
  ipureintro
  sl_open_run
  have e : k0_pay1 (arg5.view.readAt (Elt F) (Rect.unit (s := S128x1024) ![0, 0] S128x1024.size inb_S128x1024_S128x1024_0_0).toLoadRect f5) = k0_pay1 (arg5.view.read (Elt F) f5) := congrArg k0_pay1 (View.readAt_full _ _ _)
  rw [← e]
  exact put_of_store arg12.view f12 _ _ (off3_eq i) _

end Cert.Kernel3Ideal.Hand

end
-- ==== Proof.MergeFrame.lean ====
/-
   The run of the merge: what the four weight buffers hold before each grid point, and the frame.
-/
module

public import proofs.«01_k».proof.Proof.MergeRun

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_eq : cfg0.N = 80 := by decide +kernel
theorem coord0 : ∀ t : Fin cfg0.N, (grid0.coords t 0).val = t.val / 16 := (by decide +kernel : ∀ t : Fin grid0.N, _)
theorem coord1 : ∀ t : Fin cfg0.N, (grid0.coords t 1).val = t.val % 16 := (by decide +kernel : ∀ t : Fin grid0.N, _)

/-- The first pass only stages, -/
theorem is_stage : ∀ t : Fin cfg0.N, t.val / 16 = 0 → k0_cond1 (grid0.coords t) = 1#1 ∧ ¬ k0_cond2 (grid0.coords t) = 1#1 ∧ ¬ k0_cond3 (grid0.coords t) = 1#1 :=
  (by decide +kernel : ∀ t : Fin grid0.N, t.val / 16 = 0 → k0_cond1 (grid0.coords t) = 1#1 ∧ ¬ k0_cond2 (grid0.coords t) = 1#1 ∧ ¬ k0_cond3 (grid0.coords t) = 1#1)
/-- the later even ones multiply by the second buffer, -/
theorem is_even : ∀ t : Fin cfg0.N, t.val / 16 ≠ 0 → t.val / 16 % 2 = 0 → ¬ k0_cond1 (grid0.coords t) = 1#1 ∧ k0_cond2 (grid0.coords t) = 1#1 ∧ ¬ k0_cond3 (grid0.coords t) = 1#1 :=
  (by decide +kernel : ∀ t : Fin grid0.N, t.val / 16 ≠ 0 → t.val / 16 % 2 = 0 → ¬ k0_cond1 (grid0.coords t) = 1#1 ∧ k0_cond2 (grid0.coords t) = 1#1 ∧ ¬ k0_cond3 (grid0.coords t) = 1#1)
/-- and the odd ones by the first. -/
theorem is_odd : ∀ t : Fin cfg0.N, t.val / 16 % 2 = 1 → ¬ k0_cond1 (grid0.coords t) = 1#1 ∧ ¬ k0_cond2 (grid0.coords t) = 1#1 ∧ k0_cond3 (grid0.coords t) = 1#1 :=
  (by decide +kernel : ∀ t : Fin grid0.N, t.val / 16 % 2 = 1 → ¬ k0_cond1 (grid0.coords t) = 1#1 ∧ ¬ k0_cond2 (grid0.coords t) = 1#1 ∧ k0_cond3 (grid0.coords t) = 1#1)

/-- The two chunks of weights that point `t` stages: the pooling branch's, -/
def chunkP (c : Dev nD) (t : Fin cfg0.N) : Vec F S128x1024 .bf16 := k0_pay1 (iblk m c 2 t)
/-- and the attention branch's. -/
def chunkA (c : Dev nD) (t : Fin cfg0.N) : Vec F S128x1024 .bf16 := k0_pay1 (iblk m c 3 t)

/-- What is known of a branch's two buffers before point `n`, `ch` being its chunks: of each pass that still matters, those
    staged so far. The even passes stage into the first buffer, the odd ones into the second. -/
def Staged (ch : Fin cfg0.N → Vec F S128x1024 .bf16) (n : ℕ) (a b : Vec F S2048x1024 .bf16) : Prop :=
  ∀ s : Fin cfg0.N, s.val < n → n / 16 ≤ s.val / 16 + 1 → ∀ (y : S2048x1024.Idx) (x : S128x1024.Idx),
    (y 0).val = 128 * (s.val % 16) + (x 0).val → (y 1).val = (x 1).val →
    (if s.val / 16 % 2 = 0 then a else b) y = ch s x

/-- A branch's weights that point `t` multiplies by: those of the pass before. -/
def weights (ch : Fin cfg0.N → Vec F S128x1024 .bf16) (t : Fin cfg0.N) : Vec F S2048x1024 .bf16 := fun y =>
  ch ⟨16 * (t.val / 16 - 1) + (y 0).val / 128, by
      have ht : t.val < 80 := lt_of_lt_of_eq t.isLt N_eq
      have hy : (y 0).val < 2048 := (y 0).isLt
      have := N_eq; omega⟩
    (ix2 ⟨(y 0).val % 128, Nat.mod_lt _ (by decide)⟩ (y 1))

/-- The buffer a later pass multiplies by holds them. -/
theorem weights_of (ch : Fin cfg0.N → Vec F S128x1024 .bf16) (t : Fin cfg0.N) (a b : Vec F S2048x1024 .bf16) (h : Staged ch t.val a b) (h0 : t.val / 16 ≠ 0) :
    (if t.val / 16 % 2 = 0 then b else a) = weights ch t := by
  funext y
  have hy : (y 0).val < 2048 := (y 0).isLt
  have ht : t.val < 80 := lt_of_lt_of_eq t.isLt N_eq
  unfold weights
  refine Eq.trans ?_ (h _ ?_ ?_ y _ ?_ rfl)
  · refine congrArg (fun f : Vec F S2048x1024 .bf16 => f y) ?_
    dsimp only
    by_cases e : t.val / 16 % 2 = 0
    · rw [if_pos e, if_neg (by omega)]
    · rw [if_neg e, if_pos (by omega)]
  · dsimp only; omega
  · dsimp only; omega
  · show (y 0).val = 128 * ((16 * (t.val / 16 - 1) + (y 0).val / 128) % 16) + (y 0).val % 128
    omega

/-- A chunk more, in the first buffer. -/
theorem staged_even (ch : Fin cfg0.N → Vec F S128x1024 .bf16) (t : Fin cfg0.N) (a a' b : Vec F S2048x1024 .bf16) (h : Staged ch t.val a b) (he : t.val / 16 % 2 = 0)
    (hp : Put (grid0.coords t 1).val a a' (ch t)) : Staged ch (t.val + 1) a' b := by
  rw [coord1] at hp
  intro s hs hn y x h0 h1
  have hx : (x 0).val < 128 := (x 0).isLt
  by_cases e : s.val = t.val
  · have e' : s = t := Fin.ext e
    subst e'
    rw [if_pos he]
    exact hp.1 y x h0 h1
  · have hh := h s (by omega) (by omega) y x h0 h1
    by_cases e2 : s.val / 16 % 2 = 0
    · rw [if_pos e2] at hh ⊢
      exact (hp.2 y (by omega)).trans hh
    · rw [if_neg e2] at hh ⊢
      exact hh

/-- A chunk more, in the second. -/
theorem staged_odd (ch : Fin cfg0.N → Vec F S128x1024 .bf16) (t : Fin cfg0.N) (a b b' : Vec F S2048x1024 .bf16) (h : Staged ch t.val a b) (he : t.val / 16 % 2 = 1)
    (hp : Put (grid0.coords t 1).val b b' (ch t)) : Staged ch (t.val + 1) a b' := by
  rw [coord1] at hp
  intro s hs hn y x h0 h1
  have hx : (x 0).val < 128 := (x 0).isLt
  by_cases e : s.val = t.val
  · have e' : s = t := Fin.ext e
    subst e'
    rw [if_neg (by omega)]
    exact hp.1 y x h0 h1
  · have hh := h s (by omega) (by omega) y x h0 h1
    by_cases e2 : s.val / 16 % 2 = 0
    · rw [if_pos e2] at hh ⊢
      exact hh
    · rw [if_neg e2] at hh ⊢
      exact (hp.2 y (by omega)).trans hh

/-- Between points: each branch's two buffers, of which `Staged` holds. -/
def inv (c : Dev nD) (n : ℕ) : sProp 𝕄 :=
  iprop((∃ a b d e : Vec F S2048x1024 .bf16, ⌜Staged (chunkP m c) n a b ∧ Staged (chunkA m c) n d e⌝ ∗ owns (c : Thread nD τ) (Memref.whole cc0_scratch0) fullShare a
      ∗ owns (c : Thread nD τ) (Memref.whole cc0_scratch1) fullShare b ∗ owns (c : Thread nD τ) (Memref.whole cc0_scratch2) fullShare d
      ∗ owns (c : Thread nD τ) (Memref.whole cc0_scratch3) fullShare e) ∗ ∃ r, prngReg c r)

/-- The merged block after point `t`. -/
def outAt (c : Dev nD) (t : Fin cfg0.N) : Vec F S576x1024 .bf16 :=
  outBlk (iblk m c 0 t) (iblk m c 1 t) (weights (chunkP m c) t) (weights (chunkA m c) t) (iblk m c 4 t) (iblk m c 5 t)

/-- The run's data: the arrays at entry, each window's block after a point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨_ + 7, h⟩ => absurd h (by simp only [cfg0]; omega)
  Φ t := inv m c t.val
  q w := Pipeline.shareOf spec0 w
  owed _ := 0

theorem A_eq (c : Dev nD) (w) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The merged block is left alone in the first pass only, and is not written back there. -/
theorem idle6 : ∀ t : Fin cfg0.N, t.val / 16 = 0 → cfg0.idle 6 (cfg0.grid.coords t) = true ∧ (cfg0.win 6).flush t = false :=
  (by decide +kernel : ∀ t : Fin cfg0.N, t.val / 16 = 0 → idle0 6 (grid0.coords t) = true ∧ win0_6.flush t = false)
theorem live6 : ∀ t : Fin cfg0.N, t.val / 16 ≠ 0 → cfg0.idle 6 (cfg0.grid.coords t) = false :=
  (by decide +kernel : ∀ t : Fin cfg0.N, t.val / 16 ≠ 0 → idle0 6 (grid0.coords t) = false)

theorem Φ_castSucc (c : Dev nD) (t : Fin cfg0.N) : (dats m 0 c).Φ t.castSucc = inv m c t.val := rfl
theorem Φ_succ (c : Dev nD) (t : Fin cfg0.N) : (dats m 0 c).Φ t.succ = inv m c (t.val + 1) := rfl

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The body at a point: it stages, and but in the first pass it merges. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  unfold Dat.owesAt Pipeline.owesWithin
  rw [show (dats m 0 c).owed t.castSucc = 0 from rfl, show (dats m 0 c).owed t.succ = 0 from rfl, Φ_castSucc, Φ_succ]
  rw [leaves_live m c 0 t rfl, leaves_live m c 1 t rfl, leaves_live m c 2 t rfl, leaves_live m c 3 t rfl, leaves_live m c 4 t rfl, leaves_live m c 5 t rfl]
  simp only [before_0, before_1, before_2, before_3, before_4, before_5, after_0, after_1, after_2, after_3, after_4, after_5]
  unfold inv
  by_cases h0 : t.val / 16 = 0
  · rw [Dat.leavesExact_idle _ 6 t (idle6 t h0).1 (idle6 t h0).2]
    iintro ⟨⟨⟨%a, %b, %d, %e, %hS, HS0, HS1, HS2, HS3⟩, Hg⟩, ⟨%W, HB, HW⟩, ⟨%d0, H0⟩, ⟨%d1, H1⟩, ⟨%d2, H2⟩, ⟨%d3, H3⟩, ⟨%d4, H4⟩, ⟨%d5, H5⟩, ⟨%d6, H6⟩⟩
    iapply (run_stage c (grid0.coords t) _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (is_stage t h0).1 (is_stage t h0).2.1 (is_stage t h0).2.2 (iblk m c 0 t) (iblk m c 1 t) (iblk m c 2 t) (iblk m c 3 t) (iblk m c 4 t) (iblk m c 5 t) ((dats m 0 c).before 6 t d6) a b d e Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%a', %hp0, HS0⟩, HS1, ⟨%d', %hp1, HS2⟩, HS3⟩
    isplitl [HS0 HS1 HS2 HS3 Hg]
    · isplitl [HS0 HS1 HS2 HS3]
      · iexists a', b, d', e
        isplitr; · ipureintro; exact ⟨staged_even (chunkP m c) t a a' b hS.1 (by omega) hp0, staged_even (chunkA m c) t d d' e hS.2 (by omega) hp1⟩
        isplitl [HS0]; · iexact HS0
        isplitl [HS1]; · iexact HS1
        isplitl [HS2]; · iexact HS2
        iexact HS3
      iexact Hg
    isplitl [HB HW]
    · iexists W; isplitl [HB]; · iexact HB
      iexact HW
    isplitl [H0]; · iexact H0
    isplitl [H1]; · iexact H1
    isplitl [H2]; · iexact H2
    isplitl [H3]; · iexact H3
    isplitl [H4]; · iexact H4
    isplitl [H5]; · iexact H5
    iexists d6; iexact H6
  rw [leaves_live m c 6 t (live6 t h0), after_6]
  unfold outAt
  by_cases he : t.val / 16 % 2 = 0
  · iintro ⟨⟨⟨%a, %b, %d, %e, %hS, HS0, HS1, HS2, HS3⟩, Hg⟩, ⟨%W, HB, HW⟩, ⟨%d0, H0⟩, ⟨%d1, H1⟩, ⟨%d2, H2⟩, ⟨%d3, H3⟩, ⟨%d4, H4⟩, ⟨%d5, H5⟩, ⟨%d6, H6⟩⟩
    have hw : b = weights (chunkP m c) t := (if_pos he).symm.trans (weights_of (chunkP m c) t a b hS.1 h0)
    have hv : e = weights (chunkA m c) t := (if_pos he).symm.trans (weights_of (chunkA m c) t d e hS.2 h0)
    rw [← hw, ← hv]
    iapply (run_even c (grid0.coords t) _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (is_even t h0 he).1 (is_even t h0 he).2.1 (is_even t h0 he).2.2 (iblk m c 0 t) (iblk m c 1 t) (iblk m c 2 t) (iblk m c 3 t) (iblk m c 4 t) (iblk m c 5 t) ((dats m 0 c).before 6 t d6) a b d e Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%a', %hp0, HS0⟩, HS1, ⟨%d', %hp1, HS2⟩, HS3⟩
    isplitl [HS0 HS1 HS2 HS3 Hg]
    · isplitl [HS0 HS1 HS2 HS3]
      · iexists a', b, d', e
        isplitr; · ipureintro; exact ⟨staged_even (chunkP m c) t a a' b hS.1 he hp0, staged_even (chunkA m c) t d d' e hS.2 he hp1⟩
        isplitl [HS0]; · iexact HS0
        isplitl [HS1]; · iexact HS1
        isplitl [HS2]; · iexact HS2
        iexact HS3
      iexact Hg
    isplitl [HB HW]
    · iexists W; isplitl [HB]; · iexact HB
      iexact HW
    isplitl [H0]; · iexact H0
    isplitl [H1]; · iexact H1
    isplitl [H2]; · iexact H2
    isplitl [H3]; · iexact H3
    isplitl [H4]; · iexact H4
    isplitl [H5]; · iexact H5
    iexact H6
  · have he : t.val / 16 % 2 = 1 := by omega
    iintro ⟨⟨⟨%a, %b, %d, %e, %hS, HS0, HS1, HS2, HS3⟩, Hg⟩, ⟨%W, HB, HW⟩, ⟨%d0, H0⟩, ⟨%d1, H1⟩, ⟨%d2, H2⟩, ⟨%d3, H3⟩, ⟨%d4, H4⟩, ⟨%d5, H5⟩, ⟨%d6, H6⟩⟩
    have hw : a = weights (chunkP m c) t := (if_neg (by omega)).symm.trans (weights_of (chunkP m c) t a b hS.1 h0)
    have hv : d = weights (chunkA m c) t := (if_neg (by omega)).symm.trans (weights_of (chunkA m c) t d e hS.2 h0)
    rw [← hw, ← hv]
    iapply (run_odd c (grid0.coords t) _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (is_odd t he).1 (is_odd t he).2.1 (is_odd t he).2.2 (iblk m c 0 t) (iblk m c 1 t) (iblk m c 2 t) (iblk m c 3 t) (iblk m c 4 t) (iblk m c 5 t) ((dats m 0 c).before 6 t d6) a b d e Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, ⟨%b', %hp0, HS1⟩, HS2, ⟨%e', %hp1, HS3⟩⟩
    isplitl [HS0 HS1 HS2 HS3 Hg]
    · isplitl [HS0 HS1 HS2 HS3]
      · iexists a, b', d, e'
        isplitr; · ipureintro; exact ⟨staged_odd (chunkP m c) t a b b' hS.1 he hp0, staged_odd (chunkA m c) t d e e' hS.2 he hp1⟩
        isplitl [HS0]; · iexact HS0
        isplitl [HS1]; · iexact HS1
        isplitl [HS2]; · iexact HS2
        iexact HS3
      iexact Hg
    isplitl [HB HW]
    · iexists W; isplitl [HB]; · iexact HB
      iexact HW
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known of the buffers before the first point, -/
theorem inv_first (c : Dev nD) : Pipeline.ΦA spec0 c ⊢ (dats m 0 c).Φ 0 := by
  rw [show (dats m 0 c).Φ 0 = inv m c 0 from rfl]
  unfold inv Pipeline.ΦA
  rw [scopedRest0_eq]
  iintro ⟨⟨⟨%f0, HS0⟩, ⟨%f1, HS1⟩, ⟨%f2, HS2⟩, ⟨%f3, HS3⟩⟩, Hg⟩
  isplitl [HS0 HS1 HS2 HS3]
  · iexists f0, f1, f2, f3
    isplitr; · ipureintro; exact ⟨fun s hs => absurd hs (Nat.not_lt_zero _), fun s hs => absurd hs (Nat.not_lt_zero _)⟩
    rw [owns_whole, owns_whole, owns_whole, owns_whole]
    isplitl [HS0]; · iexact HS0
    isplitl [HS1]; · iexact HS1
    isplitl [HS2]; · iexact HS2
    iexact HS3
  iexact Hg

/-- and what is known at the end is forgotten. -/
theorem inv_last (c : Dev nD) : (dats m 0 c).Φ (Fin.last cfg0.N) ⊢ Pipeline.ΦA spec0 c := by
  rw [show (dats m 0 c).Φ (Fin.last cfg0.N) = inv m c 80 from congrArg (inv m c) N_0]
  unfold inv Pipeline.ΦA
  rw [scopedRest0_eq]
  simp only [owns_whole]
  iintro ⟨⟨%a, %b, %d, %e, -, HS0, HS1, HS2, HS3⟩, Hg⟩
  isplitl [HS0 HS1 HS2 HS3]
  · isplitl [HS0]
    · iexists a; iexact HS0
    isplitl [HS1]
    · iexists b; iexact HS1
    isplitl [HS2]
    · iexists d; iexact HS2
    iexists e; iexact HS3
  iexact Hg

set_option backward.isDefEq.respectTransparency.types false in
/-- The whole run: the arrays end as the points' blocks leave them, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ Variants.none m ρ main
    (fun c => (body_obligation m c).loose) (fun _ _ _ => rfl) (fun _ _ => rfl) (V m) (hmain m Variants.none) (A_eq m)
    (inv_first m) (inv_last m) _ (fun _ h => h)

/-- The frame: the arguments end unchanged and every semaphore ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 5).trans (((dats m 0 c).arrAt_in 5 rfl _).trans ((A_eq m c 5).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel3Ideal.Hand

end
-- ==== Proof.MergeArr.lean ====
/-
   The merge's values: every entry is the two branches' products, each weighed by its gate.
-/
module

public import proofs.«01_k».proof.Proof.MergeFrame

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem

variable (m : (ℓ : Loc nD τ sig) → Buf (Elt Ideal) ℓ)

theorem pay1_at (v : Vec Ideal S128x1024 .f32) (r : Fin 128) (j : Fin 1024) : k0_pay1 v (ix2 r j) = v (ix2 r j) := by
  pointwise [k0_pay1]

/-- Half a block, entry by entry. -/
theorem pay7_at (x : Vec Ideal S288x2048 .bf16) (w : Vec Ideal S2048x1024 .bf16) (x' : Vec Ideal S288x2048 .bf16) (w' : Vec Ideal S2048x1024 .bf16)
    (g g' : Vec Ideal S288x1024 .f32) (r : Fin 288) (j : Fin 1024) :
    k0_pay7 x w x' w' g g' (ix2 r j) = Ideal.logistic (g (ix2 r j)) * (∑ k : Fin 2048, x (ix2 r k) * w (ix2 k j))
      + Ideal.logistic (g' (ix2 r j)) * ∑ k : Fin 2048, x' (ix2 r k) * w' (ix2 k j) := by
  pointwise [k0_pay7]

theorem win_at {e : EltTy} {W : ℕ} (x : Vec Ideal ⟨2, ![576, W]⟩ e) (o : ℕ) (inb : ∀ a : Fin 2, (![o, 0] : Fin 2 → ℕ) a + (![288, W] : Fin 2 → ℕ) a ≤ (![576, W] : Fin 2 → ℕ) a)
    (r : Fin 288) (j : Fin W) (R : Fin 576) (hR : R.val = o + r.val) :
    (VecWindow.window (s := ⟨2, ![576, W]⟩) x ![o, 0] ![288, W] inb : Vec Ideal ⟨2, ![288, W]⟩ e) (ix2 r j) = x (ix2 R j) := by
  refine congrArg x (funext fun a => Fin.ext ?_)
  fin_cases a
  · show o + 1 * r.val = R.val; omega
  · show 0 + 1 * j.val = j.val; omega

/-- The whole block, entry by entry. -/
theorem outBlk_at (x2 x3 : Vec Ideal S576x2048 .bf16) (wp wa : Vec Ideal S2048x1024 .bf16) (x6 x7 : Vec Ideal S576x1024 .f32) (r : Fin 576) (j : Fin 1024) :
    outBlk x2 x3 wp wa x6 x7 (ix2 r j) = Ideal.logistic (x6 (ix2 r j)) * (∑ k : Fin 2048, x2 (ix2 r k) * wp (ix2 k j))
      + Ideal.logistic (x7 (ix2 r j)) * ∑ k : Fin 2048, x3 (ix2 r k) * wa (ix2 k j) := by
  unfold outBlk
  by_cases h : r.val < 288
  · refine (dif_pos h).trans ((pay7_at _ _ _ _ _ _ ⟨r.val, h⟩ j).trans ?_)
    have hr : r.val = 0 + r.val := (Nat.zero_add _).symm
    refine congrArg₂ (· + ·) (congrArg₂ (· * ·) (congrArg Ideal.logistic ?_) (Finset.sum_congr rfl fun k _ => congrArg (· * _) ?_))
      (congrArg₂ (· * ·) (congrArg Ideal.logistic ?_) (Finset.sum_congr rfl fun k _ => congrArg (· * _) ?_))
    all_goals exact win_at _ 0 _ _ _ r hr
  · have hr : r.val = 288 + (r.val - 288) := by omega
    refine (dif_neg h).trans ((pay7_at _ _ _ _ _ _ ⟨r.val - 288, by omega⟩ j).trans ?_)
    refine congrArg₂ (· + ·) (congrArg₂ (· * ·) (congrArg Ideal.logistic ?_) (Finset.sum_congr rfl fun k _ => congrArg (· * _) ?_))
      (congrArg₂ (· * ·) (congrArg Ideal.logistic ?_) (Finset.sum_congr rfl fun k _ => congrArg (· * _) ?_))
    all_goals exact win_at _ 288 _ _ _ r hr

theorem idx0 : ∀ t : Fin cfg0.N, t.val / 16 ≠ 0 → win0_0.index t = ![t.val % 16, 0] := (by decide +kernel : ∀ t : Fin grid0.N, t.val / 16 ≠ 0 → win0_0.index t = ![t.val % 16, 0])
theorem idx1 : ∀ t : Fin cfg0.N, t.val / 16 ≠ 0 → win0_1.index t = ![t.val % 16, 0] := (by decide +kernel : ∀ t : Fin grid0.N, t.val / 16 ≠ 0 → win0_1.index t = ![t.val % 16, 0])
theorem idx2 : ∀ t : Fin cfg0.N, t.val / 16 < 4 → win0_2.index t = ![t.val % 16, t.val / 16] := (by decide +kernel : ∀ t : Fin grid0.N, t.val / 16 < 4 → win0_2.index t = ![t.val % 16, t.val / 16])
theorem idx3 : ∀ t : Fin cfg0.N, t.val / 16 < 4 → win0_3.index t = ![t.val % 16, t.val / 16] := (by decide +kernel : ∀ t : Fin grid0.N, t.val / 16 < 4 → win0_3.index t = ![t.val % 16, t.val / 16])
theorem idx4 : ∀ t : Fin cfg0.N, t.val / 16 ≠ 0 → win0_4.index t = ![t.val % 16 * 576, 8704 + (t.val / 16 - 1) * 1024] := (by decide +kernel : ∀ t : Fin grid0.N, t.val / 16 ≠ 0 → win0_4.index t = ![t.val % 16 * 576, 8704 + (t.val / 16 - 1) * 1024])
theorem idx5 : ∀ t : Fin cfg0.N, t.val / 16 ≠ 0 → win0_5.index t = ![t.val % 16 * 576, 12800 + (t.val / 16 - 1) * 1024] := (by decide +kernel : ∀ t : Fin grid0.N, t.val / 16 ≠ 0 → win0_5.index t = ![t.val % 16 * 576, 12800 + (t.val / 16 - 1) * 1024])
theorem idx6 : ∀ t : Fin cfg0.N, t.val / 16 ≠ 0 → win0_6.index t = ![t.val % 16, t.val / 16 - 1] := (by decide +kernel : ∀ t : Fin grid0.N, t.val / 16 ≠ 0 → win0_6.index t = ![t.val % 16, t.val / 16 - 1])
theorem flush6 : ∀ t : Fin cfg0.N, win0_6.flush t = true → t.val / 16 ≠ 0 := (by decide +kernel : ∀ t : Fin grid0.N, win0_6.flush t = true → t.val / 16 ≠ 0)

theorem V_v0 (c : Dev nD) (k : Fin 2048) (j : Fin 4096) : (V m c main_v0 : Vec Ideal S2048x4096 .f32) (ix2 k j) = (m (c, main_arg3) : Vec Ideal S1x2048x4096 .f32) (ix3 0 k j) := by
  simp only [V, hostOps0, List.flatten_cons, List.flatten_nil, List.append_nil]
  after_results_simp
  pointwise

theorem V_v1 (c : Dev nD) (k : Fin 2048) (j : Fin 4096) : (V m c main_v1 : Vec Ideal S2048x4096 .f32) (ix2 k j) = (m (c, main_arg4) : Vec Ideal S1x2048x4096 .f32) (ix3 0 k j) := by
  simp only [V, hostOps0, List.flatten_cons, List.flatten_nil, List.append_nil]
  after_results_simp
  pointwise

theorem V_arg0 (c : Dev nD) : (V m c main_arg0 : Vec Ideal S9216x2048 .bf16) = m (c, main_arg0) := V_main_arg0 m c
theorem V_arg1 (c : Dev nD) : (V m c main_arg1 : Vec Ideal S9216x2048 .bf16) = m (c, main_arg1) := V_main_arg1 m c
theorem V_arg2 (c : Dev nD) : (V m c main_arg2 : Vec Ideal S9216x16896 .f32) = m (c, main_arg2) := V_main_arg2 m c

theorem a_at (c : Dev nD) (t : Fin cfg0.N) (h : t.val / 16 ≠ 0) (r : Fin 576) (k : Fin 2048) (R : Fin 9216) (hR : R.val = t.val % 16 * 576 + r.val) :
    (iblk m c 0 t : Vec Ideal S576x2048 .bf16) (ix2 r k) = (m (c, main_arg0) : Vec Ideal S9216x2048 .bf16) (ix2 R k) := by
  blk_simp [iblk]
  refine Eq.trans (congrArg (V m c main_arg0 : Vec Ideal S9216x2048 .bf16) (funext fun a => Fin.ext ?_ : _ = ix2 R k)) (congrFun (V_arg0 m c) _)
  fin_cases a <;> simp [idx0 t h, hR]

theorem b_at (c : Dev nD) (t : Fin cfg0.N) (h : t.val / 16 ≠ 0) (r : Fin 576) (k : Fin 2048) (R : Fin 9216) (hR : R.val = t.val % 16 * 576 + r.val) :
    (iblk m c 1 t : Vec Ideal S576x2048 .bf16) (ix2 r k) = (m (c, main_arg1) : Vec Ideal S9216x2048 .bf16) (ix2 R k) := by
  blk_simp [iblk]
  refine Eq.trans (congrArg (V m c main_arg1 : Vec Ideal S9216x2048 .bf16) (funext fun a => Fin.ext ?_ : _ = ix2 R k)) (congrFun (V_arg1 m c) _)
  fin_cases a <;> simp [idx1 t h, hR]

theorem ga_at (c : Dev nD) (t : Fin cfg0.N) (h : t.val / 16 ≠ 0) (r : Fin 576) (j : Fin 1024) (R : Fin 9216) (J : Fin 16896)
    (hR : R.val = t.val % 16 * 576 + r.val) (hJ : J.val = 8704 + (t.val / 16 - 1) * 1024 + j.val) :
    (iblk m c 4 t : Vec Ideal S576x1024 .f32) (ix2 r j) = (m (c, main_arg2) : Vec Ideal S9216x16896 .f32) (ix2 R J) := by
  blk_simp [iblk]
  refine Eq.trans (congrArg (V m c main_arg2 : Vec Ideal S9216x16896 .f32) (funext fun a => Fin.ext ?_ : _ = ix2 R J)) (congrFun (V_arg2 m c) _)
  fin_cases a
  · change win0_4.index t 0 + 1 * _ = _
    rw [idx4 t h]; simp [hR]
  · change win0_4.index t 1 + 1 * _ = _
    rw [idx4 t h]; simp [hJ]

theorem gb_at (c : Dev nD) (t : Fin cfg0.N) (h : t.val / 16 ≠ 0) (r : Fin 576) (j : Fin 1024) (R : Fin 9216) (J : Fin 16896)
    (hR : R.val = t.val % 16 * 576 + r.val) (hJ : J.val = 12800 + (t.val / 16 - 1) * 1024 + j.val) :
    (iblk m c 5 t : Vec Ideal S576x1024 .f32) (ix2 r j) = (m (c, main_arg2) : Vec Ideal S9216x16896 .f32) (ix2 R J) := by
  blk_simp [iblk]
  refine Eq.trans (congrArg (V m c main_arg2 : Vec Ideal S9216x16896 .f32) (funext fun a => Fin.ext ?_ : _ = ix2 R J)) (congrFun (V_arg2 m c) _)
  fin_cases a
  · change win0_5.index t 0 + 1 * _ = _
    rw [idx5 t h]; simp [hR]
  · change win0_5.index t 1 + 1 * _ = _
    rw [idx5 t h]; simp [hJ]

theorem wp_at (c : Dev nD) (t : Fin cfg0.N) (h : t.val / 16 < 4) (r : Fin 128) (j : Fin 1024) :
    (iblk m c 2 t : Vec Ideal S128x1024 .f32) (ix2 r j) = (m (c, main_arg3) : Vec Ideal S1x2048x4096 .f32) (ix3 0 ⟨t.val % 16 * 128 + r.val, by omega⟩ ⟨t.val / 16 * 1024 + j.val, by omega⟩) := by
  blk_simp [iblk]
  refine Eq.trans (congrArg (V m c main_v0 : Vec Ideal S2048x4096 .f32) (funext fun a => Fin.ext ?_ : _ = ix2 ⟨t.val % 16 * 128 + r.val, by omega⟩ ⟨t.val / 16 * 1024 + j.val, by omega⟩)) (V_v0 m c _ _)
  fin_cases a <;> simp [idx2 t h]

theorem wa_at (c : Dev nD) (t : Fin cfg0.N) (h : t.val / 16 < 4) (r : Fin 128) (j : Fin 1024) :
    (iblk m c 3 t : Vec Ideal S128x1024 .f32) (ix2 r j) = (m (c, main_arg4) : Vec Ideal S1x2048x4096 .f32) (ix3 0 ⟨t.val % 16 * 128 + r.val, by omega⟩ ⟨t.val / 16 * 1024 + j.val, by omega⟩) := by
  blk_simp [iblk]
  refine Eq.trans (congrArg (V m c main_v1 : Vec Ideal S2048x4096 .f32) (funext fun a => Fin.ext ?_ : _ = ix2 ⟨t.val % 16 * 128 + r.val, by omega⟩ ⟨t.val / 16 * 1024 + j.val, by omega⟩)) (V_v1 m c _ _)
  fin_cases a <;> simp [idx3 t h]

/-- The pooling branch's weights of a pass: 1024 columns of its matrix. -/
theorem weightsP_at (c : Dev nD) (t : Fin cfg0.N) (h : t.val / 16 ≠ 0) (k : Fin 2048) (j : Fin 1024) (J : Fin 4096) (hJ : J.val = (t.val / 16 - 1) * 1024 + j.val) :
    weights (chunkP m c) t (ix2 k j) = (m (c, main_arg3) : Vec Ideal S1x2048x4096 .f32) (ix3 0 k J) := by
  have ht : t.val < 80 := lt_of_lt_of_eq t.isLt N_eq
  have hk := k.isLt
  unfold weights chunkP
  refine (pay1_at _ _ _).trans ((wp_at m c _ (by dsimp only; show (16 * (t.val / 16 - 1) + k.val / 128) / 16 < 4; omega) _ _).trans ?_)
  refine congrArg _ (congrArg₂ (ix3 0) (Fin.ext ?_) (Fin.ext ?_))
  · show (16 * (t.val / 16 - 1) + k.val / 128) % 16 * 128 + k.val % 128 = k.val
    omega
  · show (16 * (t.val / 16 - 1) + k.val / 128) / 16 * 1024 + j.val = J.val
    omega

/-- The attention branch's. -/
theorem weightsA_at (c : Dev nD) (t : Fin cfg0.N) (h : t.val / 16 ≠ 0) (k : Fin 2048) (j : Fin 1024) (J : Fin 4096) (hJ : J.val = (t.val / 16 - 1) * 1024 + j.val) :
    weights (chunkA m c) t (ix2 k j) = (m (c, main_arg4) : Vec Ideal S1x2048x4096 .f32) (ix3 0 k J) := by
  have ht : t.val < 80 := lt_of_lt_of_eq t.isLt N_eq
  have hk := k.isLt
  unfold weights chunkA
  refine (pay1_at _ _ _).trans ((wa_at m c _ (by dsimp only; show (16 * (t.val / 16 - 1) + k.val / 128) / 16 < 4; omega) _ _).trans ?_)
  refine congrArg _ (congrArg₂ (ix3 0) (Fin.ext ?_) (Fin.ext ?_))
  · show (16 * (t.val / 16 - 1) + k.val / 128) % 16 * 128 + k.val % 128 = k.val
    omega
  · show (16 * (t.val / 16 - 1) + k.val / 128) / 16 * 1024 + j.val = J.val
    omega

/-- An entry of the merge, from the branches' rows `a` and `b`, the projected rows `p` that hold the gates, and the weights. -/
def merged (a b : Vec Ideal S9216x2048 .bf16) (p : Vec Ideal S9216x16896 .f32) (wp wa : Vec Ideal S1x2048x4096 .f32) (R : Fin 9216) (J : Fin 4096) : EReal :=
  Ideal.logistic (p (ix2 R ⟨8704 + J.val, by omega⟩)) * (∑ k : Fin 2048, a (ix2 R k) * wp (ix3 0 k J))
    + Ideal.logistic (p (ix2 R ⟨12800 + J.val, by omega⟩)) * ∑ k : Fin 2048, b (ix2 R k) * wa (ix3 0 k J)

theorem outAt_at (c : Dev nD) (t : Fin cfg0.N) (h : t.val / 16 ≠ 0) (y : S576x1024.Idx) (R : Fin 9216) (J : Fin 4096)
    (hR : R.val = t.val % 16 * 576 + (y 0 : ℕ)) (hJ : J.val = (t.val / 16 - 1) * 1024 + (y 1 : ℕ)) :
    outAt m c t y = merged (m (c, main_arg0)) (m (c, main_arg1)) (m (c, main_arg2)) (m (c, main_arg3)) (m (c, main_arg4)) R J := by
  have hy0 : (y 0 : ℕ) < 576 := (y 0).isLt
  have hy1 : (y 1 : ℕ) < 1024 := (y 1).isLt
  have hy : y = ix2 ⟨(y 0 : ℕ), hy0⟩ ⟨(y 1 : ℕ), hy1⟩ := by
    funext a; fin_cases a <;> rfl
  refine (congrArg (outAt m c t) hy).trans ?_
  unfold outAt merged
  refine (outBlk_at _ _ _ _ _ _ _ _).trans ?_
  refine congrArg₂ (· + ·) (congrArg₂ (· * ·) (congrArg Ideal.logistic ?_) (Finset.sum_congr rfl fun k _ => congrArg₂ (· * ·) ?_ ?_))
    (congrArg₂ (· * ·) (congrArg Ideal.logistic ?_) (Finset.sum_congr rfl fun k _ => congrArg₂ (· * ·) ?_ ?_))
  · exact ga_at m c t h _ _ R _ hR (by show 8704 + J.val = 8704 + (t.val / 16 - 1) * 1024 + (y 1 : ℕ); omega)
  · exact a_at m c t h _ k R hR
  · exact weightsP_at m c t h k _ J hJ
  · exact gb_at m c t h _ _ R _ hR (by show 12800 + J.val = 12800 + (t.val / 16 - 1) * 1024 + (y 1 : ℕ); omega)
  · exact b_at m c t h _ k R hR
  · exact weightsA_at m c t h k _ J hJ

/-- The merge's array after the run. -/
theorem arr_merge (c : Dev nD) : ((dats m 0 c).arrAt 6 (cfgs 0).N : Vec Ideal S9216x4096 .bf16)
    = fun i => merged (m (c, main_arg0)) (m (c, main_arg1)) (m (c, main_arg2)) (m (c, main_arg3)) (m (c, main_arg4)) (i 0) (i 1) := by
  refine (dats m 0 c).arrAt_eq_of_covers 6
    (fun i : S9216x4096.Idx => (merged (m (c, main_arg0)) (m (c, main_arg1)) (m (c, main_arg2)) (m (c, main_arg3)) (m (c, main_arg4)) (i 0) (i 1) : EReal))
    (by decide +kernel) (fun t hf y => ?_)
  blk_simp
  rw [after_6]
  have h := flush6 t hf
  refine outAt_at m c t h _ _ _ ?_ ?_
  · change win0_6.index t 0 * 576 + 1 * (y 0 : ℕ) = _
    rw [idx6 t h]
    exact congrArg _ (Nat.one_mul _)
  · change win0_6.index t 1 * 1024 + 1 * (y 1 : ℕ) = _
    rw [idx6 t h]
    exact congrArg _ (Nat.one_mul _)

/-- The run of the kernel: its result, and its arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v2) = (fun i => merged (m (c, main_arg0)) (m (c, main_arg1)) (m (c, main_arg2)) (m (c, main_arg3)) (m (c, main_arg4)) (i 0) (i 1) : Vec Ideal S9216x4096 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 6).trans (arr_merge m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 5).trans (((dats m 0 c).arrAt_in 5 rfl _).trans ((A_eq m c 5).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

end Cert.Kernel3Ideal.Hand

end
-- ==== Proof.MergeRef.lean ====
/-
   The plain merge, read at an entry.
-/
module

public import proofs.«01_k».proof.Proof.MergeArr
public import proofs.«01_k».proof.Proof.Gen.Reference3Ideal.Run

@[expose] public section

set_option maxRecDepth 16384

noncomputable section

namespace Cert.Reference3Ideal.Hand

open Cert.Reference3Ideal Cert.Reference3Ideal.Gen Cert.Reference3Ideal.Value
open Idealize.ShloMosaic Idealize.ShloMosaic.TcCoe Idealize.SL.Sem
open Cert.Kernel3Ideal.Hand (merged)

/-- The plain gate: one over one and the exponential of the negated gate. -/
def gate (p : Vec Ideal S9216x16896 .f32) (o : ℕ) (sl : S9216x16896.Slices ![0, o] S9216x4096) : FVec Ideal S9216x4096 .f32 :=
  Host.divf (F := Ideal) (broadcastInDim S9216x4096 ![] bcast_S_S9216x4096 (constant S_ .f32 0x3F800000#32))
    (addf (broadcastInDim S9216x4096 ![] bcast_S_S9216x4096 (constant S_ .f32 0x3F800000#32)) (Host.exp (Host.negf (extractStridedSlice S9216x4096 ![0, o] p sl))))

theorem gateA_at (p : Vec Ideal S9216x16896 .f32) (R : Fin 9216) (J : Fin 4096) :
    gate p 8704 slices_S9216x16896_S9216x4096_0_8704 (ix2 R J) = Ideal.logistic (p (ix2 R ⟨8704 + J.val, by omega⟩)) := by
  unfold Ideal.logistic
  pointwise [gate]

theorem gateB_at (p : Vec Ideal S9216x16896 .f32) (R : Fin 9216) (J : Fin 4096) :
    gate p 12800 slices_S9216x16896_S9216x4096_0_12800 (ix2 R J) = Ideal.logistic (p (ix2 R ⟨12800 + J.val, by omega⟩)) := by
  unfold Ideal.logistic
  pointwise [gate]

/-- A branch's plain product. -/
def prod (a : FVec Ideal S9216x2048 .bf16) (w : Vec Ideal S1x2048x4096 .f32) : FVec Ideal S9216x4096 .f32 :=
  Host.dotGeneral (F := Ideal) (φ₁ := .f32) (φ₂ := .f32) dot_S9216x2048_S2048x4096_S9216x4096_1_0_0_1_n_n none
    (extf .f32 a bitsLt_bf16_f32) (shapeCast S2048x4096 w shapeCasts_S1x2048x4096_S2048x4096)

theorem prod_at (a : FVec Ideal S9216x2048 .bf16) (w : Vec Ideal S1x2048x4096 .f32) (R : Fin 9216) (J : Fin 4096) :
    prod a w (ix2 R J) = ∑ k : Fin 2048, a (ix2 R k) * w (ix3 0 k J) := by
  pointwise [prod]

/-- An entry of the plain merge. -/
theorem merge_at (a b : FVec Ideal S9216x2048 .bf16) (p : Vec Ideal S9216x16896 .f32) (wp wa : Vec Ideal S1x2048x4096 .f32) (R : Fin 9216) (J : Fin 4096) :
    (truncf (F := Ideal) .bf16 (addf (mulf (gate p 8704 slices_S9216x16896_S9216x4096_0_8704) (prod a wp))
      (mulf (gate p 12800 slices_S9216x16896_S9216x4096_0_12800) (prod b wa))) bitsLt_bf16_f32) (ix2 R J) = merged a b p wp wa R J := by
  unfold merged
  rw [← gateA_at, ← gateB_at, ← prod_at, ← prod_at]
  rfl

/-- The run of the plain program, its result named as the kernel's. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = (fun i => merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) : Vec Ideal S9216x4096 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.Reference3Ideal.Value.run (F := Ideal) m ρ)
  obtain ⟨h1, h2⟩ := h c
  refine ⟨h1.trans (funext fun i => ?_), h2⟩
  have hi : i = ix2 (i 0) (i 1) := by
    funext a
    match a with
    | ⟨0, _⟩ => rfl
    | ⟨1, _⟩ => rfl
  exact (congrArg _ hi).trans (merge_at _ _ _ _ _ (i 0) (i 1))

end Cert.Reference3Ideal.Hand

end
-- ==== Proof.OutBlk.lean ====
/-
   The output product and its layer norm: a point's block, row by row.
   The body stores the product of half a block, then reads it back eight rows at a time, adds the scaled layer input and stores
   the rows normalised.
-/
module

public import proofs.«01_k».proof.Proof.Gen.Kernel4Ideal.Frame
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem

/-- The mean of a row. -/
def mean (Y : Fin 4096 → EReal) : EReal := Ideal.div (∑ j : Fin 4096, Y j) (Ideal.ofBits .f32 0x45800000#32)

/-- An entry of the layer norm of a row `Y`, with that column's gain and bias. -/
def layerNorm (Y : Fin 4096 → EReal) (j : Fin 4096) (g b : EReal) : EReal :=
  (Y j - mean Y) * Ideal.rsqrt (mean (fun k => (Y k - mean Y) * (Y k - mean Y)) + Ideal.ofBits .f32 0x3727C5AC#32) * g + b

/-- An entry before the norm: the layer's input times the residual scale, and the output product's entry. -/
def pre (x : EReal) (h w : Fin 4096 → EReal) : EReal := Ideal.ofBits .f32 0x3F9837F0#32 * x + ∑ k : Fin 4096, h k * w k

/-- Half a block's product, entry by entry. -/
theorem pay4_at (h : Vec Ideal S128x4096 .bf16) (w : Vec Ideal S4096x4096 .bf16) (r : Fin 128) (j : Fin 4096) :
    k0_pay4 h w (ix2 r j) = ∑ k : Fin 4096, h (ix2 r k) * w (ix2 k j) := by
  pointwise [k0_pay4]

/-- Eight rows, entry by entry. -/
theorem pay6_at (g b : Vec Ideal S1x4096 .f32) (x y : Vec Ideal S8x4096 .f32) (r : Fin 8) (j : Fin 4096) :
    k0_pay6 (k0_pay2 g) (k0_pay3 b) x y (ix2 r j)
      = layerNorm (fun k => Ideal.ofBits .f32 0x3F9837F0#32 * x (ix2 r k) + y (ix2 r k)) j (g (ix2 0 j)) (b (ix2 0 j)) := by
  unfold layerNorm mean
  pointwise [k0_pay6, k0_pay2, k0_pay3]

/-- Eight rows of half a block, from row `d`. -/
def rows8 (w : Vec Ideal S128x4096 .f32) (d : ℕ) : Vec Ideal S8x4096 .f32 :=
  fun i => w (ix2 ⟨(d + (i 0).val) % 128, Nat.mod_lt _ (by norm_num)⟩ (i 1))

/-- Eight rows read back from the half block last stored. -/
theorem readSub {sp : Space} (v : View sig .tc sp S256x4096 .f32) (o q : ℕ)
    (inb : ∀ a : Fin 2, (![o, 0] : Fin 2 → ℕ) a + (![128, 4096] : Fin 2 → ℕ) a ≤ S256x4096.size a)
    (inb' : ∀ a : Fin 2, (![q, 0] : Fin 2 → ℕ) a + (![8, 4096] : Fin 2 → ℕ) a ≤ S256x4096.size a)
    (w : Vec Ideal S128x4096 .f32) (L : List (View.Piece (Elt Ideal) S256x4096 .f32)) (h : o ≤ q) (h' : q + 8 ≤ o + 128) :
    v.readCov ((⟨Rect.unit (s := S256x4096) ![o, 0] ![128, 4096] inb, w⟩ : View.Piece (Elt Ideal) S256x4096 .f32) :: L)
      (Rect.unit (s := S256x4096) ![q, 0] ![8, 4096] inb').toLoadRect = rows8 w (q - o) := by
  rw [View.readCov_eq_canon']
  funext j
  have hj : (j 0).val < 8 := (j 0).isLt
  have hm : (q - o + (j 0).val) % 128 = q - o + (j 0).val := Nat.mod_eq_of_lt (by omega)
  refine Eq.trans (congrArg _ ?_) (View.canon_cons_emb (Rect.unit (s := S256x4096) ![o, 0] ![128, 4096] inb) w L
    (ix2 ⟨(q - o + (j 0).val) % 128, Nat.mod_lt _ (by norm_num)⟩ (j 1)))
  funext a
  refine Fin.ext ?_
  fin_cases a
  · show q + 1 * (j 0).val = o + 1 * ((q - o + (j 0).val) % 128)
    omega
  · rfl

/-- A point's block, entry by entry. -/
def outBlk (x0 : Vec Ideal S256x4096 .bf16) (x1 : Vec Ideal S4096x4096 .bf16) (x2 : Vec Ideal S256x4096 .f32) (x3 x4 : Vec Ideal S1x4096 .f32) (r : Fin 256) (j : Fin 4096) : EReal :=
  layerNorm (fun k => pre (x2 (ix2 r k)) (fun l => x0 (ix2 r l)) (fun l => x1 (ix2 l k))) j (x3 (ix2 0 j)) (x4 (ix2 0 j))

/-- The rows a group stores are the block's. -/
theorem group_at (x0 : Vec Ideal S256x4096 .bf16) (x1 : Vec Ideal S4096x4096 .bf16) (x2 : Vec Ideal S256x4096 .f32) (x3 x4 : Vec Ideal S1x4096 .f32)
    (o q : ℕ) (inb : ∀ a : Fin 2, (![o, 0] : Fin 2 → ℕ) a + (![128, 4096] : Fin 2 → ℕ) a ≤ S256x4096.size a)
    (inb' : ∀ a : Fin 2, (![q, 0] : Fin 2 → ℕ) a + (![8, 4096] : Fin 2 → ℕ) a ≤ S256x4096.size a) (h : o ≤ q) (h' : q + 8 ≤ o + 128)
    (r : Fin 8) (j : Fin 4096) (R : Fin 256) (hR : R.val = q + r.val) :
    k0_pay6 (k0_pay2 x3) (k0_pay3 x4) (View.ld x2 (Rect.unit (s := S256x4096) ![q, 0] ![8, 4096] inb'))
      (rows8 (k0_pay4 (View.ld x0 (Rect.unit (s := S256x4096) ![o, 0] ![128, 4096] inb)) x1) (q - o)) (ix2 r j) = outBlk x0 x1 x2 x3 x4 R j := by
  have hm : (q - o + r.val) % 128 = q - o + r.val := Nat.mod_eq_of_lt (by omega)
  refine (pay6_at _ _ _ _ _ _).trans ?_
  unfold outBlk
  refine congrArg (fun Y => layerNorm Y j (x3 (ix2 0 j)) (x4 (ix2 0 j))) (funext fun k => ?_)
  unfold pre
  refine congrArg₂ (· + ·) (congrArg (_ * ·) (congrArg x2 (funext fun a => Fin.ext ?_))) ((pay4_at _ _ _ _).trans (Finset.sum_congr rfl fun l _ => congrArg (· * _) (congrArg x0 (funext fun a => Fin.ext ?_))))
  · fin_cases a
    · show q + 1 * r.val = R.val; omega
    · show 0 + 1 * k.val = k.val; omega
  · fin_cases a
    · show o + 1 * ((q - o + r.val) % 128) = R.val; omega
    · show 0 + 1 * l.val = l.val; omega

/-- The last stored group: its rows are the block's, and the other rows are what was stored before. -/
theorem group (x0 : Vec Ideal S256x4096 .bf16) (x1 : Vec Ideal S4096x4096 .bf16) (x2 : Vec Ideal S256x4096 .f32) (x3 x4 : Vec Ideal S1x4096 .f32)
    (o q : ℕ) (inb : ∀ a : Fin 2, (![o, 0] : Fin 2 → ℕ) a + (![128, 4096] : Fin 2 → ℕ) a ≤ S256x4096.size a)
    (inb' : ∀ a : Fin 2, (![q, 0] : Fin 2 → ℕ) a + (![8, 4096] : Fin 2 → ℕ) a ≤ S256x4096.size a) (h : o ≤ q) (h' : q + 8 ≤ o + 128)
    (P : Vec Ideal S8x4096 .f32)
    (hP : P = k0_pay6 (k0_pay2 x3) (k0_pay3 x4) (View.ld x2 (Rect.unit (s := S256x4096) ![q, 0] ![8, 4096] inb'))
      (rows8 (k0_pay4 (View.ld x0 (Rect.unit (s := S256x4096) ![o, 0] ![128, 4096] inb)) x1) (q - o)))
    (L : List (View.Piece (Elt Ideal) S256x4096 .f32)) (y : S256x4096.Idx)
    (hL : ¬(q ≤ (y 0).val ∧ (y 0).val < q + 8) → View.canon L y = outBlk x0 x1 x2 x3 x4 (y 0) (y 1)) :
    View.canon ((⟨Rect.unit (s := S256x4096) ![q, 0] ![8, 4096] inb', P⟩ : View.Piece (Elt Ideal) S256x4096 .f32) :: L) y = outBlk x0 x1 x2 x3 x4 (y 0) (y 1) := by
  subst hP
  by_cases hy : q ≤ (y 0).val ∧ (y 0).val < q + 8
  · have e : y = (Rect.unit (s := S256x4096) ![q, 0] ![8, 4096] inb').emb (ix2 ⟨(y 0).val - q, by omega⟩ (y 1) : S8x4096.Idx) := by
      funext a
      refine Fin.ext ?_
      fin_cases a
      · show (y 0).val = q + 1 * ((y 0).val - q); omega
      · show (y 1).val = 0 + 1 * (y 1).val; omega
    refine (congrArg _ e).trans ((View.canon_cons_emb _ _ _ _).trans ?_)
    exact group_at x0 x1 x2 x3 x4 o q inb inb' h h' _ _ _ (by show (y 0).val = q + ((y 0).val - q); omega)
  · rw [View.canon_cons_of_not_mem]
    · exact hL hy
    · rw [Rect.mem_set_unit]
      exact fun hm => hy (hm 0)

/-- A stored half block, read at a row outside it. -/
theorem half (o : ℕ) (inb : ∀ a : Fin 2, (![o, 0] : Fin 2 → ℕ) a + (![128, 4096] : Fin 2 → ℕ) a ≤ S256x4096.size a)
    (P : Vec Ideal S128x4096 .f32) (L : List (View.Piece (Elt Ideal) S256x4096 .f32)) (y : S256x4096.Idx) (v : EReal)
    (hy : ¬(o ≤ (y 0).val ∧ (y 0).val < o + 128)) (hL : View.canon L y = v) :
    View.canon ((⟨Rect.unit (s := S256x4096) ![o, 0] ![128, 4096] inb, P⟩ : View.Piece (Elt Ideal) S256x4096 .f32) :: L) y = v := by
  rw [View.canon_cons_of_not_mem]
  · exact hL
  · rw [Rect.mem_set_unit]
    exact fun hm => hy (hm 0)

set_option maxHeartbeats 4000000 in
/-- What the body leaves in the output's buffer is the block. -/
theorem out_at (c : Dev nD) (i : grid0.Coords) (arg1 : Memref sig .tc .vmem S256x4096 .bf16) (harg1 : arg1.IsWhole) (arg2 : Memref sig .tc .vmem S4096x4096 .bf16) (harg2 : arg2.IsWhole) (arg3 : Memref sig .tc .vmem S256x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S256x4096 .f32) (harg6 : arg6.IsWhole)
    (x0 : Vec Ideal S256x4096 .bf16) (x1 : Vec Ideal S4096x4096 .bf16) (x2 : Vec Ideal S256x4096 .f32) (x3 : Vec Ideal S1x4096 .f32) (x4 : Vec Ideal S1x4096 .f32) (y : S256x4096.Idx) :
    out0_A_5 c i arg1 harg1 arg2 harg2 arg3 harg3 arg4 harg4 arg5 harg5 arg6 harg6 x0 x1 x2 x3 x4 y = outBlk x0 x1 x2 x3 x4 (y 0) (y 1) := by
  frame_open
  simp (disch := decide) only [↓ View.readCov_skip, ↓ View.readCov_cons_toLoadRect, ↓ readSub, View.read_writes_junk_eq_canon, View.ld_unit_lit', View.readAt_eq_ld, Memref.IsWhole.read_unread]
  refine group x0 x1 x2 x3 x4 128 248 _ _ (by decide) (by decide) _ rfl _ y fun h248 => ?_
  refine group x0 x1 x2 x3 x4 128 240 _ _ (by decide) (by decide) _ rfl _ y fun h240 => ?_
  refine group x0 x1 x2 x3 x4 128 232 _ _ (by decide) (by decide) _ rfl _ y fun h232 => ?_
  refine group x0 x1 x2 x3 x4 128 224 _ _ (by decide) (by decide) _ rfl _ y fun h224 => ?_
  refine group x0 x1 x2 x3 x4 128 216 _ _ (by decide) (by decide) _ rfl _ y fun h216 => ?_
  refine group x0 x1 x2 x3 x4 128 208 _ _ (by decide) (by decide) _ rfl _ y fun h208 => ?_
  refine group x0 x1 x2 x3 x4 128 200 _ _ (by decide) (by decide) _ rfl _ y fun h200 => ?_
  refine group x0 x1 x2 x3 x4 128 192 _ _ (by decide) (by decide) _ rfl _ y fun h192 => ?_
  refine group x0 x1 x2 x3 x4 128 184 _ _ (by decide) (by decide) _ rfl _ y fun h184 => ?_
  refine group x0 x1 x2 x3 x4 128 176 _ _ (by decide) (by decide) _ rfl _ y fun h176 => ?_
  refine group x0 x1 x2 x3 x4 128 168 _ _ (by decide) (by decide) _ rfl _ y fun h168 => ?_
  refine group x0 x1 x2 x3 x4 128 160 _ _ (by decide) (by decide) _ rfl _ y fun h160 => ?_
  refine group x0 x1 x2 x3 x4 128 152 _ _ (by decide) (by decide) _ rfl _ y fun h152 => ?_
  refine group x0 x1 x2 x3 x4 128 144 _ _ (by decide) (by decide) _ rfl _ y fun h144 => ?_
  refine group x0 x1 x2 x3 x4 128 136 _ _ (by decide) (by decide) _ rfl _ y fun h136 => ?_
  refine group x0 x1 x2 x3 x4 128 128 _ _ (by decide) (by decide) _ rfl _ y fun h128 => ?_
  refine half 128 _ _ _ y _ (by omega) ?_
  refine group x0 x1 x2 x3 x4 0 120 _ _ (by decide) (by decide) _ rfl _ y fun h120 => ?_
  refine group x0 x1 x2 x3 x4 0 112 _ _ (by decide) (by decide) _ rfl _ y fun h112 => ?_
  refine group x0 x1 x2 x3 x4 0 104 _ _ (by decide) (by decide) _ rfl _ y fun h104 => ?_
  refine group x0 x1 x2 x3 x4 0 96 _ _ (by decide) (by decide) _ rfl _ y fun h96 => ?_
  refine group x0 x1 x2 x3 x4 0 88 _ _ (by decide) (by decide) _ rfl _ y fun h88 => ?_
  refine group x0 x1 x2 x3 x4 0 80 _ _ (by decide) (by decide) _ rfl _ y fun h80 => ?_
  refine group x0 x1 x2 x3 x4 0 72 _ _ (by decide) (by decide) _ rfl _ y fun h72 => ?_
  refine group x0 x1 x2 x3 x4 0 64 _ _ (by decide) (by decide) _ rfl _ y fun h64 => ?_
  refine group x0 x1 x2 x3 x4 0 56 _ _ (by decide) (by decide) _ rfl _ y fun h56 => ?_
  refine group x0 x1 x2 x3 x4 0 48 _ _ (by decide) (by decide) _ rfl _ y fun h48 => ?_
  refine group x0 x1 x2 x3 x4 0 40 _ _ (by decide) (by decide) _ rfl _ y fun h40 => ?_
  refine group x0 x1 x2 x3 x4 0 32 _ _ (by decide) (by decide) _ rfl _ y fun h32 => ?_
  refine group x0 x1 x2 x3 x4 0 24 _ _ (by decide) (by decide) _ rfl _ y fun h24 => ?_
  refine group x0 x1 x2 x3 x4 0 16 _ _ (by decide) (by decide) _ rfl _ y fun h16 => ?_
  refine group x0 x1 x2 x3 x4 0 8 _ _ (by decide) (by decide) _ rfl _ y fun h8 => ?_
  refine group x0 x1 x2 x3 x4 0 0 _ _ (by decide) (by decide) _ rfl _ y fun h0 => ?_
  have hy : (y 0).val < 256 := (y 0).isLt
  omega

end Cert.Kernel4Ideal.Hand

end
-- ==== Proof.OutArr.lean ====
/-
   The output product's array after the run, and the kernel's result.
-/
module

public import proofs.«01_k».proof.Proof.OutBlk

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem

variable (m : (ℓ : Loc nD τ sig) → Buf (Elt Ideal) ℓ)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])

theorem V_arg0 (c : Dev nD) : (V m c main_arg0 : Vec Ideal S9216x4096 .bf16) = m (c, main_arg0) := V_main_arg0 m c
theorem V_arg1 (c : Dev nD) : (V m c main_arg1 : Vec Ideal S4096x4096 .bf16) = m (c, main_arg1) := V_main_arg1 m c

/-- The layer's input, its two sequences one below the other. -/
theorem V_v0 (c : Dev nD) (R : Fin 8192) (k : Fin 4096) : (V m c main_v0 : Vec Ideal S8192x4096 .f32) (ix2 R k)
    = (m (c, main_arg2) : Vec Ideal S2x4096x4096 .f32) (ix3 ⟨R.val / 4096, by omega⟩ ⟨R.val % 4096, by omega⟩ k) := by
  simp only [V, V0, hostOps0, List.flatten_cons, List.flatten_nil, List.append_nil]
  after_results_simp
  pointwise

theorem V_v2 (c : Dev nD) (k : Fin 4096) : (V m c main_v2 : Vec Ideal S1x4096 .f32) (ix2 0 k) = (m (c, main_arg3) : Vec Ideal S1x4096 .f32) (ix2 0 k) := by
  simp only [V, V0, hostOps0, List.flatten_cons, List.flatten_nil, List.append_nil]
  after_results_simp
  pointwise

theorem V_v4 (c : Dev nD) (k : Fin 4096) : (V m c main_v4 : Vec Ideal S1x4096 .f32) (ix2 0 k) = (m (c, main_arg4) : Vec Ideal S1x4096 .f32) (ix2 0 k) := by
  simp only [V, V0, hostOps0, List.flatten_cons, List.flatten_nil, List.append_nil]
  after_results_simp
  pointwise

/-! ## What a point reads -/

theorem h_at (c : Dev nD) (t : Fin cfg0.N) (r : Fin 256) (k : Fin 4096) (R : Fin 9216) (hR : R.val = t.val * 256 + r.val) :
    (iblk m c 0 t : Vec Ideal S256x4096 .bf16) (ix2 r k) = (m (c, main_arg0) : Vec Ideal S9216x4096 .bf16) (ix2 R k) := by
  blk_simp [iblk]
  refine Eq.trans (congrArg (V m c main_arg0 : Vec Ideal S9216x4096 .bf16) (funext fun a => Fin.ext ?_ : _ = ix2 R k)) (congrFun (V_arg0 m c) _)
  fin_cases a <;> simp [idx0 t, hR]

theorem w_at (c : Dev nD) (t : Fin cfg0.N) (l k : Fin 4096) :
    (iblk m c 1 t : Vec Ideal S4096x4096 .bf16) (ix2 l k) = (m (c, main_arg1) : Vec Ideal S4096x4096 .bf16) (ix2 l k) := by
  blk_simp [iblk]
  refine Eq.trans (congrArg (V m c main_arg1 : Vec Ideal S4096x4096 .bf16) (funext fun a => Fin.ext ?_ : _ = ix2 l k)) (congrFun (V_arg1 m c) _)
  fin_cases a <;> simp [idx1 t]

theorem x_at (c : Dev nD) (t : Fin cfg0.N) (r : Fin 256) (k : Fin 4096) (R : Fin 8192) (hR : R.val = t.val * 256 + r.val) :
    (iblk m c 2 t : Vec Ideal S256x4096 .f32) (ix2 r k)
      = (m (c, main_arg2) : Vec Ideal S2x4096x4096 .f32) (ix3 ⟨R.val / 4096, by omega⟩ ⟨R.val % 4096, by omega⟩ k) := by
  blk_simp [iblk]
  refine Eq.trans (congrArg (V m c main_v0 : Vec Ideal S8192x4096 .f32) (funext fun a => Fin.ext ?_ : _ = ix2 R k)) (V_v0 m c R k)
  fin_cases a <;> simp [idx2 t, hR]

theorem gain_at (c : Dev nD) (t : Fin cfg0.N) (k : Fin 4096) :
    (iblk m c 3 t : Vec Ideal S1x4096 .f32) (ix2 0 k) = (m (c, main_arg3) : Vec Ideal S1x4096 .f32) (ix2 0 k) := by
  blk_simp [iblk]
  refine Eq.trans (congrArg (V m c main_v2 : Vec Ideal S1x4096 .f32) (funext fun a => Fin.ext ?_ : _ = ix2 0 k)) (V_v2 m c k)
  fin_cases a <;> simp [idx3 t]

theorem bias_at (c : Dev nD) (t : Fin cfg0.N) (k : Fin 4096) :
    (iblk m c 4 t : Vec Ideal S1x4096 .f32) (ix2 0 k) = (m (c, main_arg4) : Vec Ideal S1x4096 .f32) (ix2 0 k) := by
  blk_simp [iblk]
  refine Eq.trans (congrArg (V m c main_v4 : Vec Ideal S1x4096 .f32) (funext fun a => Fin.ext ?_ : _ = ix2 0 k)) (V_v4 m c k)
  fin_cases a <;> simp [idx4 t]

/-! ## The result -/

/-- An entry of the layer's output: sequence `b`, position `s`, column `j`; from the merged rows `h`, the output weights `w`, the
    layer's input `x` and the norm's gain and bias. -/
def outEnt (h : Vec Ideal S9216x4096 .bf16) (w : Vec Ideal S4096x4096 .bf16) (x : Vec Ideal S2x4096x4096 .f32) (g bi : Vec Ideal S1x4096 .f32)
    (b : Fin 2) (s j : Fin 4096) : EReal :=
  layerNorm (fun k => pre (x (ix3 b s k)) (fun l => h (ix2 ⟨b.val * 4096 + s.val, by omega⟩ l)) (fun l => w (ix2 l k))) j (g (ix2 0 j)) (bi (ix2 0 j))

/-- The same by its row among the 8192. -/
def outRow (h : Vec Ideal S9216x4096 .bf16) (w : Vec Ideal S4096x4096 .bf16) (x : Vec Ideal S2x4096x4096 .f32) (g bi : Vec Ideal S1x4096 .f32)
    (R : Fin 8192) (J : Fin 4096) : EReal :=
  outEnt h w x g bi ⟨R.val / 4096, by omega⟩ ⟨R.val % 4096, by omega⟩ J

/-- What a point leaves, entry by entry. -/
theorem outsAt_at (c : Dev nD) (t : Fin cfg0.N) (y : S256x4096.Idx) (R : Fin 8192) (J : Fin 4096) (hR : R.val = t.val * 256 + (y 0 : ℕ)) (hJ : J.val = (y 1 : ℕ)) :
    outsAt0 m c t y = outRow (m (c, main_arg0)) (m (c, main_arg1)) (m (c, main_arg2)) (m (c, main_arg3)) (m (c, main_arg4)) R J := by
  unfold outsAt0
  rw [out_at]
  unfold outBlk outRow outEnt
  have e : (y 1 : Fin 4096) = J := Fin.ext hJ.symm
  rw [e]
  refine (congrArg₂ (layerNorm _ J) (gain_at m c t J) (bias_at m c t J)).trans ?_
  refine congrArg (fun Y => layerNorm Y J _ _) (funext fun k => ?_)
  unfold pre
  refine congrArg₂ (· + ·) (congrArg (_ * ·) (x_at m c t (y 0) k R hR)) (Finset.sum_congr rfl fun l _ => congrArg₂ (· * ·) ?_ (w_at m c t l k))
  exact h_at m c t (y 0) l _ (by show R.val / 4096 * 4096 + R.val % 4096 = _; omega)

/-- The array after the run. -/
theorem arr_out (c : Dev nD) : ((dats m 0 c).arrAt 5 (cfgs 0).N : Vec Ideal S8192x4096 .f32)
    = fun i => outRow (m (c, main_arg0)) (m (c, main_arg1)) (m (c, main_arg2)) (m (c, main_arg3)) (m (c, main_arg4)) (i 0) (i 1) := by
  refine (dats m 0 c).arrAt_eq_of_covers 5
    (fun i : S8192x4096.Idx => (outRow (m (c, main_arg0)) (m (c, main_arg1)) (m (c, main_arg2)) (m (c, main_arg3)) (m (c, main_arg4)) (i 0) (i 1) : EReal))
    (by decide +kernel) (fun t hf y => ?_)
  blk_simp
  rw [after0_5]
  refine outsAt_at m c t _ _ _ ?_ ?_
  · change win0_5.index t 0 * 256 + 1 * (y 0 : ℕ) = _
    rw [idx5 t]
    exact congrArg _ (Nat.one_mul _)
  · change win0_5.index t 1 * 4096 + 1 * (y 1 : ℕ) = _
    rw [idx5 t]
    exact (congrArg₂ (· + ·) (Nat.zero_mul _) (Nat.one_mul _)).trans (Nat.zero_add _)

/-- An entry of the rows put back into their two sequences. -/
theorem cast_at (f : Vec Ideal S8192x4096 .f32) (b : Fin 2) (s j : Fin 4096) :
    (shapeCast S2x4096x4096 f shapeCasts_S8192x4096_S2x4096x4096) (ix3 b s j) = f (ix2 ⟨b.val * 4096 + s.val, by omega⟩ j) := by
  pointwise

/-- The kernel's result. -/
theorem tail_out (c : Dev nD) : (Pipeline.afterTail₀ cfgs (dats m) 0 (V0 m) [hostOps1] c main_v6 : Vec Ideal S2x4096x4096 .f32)
    = fun i => outEnt (m (c, main_arg0)) (m (c, main_arg1)) (m (c, main_arg2)) (m (c, main_arg3)) (m (c, main_arg4)) (i 0) (i 1) (i 2) := by
  unfold Pipeline.afterTail₀
  simp only [hostOps1, List.flatten_cons, List.flatten_nil, List.append_nil]
  after_results_simp
  have h := (Pipeline.withArrays_arr spec0 launch0.win.arr_inj c (V0 m c) (fun w => (dats m 0 c).arrAt w (cfgs 0).N) 5).trans (arr_out m c)
  funext i
  have hi : i = ix3 (i 0 : Fin 2) (i 1 : Fin 4096) (i 2 : Fin 4096) := by
    funext a
    match a with
    | ⟨0, _⟩ => rfl
    | ⟨1, _⟩ => rfl
    | ⟨2, _⟩ => rfl
  have h0 : (i 0 : Fin 2).val < 2 := (i 0 : Fin 2).isLt
  have h1 : (i 1 : Fin 4096).val < 4096 := (i 1 : Fin 4096).isLt
  refine (congrArg _ hi).trans ((cast_at _ _ _ _).trans ((congrFun h _).trans ?_))
  refine congrArg₂ (fun b s => outEnt _ _ _ _ _ b s (i 2)) (Fin.ext ?_) (Fin.ext ?_)
  · show ((i 0 : Fin 2).val * 4096 + (i 1 : Fin 4096).val) / 4096 = (i 0 : Fin 2).val
    omega
  · show ((i 0 : Fin 2).val * 4096 + (i 1 : Fin 4096).val) % 4096 = (i 1 : Fin 4096).val
    omega

/-- The run of the kernel: its result, and its arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v6) = (fun i => outEnt (m (c, main_arg0)) (m (c, main_arg1)) (m (c, main_arg2)) (m (c, main_arg3)) (m (c, main_arg4)) (i 0) (i 1) (i 2) : Vec Ideal S2x4096x4096 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v6 (Pipeline.mem_restRefs_of main_v6 (by decide) (by decide))).trans (tail_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.Kernel4Ideal.Hand

end
-- ==== Proof.OutRef.lean ====
/-
   The plain output product and layer norm, read at an entry.
-/
module

public import proofs.«01_k».proof.Proof.OutArr
public import proofs.«01_k».proof.Proof.Gen.Reference4Ideal.Run

@[expose] public section

set_option maxRecDepth 16384

noncomputable section

namespace Cert.Reference4Ideal.Hand

open Cert.Reference4Ideal Cert.Reference4Ideal.Gen Cert.Reference4Ideal.Value
open Idealize.ShloMosaic Idealize.ShloMosaic.TcCoe Idealize.SL.Sem
open Cert.Kernel4Ideal.Hand (mean layerNorm pre outEnt)

/-- The rows before the norm. -/
def rows (h : FVec Ideal S9216x4096 .bf16) (w : FVec Ideal S4096x4096 .bf16) (x : FVec Ideal S2x4096x4096 .f32) : FVec Ideal S2x4096x4096 .f32 :=
  addf (mulf (broadcastInDim S2x4096x4096 ![] bcast_S_S2x4096x4096 (constant S_ .f32 0x3F9837F0#32)) x)
    (Host.dotGeneral (φ₁ := .f32) (φ₂ := .f32) dot_S2x4096x4096_S4096x4096_S2x4096x4096_2_0_01_1_n_n none
      (shapeCast _ (extf .f32 (extractStridedSlice S8192x4096 ![0, 0] h slices_S9216x4096_S8192x4096_0_0) bitsLt_bf16_f32) shapeCasts_S8192x4096_S2x4096x4096)
      (extf .f32 w bitsLt_bf16_f32))

theorem rows_at (h : FVec Ideal S9216x4096 .bf16) (w : FVec Ideal S4096x4096 .bf16) (x : FVec Ideal S2x4096x4096 .f32) (b : Fin 2) (s k : Fin 4096) :
    rows h w x (ix3 b s k) = pre (x (ix3 b s k)) (fun l => h (ix2 ⟨b.val * 4096 + s.val, by omega⟩ l)) (fun l => w (ix2 l k)) := by
  unfold pre
  pointwise [rows]

/-- The mean over a row, kept as a column. -/
def means (Y : FVec Ideal S2x4096x4096 .f32) : FVec Ideal S2x4096x1 .f32 :=
  Host.divf (broadcastInDim S2x4096x1 ![0, 1] bcast_S2x4096_S2x4096x1_0_1 (Host.reduceAdd Y (constant S_ .f32 0x00000000#32) reducesTo_S2x4096x4096_S2x4096_d2 h_S_))
    (broadcastInDim S2x4096x1 ![] bcast_S_S2x4096x1 (constant S_ .f32 0x45800000#32))

theorem means_at (Y : FVec Ideal S2x4096x4096 .f32) (b : Fin 2) (s : Fin 4096) : means Y (ix3 b s 0) = mean (fun k => Y (ix3 b s k)) := by
  unfold mean
  pointwise [means]

/-- A row less its mean. -/
def devs (Y : FVec Ideal S2x4096x4096 .f32) : FVec Ideal S2x4096x4096 .f32 :=
  subf Y (broadcastInDim S2x4096x4096 ![0, 1, 2] bcast_S2x4096x1_S2x4096x4096_0_1_2 (means Y))

theorem devs_at (Y : FVec Ideal S2x4096x4096 .f32) (b : Fin 2) (s k : Fin 4096) : devs Y (ix3 b s k) = Y (ix3 b s k) - mean (fun l => Y (ix3 b s l)) := by
  rw [← means_at]
  pointwise [devs]

/-- The plain layer norm. -/
def normed (Y : FVec Ideal S2x4096x4096 .f32) (g bi : FVec Ideal S1x4096 .f32) : FVec Ideal S2x4096x4096 .f32 :=
  addf (mulf (mulf (devs Y) (broadcastInDim S2x4096x4096 ![0, 1, 2] bcast_S2x4096x1_S2x4096x4096_0_1_2
      (Host.rsqrt (addf (means (mulf (devs Y) (devs Y))) (broadcastInDim S2x4096x1 ![] bcast_S_S2x4096x1 (constant S_ .f32 0x3727C5AC#32))))))
      (broadcastInDim S2x4096x4096 ![0, 1, 2] bcast_S1x1x4096_S2x4096x4096_0_1_2 (broadcastInDim S1x1x4096 ![2] bcast_S4096_S1x1x4096_2 (shapeCast _ g shapeCasts_S1x4096_S4096))))
    (broadcastInDim S2x4096x4096 ![0, 1, 2] bcast_S1x1x4096_S2x4096x4096_0_1_2 (broadcastInDim S1x1x4096 ![2] bcast_S4096_S1x1x4096_2 (shapeCast _ bi shapeCasts_S1x4096_S4096)))

theorem normed_at (Y : FVec Ideal S2x4096x4096 .f32) (g bi : FVec Ideal S1x4096 .f32) (b : Fin 2) (s j : Fin 4096) :
    normed Y g bi (ix3 b s j) = layerNorm (fun k => Y (ix3 b s k)) j (g (ix2 0 j)) (bi (ix2 0 j)) := by
  unfold layerNorm
  have e : mean (fun k => (Y (ix3 b s k) - mean (fun l => Y (ix3 b s l))) * (Y (ix3 b s k) - mean (fun l => Y (ix3 b s l)))) = means (mulf (devs Y) (devs Y)) (ix3 b s 0) := by
    rw [means_at]
    refine congrArg mean (funext fun k => ?_)
    rw [← devs_at]
    rfl
  rw [e, ← devs_at]
  pointwise [normed]

/-- The run of the plain program, its result named as the kernel's. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = (fun i => outEnt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) (i 2) : Vec Ideal S2x4096x4096 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.Reference4Ideal.Value.run (F := Ideal) m ρ)
  obtain ⟨h1, h2⟩ := h c
  refine ⟨h1.trans (funext fun i => ?_), h2⟩
  have hi : i = ix3 (i 0 : Fin 2) (i 1 : Fin 4096) (i 2 : Fin 4096) := by
    funext a
    match a with
    | ⟨0, _⟩ => rfl
    | ⟨1, _⟩ => rfl
    | ⟨2, _⟩ => rfl
  have e : res_main_v33 m c = normed (rows (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := rfl
  rw [e]
  refine (congrArg _ hi).trans ((normed_at _ _ _ _ _ _).trans ?_)
  unfold outEnt
  exact congrArg (fun Y => layerNorm Y (i 2) _ _) (funext fun k => rows_at _ _ _ _ _ k)

end Cert.Reference4Ideal.Hand

end
-- ==== Proof.DecBlk.lean ====
/-
   The sample group's output product and its layer norm: a point's block, row by row.
   The body stores the product of half a block, then reads it back eight rows at a time, adds the scaled layer input and stores
   the rows normalised.
-/
module

public import proofs.«01_k».proof.Proof.Gen.Kernel5Ideal.Frame
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem

/-- The mean of a row. -/
def mean (Y : Fin 4096 → EReal) : EReal := Ideal.div (∑ j : Fin 4096, Y j) (Ideal.ofBits .f32 0x45800000#32)

/-- An entry of the layer norm of a row `Y`, with that column's gain and bias. -/
def layerNorm (Y : Fin 4096 → EReal) (j : Fin 4096) (g b : EReal) : EReal :=
  (Y j - mean Y) * Ideal.rsqrt (mean (fun k => (Y k - mean Y) * (Y k - mean Y)) + Ideal.ofBits .f32 0x3727C5AC#32) * g + b

/-- An entry before the norm: the layer's input times the residual scale, and the output product's entry. -/
def pre (x : EReal) (h w : Fin 4096 → EReal) : EReal := Ideal.ofBits .f32 0x3F9837F0#32 * x + ∑ k : Fin 4096, h k * w k

/-- Half a block's product, entry by entry. -/
theorem pay4_at (h : Vec Ideal S128x4096 .bf16) (w : Vec Ideal S4096x4096 .bf16) (r : Fin 128) (j : Fin 4096) :
    k0_pay4 h w (ix2 r j) = ∑ k : Fin 4096, h (ix2 r k) * w (ix2 k j) := by
  pointwise [k0_pay4]

/-- Eight rows, entry by entry. -/
theorem pay6_at (g b : Vec Ideal S1x4096 .f32) (x y : Vec Ideal S8x4096 .f32) (r : Fin 8) (j : Fin 4096) :
    k0_pay6 (k0_pay2 g) (k0_pay3 b) x y (ix2 r j)
      = layerNorm (fun k => Ideal.ofBits .f32 0x3F9837F0#32 * x (ix2 r k) + y (ix2 r k)) j (g (ix2 0 j)) (b (ix2 0 j)) := by
  unfold layerNorm mean
  pointwise [k0_pay6, k0_pay2, k0_pay3]

/-- Eight rows of half a block, from row `d`. -/
def rows8 (w : Vec Ideal S128x4096 .f32) (d : ℕ) : Vec Ideal S8x4096 .f32 :=
  fun i => w (ix2 ⟨(d + (i 0).val) % 128, Nat.mod_lt _ (by norm_num)⟩ (i 1))

/-- Eight rows read back from the half block last stored. -/
theorem readSub {sp : Space} (v : View sig .tc sp S256x4096 .f32) (o q : ℕ)
    (inb : ∀ a : Fin 2, (![o, 0] : Fin 2 → ℕ) a + (![128, 4096] : Fin 2 → ℕ) a ≤ S256x4096.size a)
    (inb' : ∀ a : Fin 2, (![q, 0] : Fin 2 → ℕ) a + (![8, 4096] : Fin 2 → ℕ) a ≤ S256x4096.size a)
    (w : Vec Ideal S128x4096 .f32) (L : List (View.Piece (Elt Ideal) S256x4096 .f32)) (h : o ≤ q) (h' : q + 8 ≤ o + 128) :
    v.readCov ((⟨Rect.unit (s := S256x4096) ![o, 0] ![128, 4096] inb, w⟩ : View.Piece (Elt Ideal) S256x4096 .f32) :: L)
      (Rect.unit (s := S256x4096) ![q, 0] ![8, 4096] inb').toLoadRect = rows8 w (q - o) := by
  rw [View.readCov_eq_canon']
  funext j
  have hj : (j 0).val < 8 := (j 0).isLt
  have hm : (q - o + (j 0).val) % 128 = q - o + (j 0).val := Nat.mod_eq_of_lt (by omega)
  refine Eq.trans (congrArg _ ?_) (View.canon_cons_emb (Rect.unit (s := S256x4096) ![o, 0] ![128, 4096] inb) w L
    (ix2 ⟨(q - o + (j 0).val) % 128, Nat.mod_lt _ (by norm_num)⟩ (j 1)))
  funext a
  refine Fin.ext ?_
  fin_cases a
  · show q + 1 * (j 0).val = o + 1 * ((q - o + (j 0).val) % 128)
    omega
  · rfl

/-- A point's block, entry by entry. -/
def outBlk (x0 : Vec Ideal S256x4096 .bf16) (x1 : Vec Ideal S4096x4096 .bf16) (x2 : Vec Ideal S256x4096 .f32) (x3 x4 : Vec Ideal S1x4096 .f32) (r : Fin 256) (j : Fin 4096) : EReal :=
  layerNorm (fun k => pre (x2 (ix2 r k)) (fun l => x0 (ix2 r l)) (fun l => x1 (ix2 l k))) j (x3 (ix2 0 j)) (x4 (ix2 0 j))

/-- The rows a group stores are the block's. -/
theorem group_at (x0 : Vec Ideal S256x4096 .bf16) (x1 : Vec Ideal S4096x4096 .bf16) (x2 : Vec Ideal S256x4096 .f32) (x3 x4 : Vec Ideal S1x4096 .f32)
    (o q : ℕ) (inb : ∀ a : Fin 2, (![o, 0] : Fin 2 → ℕ) a + (![128, 4096] : Fin 2 → ℕ) a ≤ S256x4096.size a)
    (inb' : ∀ a : Fin 2, (![q, 0] : Fin 2 → ℕ) a + (![8, 4096] : Fin 2 → ℕ) a ≤ S256x4096.size a) (h : o ≤ q) (h' : q + 8 ≤ o + 128)
    (r : Fin 8) (j : Fin 4096) (R : Fin 256) (hR : R.val = q + r.val) :
    k0_pay6 (k0_pay2 x3) (k0_pay3 x4) (View.ld x2 (Rect.unit (s := S256x4096) ![q, 0] ![8, 4096] inb'))
      (rows8 (k0_pay4 (View.ld x0 (Rect.unit (s := S256x4096) ![o, 0] ![128, 4096] inb)) x1) (q - o)) (ix2 r j) = outBlk x0 x1 x2 x3 x4 R j := by
  have hm : (q - o + r.val) % 128 = q - o + r.val := Nat.mod_eq_of_lt (by omega)
  refine (pay6_at _ _ _ _ _ _).trans ?_
  unfold outBlk
  refine congrArg (fun Y => layerNorm Y j (x3 (ix2 0 j)) (x4 (ix2 0 j))) (funext fun k => ?_)
  unfold pre
  refine congrArg₂ (· + ·) (congrArg (_ * ·) (congrArg x2 (funext fun a => Fin.ext ?_))) ((pay4_at _ _ _ _).trans (Finset.sum_congr rfl fun l _ => congrArg (· * _) (congrArg x0 (funext fun a => Fin.ext ?_))))
  · fin_cases a
    · show q + 1 * r.val = R.val; omega
    · show 0 + 1 * k.val = k.val; omega
  · fin_cases a
    · show o + 1 * ((q - o + r.val) % 128) = R.val; omega
    · show 0 + 1 * l.val = l.val; omega

/-- The last stored group: its rows are the block's, and the other rows are what was stored before. -/
theorem group (x0 : Vec Ideal S256x4096 .bf16) (x1 : Vec Ideal S4096x4096 .bf16) (x2 : Vec Ideal S256x4096 .f32) (x3 x4 : Vec Ideal S1x4096 .f32)
    (o q : ℕ) (inb : ∀ a : Fin 2, (![o, 0] : Fin 2 → ℕ) a + (![128, 4096] : Fin 2 → ℕ) a ≤ S256x4096.size a)
    (inb' : ∀ a : Fin 2, (![q, 0] : Fin 2 → ℕ) a + (![8, 4096] : Fin 2 → ℕ) a ≤ S256x4096.size a) (h : o ≤ q) (h' : q + 8 ≤ o + 128)
    (P : Vec Ideal S8x4096 .f32)
    (hP : P = k0_pay6 (k0_pay2 x3) (k0_pay3 x4) (View.ld x2 (Rect.unit (s := S256x4096) ![q, 0] ![8, 4096] inb'))
      (rows8 (k0_pay4 (View.ld x0 (Rect.unit (s := S256x4096) ![o, 0] ![128, 4096] inb)) x1) (q - o)))
    (L : List (View.Piece (Elt Ideal) S256x4096 .f32)) (y : S256x4096.Idx)
    (hL : ¬(q ≤ (y 0).val ∧ (y 0).val < q + 8) → View.canon L y = outBlk x0 x1 x2 x3 x4 (y 0) (y 1)) :
    View.canon ((⟨Rect.unit (s := S256x4096) ![q, 0] ![8, 4096] inb', P⟩ : View.Piece (Elt Ideal) S256x4096 .f32) :: L) y = outBlk x0 x1 x2 x3 x4 (y 0) (y 1) := by
  subst hP
  by_cases hy : q ≤ (y 0).val ∧ (y 0).val < q + 8
  · have e : y = (Rect.unit (s := S256x4096) ![q, 0] ![8, 4096] inb').emb (ix2 ⟨(y 0).val - q, by omega⟩ (y 1) : S8x4096.Idx) := by
      funext a
      refine Fin.ext ?_
      fin_cases a
      · show (y 0).val = q + 1 * ((y 0).val - q); omega
      · show (y 1).val = 0 + 1 * (y 1).val; omega
    refine (congrArg _ e).trans ((View.canon_cons_emb _ _ _ _).trans ?_)
    exact group_at x0 x1 x2 x3 x4 o q inb inb' h h' _ _ _ (by show (y 0).val = q + ((y 0).val - q); omega)
  · rw [View.canon_cons_of_not_mem]
    · exact hL hy
    · rw [Rect.mem_set_unit]
      exact fun hm => hy (hm 0)

/-- A stored half block, read at a row outside it. -/
theorem half (o : ℕ) (inb : ∀ a : Fin 2, (![o, 0] : Fin 2 → ℕ) a + (![128, 4096] : Fin 2 → ℕ) a ≤ S256x4096.size a)
    (P : Vec Ideal S128x4096 .f32) (L : List (View.Piece (Elt Ideal) S256x4096 .f32)) (y : S256x4096.Idx) (v : EReal)
    (hy : ¬(o ≤ (y 0).val ∧ (y 0).val < o + 128)) (hL : View.canon L y = v) :
    View.canon ((⟨Rect.unit (s := S256x4096) ![o, 0] ![128, 4096] inb, P⟩ : View.Piece (Elt Ideal) S256x4096 .f32) :: L) y = v := by
  rw [View.canon_cons_of_not_mem]
  · exact hL
  · rw [Rect.mem_set_unit]
    exact fun hm => hy (hm 0)

set_option maxHeartbeats 4000000 in
/-- What the body leaves in the output's buffer is the block. -/
theorem out_at (c : Dev nD) (i : grid0.Coords) (arg1 : Memref sig .tc .vmem S256x4096 .bf16) (harg1 : arg1.IsWhole) (arg2 : Memref sig .tc .vmem S4096x4096 .bf16) (harg2 : arg2.IsWhole) (arg3 : Memref sig .tc .vmem S256x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S256x4096 .f32) (harg6 : arg6.IsWhole)
    (x0 : Vec Ideal S256x4096 .bf16) (x1 : Vec Ideal S4096x4096 .bf16) (x2 : Vec Ideal S256x4096 .f32) (x3 : Vec Ideal S1x4096 .f32) (x4 : Vec Ideal S1x4096 .f32) (y : S256x4096.Idx) :
    out0_A_5 c i arg1 harg1 arg2 harg2 arg3 harg3 arg4 harg4 arg5 harg5 arg6 harg6 x0 x1 x2 x3 x4 y = outBlk x0 x1 x2 x3 x4 (y 0) (y 1) := by
  frame_open
  simp (disch := decide) only [↓ View.readCov_skip, ↓ View.readCov_cons_toLoadRect, ↓ readSub, View.read_writes_junk_eq_canon, View.ld_unit_lit', View.readAt_eq_ld, Memref.IsWhole.read_unread]
  refine group x0 x1 x2 x3 x4 128 248 _ _ (by decide) (by decide) _ rfl _ y fun h248 => ?_
  refine group x0 x1 x2 x3 x4 128 240 _ _ (by decide) (by decide) _ rfl _ y fun h240 => ?_
  refine group x0 x1 x2 x3 x4 128 232 _ _ (by decide) (by decide) _ rfl _ y fun h232 => ?_
  refine group x0 x1 x2 x3 x4 128 224 _ _ (by decide) (by decide) _ rfl _ y fun h224 => ?_
  refine group x0 x1 x2 x3 x4 128 216 _ _ (by decide) (by decide) _ rfl _ y fun h216 => ?_
  refine group x0 x1 x2 x3 x4 128 208 _ _ (by decide) (by decide) _ rfl _ y fun h208 => ?_
  refine group x0 x1 x2 x3 x4 128 200 _ _ (by decide) (by decide) _ rfl _ y fun h200 => ?_
  refine group x0 x1 x2 x3 x4 128 192 _ _ (by decide) (by decide) _ rfl _ y fun h192 => ?_
  refine group x0 x1 x2 x3 x4 128 184 _ _ (by decide) (by decide) _ rfl _ y fun h184 => ?_
  refine group x0 x1 x2 x3 x4 128 176 _ _ (by decide) (by decide) _ rfl _ y fun h176 => ?_
  refine group x0 x1 x2 x3 x4 128 168 _ _ (by decide) (by decide) _ rfl _ y fun h168 => ?_
  refine group x0 x1 x2 x3 x4 128 160 _ _ (by decide) (by decide) _ rfl _ y fun h160 => ?_
  refine group x0 x1 x2 x3 x4 128 152 _ _ (by decide) (by decide) _ rfl _ y fun h152 => ?_
  refine group x0 x1 x2 x3 x4 128 144 _ _ (by decide) (by decide) _ rfl _ y fun h144 => ?_
  refine group x0 x1 x2 x3 x4 128 136 _ _ (by decide) (by decide) _ rfl _ y fun h136 => ?_
  refine group x0 x1 x2 x3 x4 128 128 _ _ (by decide) (by decide) _ rfl _ y fun h128 => ?_
  refine half 128 _ _ _ y _ (by omega) ?_
  refine group x0 x1 x2 x3 x4 0 120 _ _ (by decide) (by decide) _ rfl _ y fun h120 => ?_
  refine group x0 x1 x2 x3 x4 0 112 _ _ (by decide) (by decide) _ rfl _ y fun h112 => ?_
  refine group x0 x1 x2 x3 x4 0 104 _ _ (by decide) (by decide) _ rfl _ y fun h104 => ?_
  refine group x0 x1 x2 x3 x4 0 96 _ _ (by decide) (by decide) _ rfl _ y fun h96 => ?_
  refine group x0 x1 x2 x3 x4 0 88 _ _ (by decide) (by decide) _ rfl _ y fun h88 => ?_
  refine group x0 x1 x2 x3 x4 0 80 _ _ (by decide) (by decide) _ rfl _ y fun h80 => ?_
  refine group x0 x1 x2 x3 x4 0 72 _ _ (by decide) (by decide) _ rfl _ y fun h72 => ?_
  refine group x0 x1 x2 x3 x4 0 64 _ _ (by decide) (by decide) _ rfl _ y fun h64 => ?_
  refine group x0 x1 x2 x3 x4 0 56 _ _ (by decide) (by decide) _ rfl _ y fun h56 => ?_
  refine group x0 x1 x2 x3 x4 0 48 _ _ (by decide) (by decide) _ rfl _ y fun h48 => ?_
  refine group x0 x1 x2 x3 x4 0 40 _ _ (by decide) (by decide) _ rfl _ y fun h40 => ?_
  refine group x0 x1 x2 x3 x4 0 32 _ _ (by decide) (by decide) _ rfl _ y fun h32 => ?_
  refine group x0 x1 x2 x3 x4 0 24 _ _ (by decide) (by decide) _ rfl _ y fun h24 => ?_
  refine group x0 x1 x2 x3 x4 0 16 _ _ (by decide) (by decide) _ rfl _ y fun h16 => ?_
  refine group x0 x1 x2 x3 x4 0 8 _ _ (by decide) (by decide) _ rfl _ y fun h8 => ?_
  refine group x0 x1 x2 x3 x4 0 0 _ _ (by decide) (by decide) _ rfl _ y fun h0 => ?_
  have hy : (y 0).val < 256 := (y 0).isLt
  omega

end Cert.Kernel5Ideal.Hand

end
-- ==== Proof.DecArr.lean ====
/-
   The sample group's output product: its array after the run, and the kernel's result.
-/
module

public import proofs.«01_k».proof.Proof.DecBlk

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem

variable (m : (ℓ : Loc nD τ sig) → Buf (Elt Ideal) ℓ)

theorem idx0 : ∀ t : Fin cfg0.N, win0_0.index t = ![32 + t.val, 0] := (by decide +kernel : ∀ t : Fin grid0.N, win0_0.index t = ![32 + t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])

theorem V_arg0 (c : Dev nD) : (V m c main_arg0 : Vec Ideal S9216x4096 .bf16) = m (c, main_arg0) := V_main_arg0 m c
theorem V_arg1 (c : Dev nD) : (V m c main_arg1 : Vec Ideal S4096x4096 .bf16) = m (c, main_arg1) := V_main_arg1 m c

/-- The layer's input, its 128 sequences one below the other. -/
theorem V_v0 (c : Dev nD) (R : Fin 1024) (k : Fin 4096) : (V m c main_v0 : Vec Ideal S1024x4096 .f32) (ix2 R k)
    = (m (c, main_arg2) : Vec Ideal S128x8x4096 .f32) (ix3 ⟨R.val / 8, by omega⟩ ⟨R.val % 8, by omega⟩ k) := by
  simp only [V, V0, hostOps0, List.flatten_cons, List.flatten_nil, List.append_nil]
  after_results_simp
  pointwise

theorem V_v2 (c : Dev nD) (k : Fin 4096) : (V m c main_v2 : Vec Ideal S1x4096 .f32) (ix2 0 k) = (m (c, main_arg3) : Vec Ideal S1x4096 .f32) (ix2 0 k) := by
  simp only [V, V0, hostOps0, List.flatten_cons, List.flatten_nil, List.append_nil]
  after_results_simp
  pointwise

theorem V_v4 (c : Dev nD) (k : Fin 4096) : (V m c main_v4 : Vec Ideal S1x4096 .f32) (ix2 0 k) = (m (c, main_arg4) : Vec Ideal S1x4096 .f32) (ix2 0 k) := by
  simp only [V, V0, hostOps0, List.flatten_cons, List.flatten_nil, List.append_nil]
  after_results_simp
  pointwise

/-! ## What a point reads -/

theorem h_at (c : Dev nD) (t : Fin cfg0.N) (r : Fin 256) (k : Fin 4096) (R : Fin 9216) (hR : R.val = (32 + t.val) * 256 + r.val) :
    (iblk m c 0 t : Vec Ideal S256x4096 .bf16) (ix2 r k) = (m (c, main_arg0) : Vec Ideal S9216x4096 .bf16) (ix2 R k) := by
  blk_simp [iblk]
  refine Eq.trans (congrArg (V m c main_arg0 : Vec Ideal S9216x4096 .bf16) (funext fun a => Fin.ext ?_ : _ = ix2 R k)) (congrFun (V_arg0 m c) _)
  fin_cases a <;> simp [idx0 t, hR]

theorem w_at (c : Dev nD) (t : Fin cfg0.N) (l k : Fin 4096) :
    (iblk m c 1 t : Vec Ideal S4096x4096 .bf16) (ix2 l k) = (m (c, main_arg1) : Vec Ideal S4096x4096 .bf16) (ix2 l k) := by
  blk_simp [iblk]
  refine Eq.trans (congrArg (V m c main_arg1 : Vec Ideal S4096x4096 .bf16) (funext fun a => Fin.ext ?_ : _ = ix2 l k)) (congrFun (V_arg1 m c) _)
  fin_cases a <;> simp [idx1 t]

theorem x_at (c : Dev nD) (t : Fin cfg0.N) (r : Fin 256) (k : Fin 4096) (R : Fin 1024) (hR : R.val = t.val * 256 + r.val) :
    (iblk m c 2 t : Vec Ideal S256x4096 .f32) (ix2 r k)
      = (m (c, main_arg2) : Vec Ideal S128x8x4096 .f32) (ix3 ⟨R.val / 8, by omega⟩ ⟨R.val % 8, by omega⟩ k) := by
  blk_simp [iblk]
  refine Eq.trans (congrArg (V m c main_v0 : Vec Ideal S1024x4096 .f32) (funext fun a => Fin.ext ?_ : _ = ix2 R k)) (V_v0 m c R k)
  fin_cases a <;> simp [idx2 t, hR]

theorem gain_at (c : Dev nD) (t : Fin cfg0.N) (k : Fin 4096) :
    (iblk m c 3 t : Vec Ideal S1x4096 .f32) (ix2 0 k) = (m (c, main_arg3) : Vec Ideal S1x4096 .f32) (ix2 0 k) := by
  blk_simp [iblk]
  refine Eq.trans (congrArg (V m c main_v2 : Vec Ideal S1x4096 .f32) (funext fun a => Fin.ext ?_ : _ = ix2 0 k)) (V_v2 m c k)
  fin_cases a <;> simp [idx3 t]

theorem bias_at (c : Dev nD) (t : Fin cfg0.N) (k : Fin 4096) :
    (iblk m c 4 t : Vec Ideal S1x4096 .f32) (ix2 0 k) = (m (c, main_arg4) : Vec Ideal S1x4096 .f32) (ix2 0 k) := by
  blk_simp [iblk]
  refine Eq.trans (congrArg (V m c main_v4 : Vec Ideal S1x4096 .f32) (funext fun a => Fin.ext ?_ : _ = ix2 0 k)) (V_v4 m c k)
  fin_cases a <;> simp [idx4 t]

/-! ## The result -/

/-- An entry of the layer's output: sequence `b`, position `s`, column `j`; from the merged rows `h`, the output weights `w`, the
    layer's input `x` and the norm's gain and bias. -/
def outEnt (h : Vec Ideal S9216x4096 .bf16) (w : Vec Ideal S4096x4096 .bf16) (x : Vec Ideal S128x8x4096 .f32) (g bi : Vec Ideal S1x4096 .f32)
    (b : Fin 128) (s : Fin 8) (j : Fin 4096) : EReal :=
  layerNorm (fun k => pre (x (ix3 b s k)) (fun l => h (ix2 ⟨8192 + (b.val * 8 + s.val), by omega⟩ l)) (fun l => w (ix2 l k))) j (g (ix2 0 j)) (bi (ix2 0 j))

/-- The same by its row among the 1024. -/
def outRow (h : Vec Ideal S9216x4096 .bf16) (w : Vec Ideal S4096x4096 .bf16) (x : Vec Ideal S128x8x4096 .f32) (g bi : Vec Ideal S1x4096 .f32)
    (R : Fin 1024) (J : Fin 4096) : EReal :=
  outEnt h w x g bi ⟨R.val / 8, by omega⟩ ⟨R.val % 8, by omega⟩ J

/-- What a point leaves, entry by entry. -/
theorem outsAt_at (c : Dev nD) (t : Fin cfg0.N) (y : S256x4096.Idx) (R : Fin 1024) (J : Fin 4096) (hR : R.val = t.val * 256 + (y 0 : ℕ)) (hJ : J.val = (y 1 : ℕ)) :
    outsAt0 m c t y = outRow (m (c, main_arg0)) (m (c, main_arg1)) (m (c, main_arg2)) (m (c, main_arg3)) (m (c, main_arg4)) R J := by
  unfold outsAt0
  rw [out_at]
  unfold outBlk outRow outEnt
  have e : (y 1 : Fin 4096) = J := Fin.ext hJ.symm
  rw [e]
  refine (congrArg₂ (layerNorm _ J) (gain_at m c t J) (bias_at m c t J)).trans ?_
  refine congrArg (fun Y => layerNorm Y J _ _) (funext fun k => ?_)
  unfold pre
  refine congrArg₂ (· + ·) (congrArg (_ * ·) (x_at m c t (y 0) k R hR)) (Finset.sum_congr rfl fun l _ => congrArg₂ (· * ·) ?_ (w_at m c t l k))
  exact h_at m c t (y 0) l _ (by show 8192 + (R.val / 8 * 8 + R.val % 8) = _; omega)

/-- The array after the run. -/
theorem arr_out (c : Dev nD) : ((dats m 0 c).arrAt 5 (cfgs 0).N : Vec Ideal S1024x4096 .f32)
    = fun i => outRow (m (c, main_arg0)) (m (c, main_arg1)) (m (c, main_arg2)) (m (c, main_arg3)) (m (c, main_arg4)) (i 0) (i 1) := by
  refine (dats m 0 c).arrAt_eq_of_covers 5
    (fun i : S1024x4096.Idx => (outRow (m (c, main_arg0)) (m (c, main_arg1)) (m (c, main_arg2)) (m (c, main_arg3)) (m (c, main_arg4)) (i 0) (i 1) : EReal))
    (by decide +kernel) (fun t hf y => ?_)
  blk_simp
  rw [after0_5]
  refine outsAt_at m c t _ _ _ ?_ ?_
  · change win0_5.index t 0 * 256 + 1 * (y 0 : ℕ) = _
    rw [idx5 t]
    exact congrArg _ (Nat.one_mul _)
  · change win0_5.index t 1 * 4096 + 1 * (y 1 : ℕ) = _
    rw [idx5 t]
    exact (congrArg₂ (· + ·) (Nat.zero_mul _) (Nat.one_mul _)).trans (Nat.zero_add _)

/-- An entry of the rows put back into their sequences. -/
theorem cast_at (f : Vec Ideal S1024x4096 .f32) (b : Fin 128) (s : Fin 8) (j : Fin 4096) :
    (shapeCast S128x8x4096 f shapeCasts_S1024x4096_S128x8x4096) (ix3 b s j) = f (ix2 ⟨b.val * 8 + s.val, by omega⟩ j) := by
  pointwise

/-- The kernel's result. -/
theorem tail_out (c : Dev nD) : (Pipeline.afterTail₀ cfgs (dats m) 0 (V0 m) [hostOps1] c main_v6 : Vec Ideal S128x8x4096 .f32)
    = fun i => outEnt (m (c, main_arg0)) (m (c, main_arg1)) (m (c, main_arg2)) (m (c, main_arg3)) (m (c, main_arg4)) (i 0) (i 1) (i 2) := by
  unfold Pipeline.afterTail₀
  simp only [hostOps1, List.flatten_cons, List.flatten_nil, List.append_nil]
  after_results_simp
  have h := (Pipeline.withArrays_arr spec0 launch0.win.arr_inj c (V0 m c) (fun w => (dats m 0 c).arrAt w (cfgs 0).N) 5).trans (arr_out m c)
  funext i
  have hi : i = ix3 (i 0 : Fin 128) (i 1 : Fin 8) (i 2 : Fin 4096) := by
    funext a
    match a with
    | ⟨0, _⟩ => rfl
    | ⟨1, _⟩ => rfl
    | ⟨2, _⟩ => rfl
  have h0 : (i 0 : Fin 128).val < 128 := (i 0 : Fin 128).isLt
  have h1 : (i 1 : Fin 8).val < 8 := (i 1 : Fin 8).isLt
  refine (congrArg _ hi).trans ((cast_at _ _ _ _).trans ((congrFun h _).trans ?_))
  refine congrArg₂ (fun b s => outEnt _ _ _ _ _ b s (i 2)) (Fin.ext ?_) (Fin.ext ?_)
  · show ((i 0 : Fin 128).val * 8 + (i 1 : Fin 8).val) / 8 = (i 0 : Fin 128).val
    omega
  · show ((i 0 : Fin 128).val * 8 + (i 1 : Fin 8).val) % 8 = (i 1 : Fin 8).val
    omega

/-- The run of the kernel: its result, and its arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v6) = (fun i => outEnt (m (c, main_arg0)) (m (c, main_arg1)) (m (c, main_arg2)) (m (c, main_arg3)) (m (c, main_arg4)) (i 0) (i 1) (i 2) : Vec Ideal S128x8x4096 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v6 (Pipeline.mem_restRefs_of main_v6 (by decide) (by decide))).trans (tail_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.Kernel5Ideal.Hand

end
-- ==== Proof.DecRef.lean ====
/-
   The sample group's plain output product and layer norm, read at an entry.
-/
module

public import proofs.«01_k».proof.Proof.DecArr
public import proofs.«01_k».proof.Proof.Gen.Reference5Ideal.Run

@[expose] public section

set_option maxRecDepth 16384

noncomputable section

namespace Cert.Reference5Ideal.Hand

open Cert.Reference5Ideal Cert.Reference5Ideal.Gen Cert.Reference5Ideal.Value
open Idealize.ShloMosaic Idealize.ShloMosaic.TcCoe Idealize.SL.Sem
open Cert.Kernel5Ideal.Hand (mean layerNorm pre outEnt)

/-- The rows before the norm. -/
def rows (h : FVec Ideal S9216x4096 .bf16) (w : FVec Ideal S4096x4096 .bf16) (x : FVec Ideal S128x8x4096 .f32) : FVec Ideal S128x8x4096 .f32 :=
  addf (mulf (broadcastInDim S128x8x4096 ![] bcast_S_S128x8x4096 (constant S_ .f32 0x3F9837F0#32)) x)
    (Host.dotGeneral (φ₁ := .f32) (φ₂ := .f32) dot_S128x8x4096_S4096x4096_S128x8x4096_2_0_01_1_n_n none
      (shapeCast _ (extf .f32 (extractStridedSlice S1024x4096 ![8192, 0] h slices_S9216x4096_S1024x4096_8192_0) bitsLt_bf16_f32) shapeCasts_S1024x4096_S128x8x4096)
      (extf .f32 w bitsLt_bf16_f32))

theorem rows_at (h : FVec Ideal S9216x4096 .bf16) (w : FVec Ideal S4096x4096 .bf16) (x : FVec Ideal S128x8x4096 .f32) (b : Fin 128) (s : Fin 8) (k : Fin 4096) :
    rows h w x (ix3 b s k) = pre (x (ix3 b s k)) (fun l => h (ix2 ⟨8192 + (b.val * 8 + s.val), by omega⟩ l)) (fun l => w (ix2 l k)) := by
  unfold pre
  pointwise [rows]

/-- The mean over a row, kept as a column. -/
def means (Y : FVec Ideal S128x8x4096 .f32) : FVec Ideal S128x8x1 .f32 :=
  Host.divf (broadcastInDim S128x8x1 ![0, 1] bcast_S128x8_S128x8x1_0_1 (Host.reduceAdd Y (constant S_ .f32 0x00000000#32) reducesTo_S128x8x4096_S128x8_d2 h_S_))
    (broadcastInDim S128x8x1 ![] bcast_S_S128x8x1 (constant S_ .f32 0x45800000#32))

theorem means_at (Y : FVec Ideal S128x8x4096 .f32) (b : Fin 128) (s : Fin 8) : means Y (ix3 b s 0) = mean (fun k => Y (ix3 b s k)) := by
  unfold mean
  pointwise [means]

/-- A row less its mean. -/
def devs (Y : FVec Ideal S128x8x4096 .f32) : FVec Ideal S128x8x4096 .f32 :=
  subf Y (broadcastInDim S128x8x4096 ![0, 1, 2] bcast_S128x8x1_S128x8x4096_0_1_2 (means Y))

theorem devs_at (Y : FVec Ideal S128x8x4096 .f32) (b : Fin 128) (s : Fin 8) (k : Fin 4096) : devs Y (ix3 b s k) = Y (ix3 b s k) - mean (fun l => Y (ix3 b s l)) := by
  rw [← means_at]
  pointwise [devs]

/-- The plain layer norm. -/
def normed (Y : FVec Ideal S128x8x4096 .f32) (g bi : FVec Ideal S1x4096 .f32) : FVec Ideal S128x8x4096 .f32 :=
  addf (mulf (mulf (devs Y) (broadcastInDim S128x8x4096 ![0, 1, 2] bcast_S128x8x1_S128x8x4096_0_1_2
      (Host.rsqrt (addf (means (mulf (devs Y) (devs Y))) (broadcastInDim S128x8x1 ![] bcast_S_S128x8x1 (constant S_ .f32 0x3727C5AC#32))))))
      (broadcastInDim S128x8x4096 ![0, 1, 2] bcast_S1x1x4096_S128x8x4096_0_1_2 (broadcastInDim S1x1x4096 ![2] bcast_S4096_S1x1x4096_2 (shapeCast _ g shapeCasts_S1x4096_S4096))))
    (broadcastInDim S128x8x4096 ![0, 1, 2] bcast_S1x1x4096_S128x8x4096_0_1_2 (broadcastInDim S1x1x4096 ![2] bcast_S4096_S1x1x4096_2 (shapeCast _ bi shapeCasts_S1x4096_S4096)))

theorem normed_at (Y : FVec Ideal S128x8x4096 .f32) (g bi : FVec Ideal S1x4096 .f32) (b : Fin 128) (s : Fin 8) (j : Fin 4096) :
    normed Y g bi (ix3 b s j) = layerNorm (fun k => Y (ix3 b s k)) j (g (ix2 0 j)) (bi (ix2 0 j)) := by
  unfold layerNorm
  have e : mean (fun k => (Y (ix3 b s k) - mean (fun l => Y (ix3 b s l))) * (Y (ix3 b s k) - mean (fun l => Y (ix3 b s l)))) = means (mulf (devs Y) (devs Y)) (ix3 b s 0) := by
    rw [means_at]
    refine congrArg mean (funext fun k => ?_)
    rw [← devs_at]
    rfl
  rw [e, ← devs_at]
  pointwise [normed]

/-- The run of the plain program, its result named as the kernel's. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = (fun i => outEnt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) (i 2) : Vec Ideal S128x8x4096 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.Reference5Ideal.Value.run (F := Ideal) m ρ)
  obtain ⟨h1, h2⟩ := h c
  refine ⟨h1.trans (funext fun i => ?_), h2⟩
  have hi : i = ix3 (i 0 : Fin 128) (i 1 : Fin 8) (i 2 : Fin 4096) := by
    funext a
    match a with
    | ⟨0, _⟩ => rfl
    | ⟨1, _⟩ => rfl
    | ⟨2, _⟩ => rfl
  have e : res_main_v33 m c = normed (rows (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := rfl
  rw [e]
  refine (congrArg _ hi).trans ((normed_at _ _ _ _ _ _).trans ?_)
  unfold outEnt
  exact congrArg (fun Y => layerNorm Y (i 2) _ _) (funext fun k => rows_at _ _ _ _ _ k)

end Cert.Reference5Ideal.Hand

end
-- ==== Proof.lean ====
/-
   The claims of the prompt's two mixers, from the run of the kernel (Proof/Frame.lean), the run of the reference and the
   equation of their values; and those of the input projection (Proof/ProjFrame.lean), of the merge of the two branches
   (Proof/MergeFrame.lean) and of the output product with its layer norm (Proof/OutArr.lean; for the sample group, Proof/DecArr.lean), in the same way.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Frame
public import proofs.«01_k».proof.Proof.Tail
public import proofs.«01_k».proof.Proof.Equal
public import proofs.«01_k».proof.Proof.Gen.ReferenceIdeal
public import proofs.«01_k».proof.Proof.Gen.ReferenceIdeal.Run
public import proofs.«01_k».proof.Proof.ProjRef
public import proofs.«01_k».proof.Proof.MergeRef
public import proofs.«01_k».proof.Proof.OutRef
public import proofs.«01_k».proof.Proof.DecRef
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite_inputs
public import Idealize.ShloMosaic.Adequacy
public import Idealize.ShloMosaic.Init

@[expose] public section

noncomputable section

namespace Cert.Proof

open Idealize.ShloMosaic Idealize.SL.Sem

/-- The two printed kernels are one text: their bodies are equal, -/
theorem defs_same : Cert.Kernel.defs (F := Bits) = Cert.KernelIdeal.defs (F := Bits) := by sl_kernel_rfl

/-- and so are their programs. -/
theorem main_same : Cert.Kernel.main (F := Bits) = Cert.KernelIdeal.main (F := Bits) := by sl_kernel_rfl

/-- The kernel's frame at the machine's words: the one run, read at its arguments. -/
theorem frame_kernel : Cert.quiescent_Kernel := by
  intro m ρ _
  rw [defs_same, main_same]
  exact Cert.KernelIdeal.Hand.frame_run (F := Bits) m ρ

/-- The same at the ideal instance. -/
theorem frame_kernelIdeal : Cert.quiescent_KernelIdeal := fun m ρ _ => Cert.KernelIdeal.Hand.frame_run m ρ

theorem frame_kernelIdeal_pre : Cert.quiescent_KernelIdeal_pre_finite_inputs := fun m ρ _ => Cert.KernelIdeal.Hand.frame_run m ρ

/-- The reference's frame: host operations only, none of which writes an argument; it declares no semaphore. -/
theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- From one set of real arguments the kernel and the plain program end with the same two results. -/
theorem values_equal : Cert.algebraic_KernelIdeal_ReferenceIdeal_pre_finite_inputs := by
  intro m g m' g' hpre hagree
  refine ⟨_, _, Cert.KernelIdeal.Hand.run_values m g, ?_⟩
  refine (θ_run _ _ _).mono (fun r h c => ?_) (Cert.ReferenceIdeal.Hand.run_values m' g' (fun c => ?_))
  · obtain ⟨a0, a1, a2, a3⟩ := hagree c
    obtain ⟨h1, h2, h3⟩ := h c
    rw [a0, a3] at h1
    rw [a0, a1, a2] at h2
    exact ⟨h1, h2, h3⟩
  · obtain ⟨a0, a1, a2, a3⟩ := hagree c
    rw [a0, a3]
    exact Cert.ReferenceIdeal.Hand.pre_real _ _ _ _ (hpre c)

/-- The two printed projections are one text too. -/
theorem defs_same2 : Cert.Kernel2.defs (F := Bits) = Cert.Kernel2Ideal.defs (F := Bits) := by sl_kernel_rfl

theorem main_same2 : Cert.Kernel2.main (F := Bits) = Cert.Kernel2Ideal.main (F := Bits) := by sl_kernel_rfl

/-- The projection's frame at the machine's words. -/
theorem frame_kernel2 : Cert.quiescent_Kernel2 := by
  intro m ρ _
  rw [defs_same2, main_same2]
  exact Cert.Kernel2Ideal.Hand.frame_run (F := Bits) m ρ

/-- The plain projection's frame. -/
theorem ref_frame2 : Cert.quiescent_Reference2Ideal := fun m ρ _ =>
  (θ_run Cert.Reference2Ideal.defs _ _).mono (fun r h => ⟨fun c => (h c).2.2.2.2, Idealize.ShloMosaic.sem_eq_zero_of_no_sems (by decide) r.2⟩)
    (Cert.Reference2Ideal.Value.run (F := Ideal) m ρ)

/-- From one set of arguments the kernel and the plain projection end with the same columns and the same states. -/
theorem values_equal2 : Cert.algebraic_Kernel2Ideal_Reference2Ideal := by
  intro m g m' g' _ hagree
  refine ⟨_, _, _, _, Cert.Kernel2Ideal.Hand.run_values m g, ?_⟩
  refine (θ_run _ _ _).mono (fun r h c => ?_) (Cert.Reference2Ideal.Hand.run_values m' g')
  obtain ⟨a0, a1, a2, a3, a4, a5⟩ := hagree c
  obtain ⟨h1, hk, hv, hp, h2⟩ := h c
  rw [a0, a2] at h1 hk hv hp
  exact ⟨h1, hk, hv, hp, h2⟩

/-- The two printed merges are one text too. -/
theorem defs_same3 : Cert.Kernel3.defs (F := Bits) = Cert.Kernel3Ideal.defs (F := Bits) := by sl_kernel_rfl

theorem main_same3 : Cert.Kernel3.main (F := Bits) = Cert.Kernel3Ideal.main (F := Bits) := by sl_kernel_rfl

/-- The merge's frame at the machine's words. -/
theorem frame_kernel3 : Cert.quiescent_Kernel3 := by
  intro m ρ _
  rw [defs_same3, main_same3]
  exact Cert.Kernel3Ideal.Hand.frame_run (F := Bits) m ρ

/-- The plain merge's frame. -/
theorem ref_frame3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- From one set of arguments the kernel and the plain merge end with the same result. -/
theorem values_equal3 : Cert.algebraic_Kernel3Ideal_Reference3Ideal := by
  intro m g m' g' _ hagree
  refine ⟨_, Cert.Kernel3Ideal.Hand.run_values m g, ?_⟩
  refine (θ_run _ _ _).mono (fun r h c => ?_) (Cert.Reference3Ideal.Hand.run_values m' g')
  obtain ⟨a0, a1, a2, a3, a4⟩ := hagree c
  obtain ⟨h1, h2⟩ := h c
  rw [a0, a1, a2, a3, a4] at h1
  exact ⟨h1, h2⟩

/-- The two printed output products are one text too. -/
theorem defs_same4 : Cert.Kernel4.defs (F := Bits) = Cert.Kernel4Ideal.defs (F := Bits) := by sl_kernel_rfl

theorem main_same4 : Cert.Kernel4.main (F := Bits) = Cert.Kernel4Ideal.main (F := Bits) := by sl_kernel_rfl

/-- The output product's frame at the machine's words. -/
theorem frame_kernel4 : Cert.quiescent_Kernel4 := by
  intro m ρ _
  rw [defs_same4, main_same4]
  exact Cert.Kernel4Ideal.Gen.frame (F := Bits) m ρ

/-- The plain output product's frame. -/
theorem ref_frame4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- From one set of arguments the kernel and the plain program end with the same layer output. -/
theorem values_equal4 : Cert.algebraic_Kernel4Ideal_Reference4Ideal := by
  intro m g m' g' _ hagree
  refine ⟨_, Cert.Kernel4Ideal.Hand.run_values m g, ?_⟩
  refine (θ_run _ _ _).mono (fun r h c => ?_) (Cert.Reference4Ideal.Hand.run_values m' g')
  obtain ⟨a0, a1, a2, a3, a4⟩ := hagree c
  obtain ⟨h1, h2⟩ := h c
  rw [a0, a1, a2, a3, a4] at h1
  exact ⟨h1, h2⟩

/-- The two printed output products of the sample group are one text too. -/
theorem defs_same5 : Cert.Kernel5.defs (F := Bits) = Cert.Kernel5Ideal.defs (F := Bits) := by sl_kernel_rfl

theorem main_same5 : Cert.Kernel5.main (F := Bits) = Cert.Kernel5Ideal.main (F := Bits) := by sl_kernel_rfl

/-- The sample group's output product: its frame at the machine's words. -/
theorem frame_kernel5 : Cert.quiescent_Kernel5 := by
  intro m ρ _
  rw [defs_same5, main_same5]
  exact Cert.Kernel5Ideal.Gen.frame (F := Bits) m ρ

/-- The plain output product's frame, for the sample group. -/
theorem ref_frame5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- From one set of arguments the kernel and the plain program end with the same layer output of the sample group. -/
theorem values_equal5 : Cert.algebraic_Kernel5Ideal_Reference5Ideal := by
  intro m g m' g' _ hagree
  refine ⟨_, Cert.Kernel5Ideal.Hand.run_values m g, ?_⟩
  refine (θ_run _ _ _).mono (fun r h c => ?_) (Cert.Reference5Ideal.Hand.run_values m' g')
  obtain ⟨a0, a1, a2, a3, a4⟩ := hagree c
  obtain ⟨h1, h2⟩ := h c
  rw [a0, a1, a2, a3, a4] at h1
  exact ⟨h1, h2⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_inputs.Gen.facts,
  frame_kernel, frame_kernelIdeal, frame_kernelIdeal_pre, fun m ρ _ => ref_frame m ρ, fun m ρ _ => ref_frame m ρ,
  frame_kernel2, fun m ρ _ => Cert.Kernel2Ideal.Hand.frame_run m ρ, ref_frame2,
  frame_kernel3, fun m ρ _ => Cert.Kernel3Ideal.Hand.frame_run m ρ, ref_frame3,
  frame_kernel4, fun m ρ _ => Cert.Kernel4Ideal.Gen.frame m ρ, ref_frame4,
  frame_kernel5, fun m ρ _ => Cert.Kernel5Ideal.Gen.frame m ρ, ref_frame5,
  trivial, values_equal, trivial, values_equal2, trivial, values_equal3, trivial, values_equal4, trivial, values_equal5⟩

end Cert.Proof

end
